-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_encoder_finite [hPre_encoder_finite : Cert.Pre_encoder_finite.Facts] (m : (ℓ : Loc Cert.KernelIdeal.nD Cert.KernelIdeal.τ Cert.KernelIdeal.sig) → Buf (Elt Ideal) ℓ) : Prop :=
  ∀ c : Dev Cert.KernelIdeal.nD,
    (Cert.Pre_encoder_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_encoder_finite [hPre_encoder_finite : Cert.Pre_encoder_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_encoder_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ r.2.sem = fun _ => 0)

def quiescent_KernelIdeal_pre_encoder_finite [hKernelIdeal : Cert.KernelIdeal.Facts] [hPre_encoder_finite : Cert.Pre_encoder_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_encoder_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))
      ∧ r.2.sem = fun _ => 0)

def quiescent_ReferenceIdeal_pre_encoder_finite [hReferenceIdeal : Cert.ReferenceIdeal.Facts] [hPre_encoder_finite : Cert.Pre_encoder_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_encoder_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))
      ∧ r.2.sem = fun _ => 0)

def preserves_Kernel_KernelIdeal : Prop :=
  True

def algebraic_KernelIdeal_ReferenceIdeal_pre_encoder_finite [hKernelIdeal : Cert.KernelIdeal.Facts] [hReferenceIdeal : Cert.ReferenceIdeal.Facts] [hPre_encoder_finite : Cert.Pre_encoder_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_encoder_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v28)) (v1 : (c : Dev Cert.KernelIdeal.nD) → Buf (Elt Ideal) ((c.tc : Thread Cert.KernelIdeal.nD Cert.KernelIdeal.τ).loc Cert.KernelIdeal.main_v31)) (v2 : (c : Dev Cert.KernelIdeal.nD) → Buf (Elt Ideal) ((c.tc : Thread Cert.KernelIdeal.nD Cert.KernelIdeal.τ).loc Cert.KernelIdeal.main_v30)) (v3 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_v31) = v1 c
          ∧ r.2.mem ((c.tc : Thread Cert.KernelIdeal.nD Cert.KernelIdeal.τ).loc Cert.KernelIdeal.main_v30) = v2 c
          ∧ r.2.mem ((c.tc : Thread Cert.KernelIdeal.nD Cert.KernelIdeal.τ).loc Cert.KernelIdeal.main_v32) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v349) = v0 c
          ∧ r.2.mem ((c.tc : Thread Cert.ReferenceIdeal.nD Cert.ReferenceIdeal.τ).loc Cert.ReferenceIdeal.main_v195) = v1 c
          ∧ r.2.mem ((c.tc : Thread Cert.ReferenceIdeal.nD Cert.ReferenceIdeal.τ).loc Cert.ReferenceIdeal.main_v350) = v2 c
          ∧ r.2.mem ((c.tc : Thread Cert.ReferenceIdeal.nD Cert.ReferenceIdeal.τ).loc Cert.ReferenceIdeal.main_v208) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_encoder_finite : Cert.Pre_encoder_finite.Facts),
    quiescent_Kernel (hKernel := hKernel)
    ∧ quiescent_KernelIdeal (hKernelIdeal := hKernelIdeal)
    ∧ quiescent_KernelIdeal_pre_encoder_finite (hKernelIdeal := hKernelIdeal) (hPre_encoder_finite := hPre_encoder_finite)
    ∧ quiescent_ReferenceIdeal (hReferenceIdeal := hReferenceIdeal)
    ∧ quiescent_ReferenceIdeal_pre_encoder_finite (hReferenceIdeal := hReferenceIdeal) (hPre_encoder_finite := hPre_encoder_finite)
    ∧ preserves_Kernel_KernelIdeal
    ∧ algebraic_KernelIdeal_ReferenceIdeal_pre_encoder_finite (hKernelIdeal := hKernelIdeal) (hReferenceIdeal := hReferenceIdeal) (hPre_encoder_finite := hPre_encoder_finite)
-- ==== Pre_encoder_finite.lean ====
abbrev S32x1x4096 : Shape := ⟨3, ![32, 1, 4096]⟩
abbrev S128x1x4 : Shape := ⟨3, ![128, 1, 4]⟩
abbrev S128 : Shape := ⟨1, ![128]⟩
abbrev S256x128x4 : Shape := ⟨3, ![256, 128, 4]⟩
abbrev S256 : Shape := ⟨1, ![256]⟩
abbrev S256x256x3 : Shape := ⟨3, ![256, 256, 3]⟩
abbrev S64x256x3 : Shape := ⟨3, ![64, 256, 3]⟩
abbrev S256x64x1 : Shape := ⟨3, ![256, 64, 1]⟩
abbrev S64x256x1 : Shape := ⟨3, ![64, 256, 1]⟩
abbrev S64 : Shape := ⟨1, ![64]⟩
abbrev S1024x64 : Shape := ⟨2, ![1024, 64]⟩
abbrev S256x64x3 : Shape := ⟨3, ![256, 64, 3]⟩
abbrev S1 : Shape := ⟨1, ![1]⟩
abbrev S_ : Shape := ⟨0, ![]⟩

class Facts : Prop where
  bcast_S_S32x1x4096 : S_.BroadcastsInDim S32x1x4096 (![] : Fin 0 → Fin S32x1x4096.rank)
  reducesTo_S32x1x4096_S_d0_1_2 : S32x1x4096.ReducesTo [0, 1, 2] S_
  h_S_ : 0 < S_.numel
  bcast_S_S128x1x4 : S_.BroadcastsInDim S128x1x4 (![] : Fin 0 → Fin S128x1x4.rank)
  reducesTo_S128x1x4_S_d0_1_2 : S128x1x4.ReducesTo [0, 1, 2] S_
  bcast_S_S128 : S_.BroadcastsInDim S128 (![] : Fin 0 → Fin S128.rank)
  reducesTo_S128_S_d0 : S128.ReducesTo [0] S_
  bcast_S_S256x128x4 : S_.BroadcastsInDim S256x128x4 (![] : Fin 0 → Fin S256x128x4.rank)
  reducesTo_S256x128x4_S_d0_1_2 : S256x128x4.ReducesTo [0, 1, 2] S_
  bcast_S_S256 : S_.BroadcastsInDim S256 (![] : Fin 0 → Fin S256.rank)
  reducesTo_S256_S_d0 : S256.ReducesTo [0] S_
  bcast_S_S256x256x3 : S_.BroadcastsInDim S256x256x3 (![] : Fin 0 → Fin S256x256x3.rank)
  reducesTo_S256x256x3_S_d0_1_2 : S256x256x3.ReducesTo [0, 1, 2] S_
  bcast_S_S64x256x3 : S_.BroadcastsInDim S64x256x3 (![] : Fin 0 → Fin S64x256x3.rank)
  reducesTo_S64x256x3_S_d0_1_2 : S64x256x3.ReducesTo [0, 1, 2] S_
  bcast_S_S256x64x1 : S_.BroadcastsInDim S256x64x1 (![] : Fin 0 → Fin S256x64x1.rank)
  reducesTo_S256x64x1_S_d0_1_2 : S256x64x1.ReducesTo [0, 1, 2] S_
  bcast_S_S64x256x1 : S_.BroadcastsInDim S64x256x1 (![] : Fin 0 → Fin S64x256x1.rank)
  reducesTo_S64x256x1_S_d0_1_2 : S64x256x1.ReducesTo [0, 1, 2] S_
  bcast_S_S64 : S_.BroadcastsInDim S64 (![] : Fin 0 → Fin S64.rank)
  reducesTo_S64_S_d0 : S64.ReducesTo [0] S_

variable [Facts]

def fn_part3 {F : FTy → Type} [FloatOps F] (main_arg11 : FVec F S64x256x1 .f32) (main_arg12 : FVec F S64 .f32) (main_v48 : IVec S_ 1) (main_v49 : FVec F S256x64x1 .f32) (main_v50 : FVec F S256x64x1 .f32) : IVec S_ 1 :=
  let main_v51 : IVec S256x64x1 1 := cmpf .olt main_v49 main_v50
  let main_c_19 : IVec S_ 1 := constantI S_ 1 1#1
  let main_v52 : IVec S_ 1 := (fun x v => Host.reduce IntOp.andi x v reducesTo_S256x64x1_S_d0_1_2 h_S_) main_v51 main_c_19
  let main_v53 : IVec S_ 1 := andi main_v48 main_v52
  let main_v54 : FVec F S64x256x1 .f32 := Host.absf main_arg11
  let main_cst_20 : FVec F S_ .f32 := constant S_ .f32 0x7F800000#32
  let main_v55 : FVec F S64x256x1 .f32 := broadcastInDim S64x256x1 ![] bcast_S_S64x256x1 main_cst_20
  let main_v56 : IVec S64x256x1 1 := cmpf .olt main_v54 main_v55
  let main_c_21 : IVec S_ 1 := constantI S_ 1 1#1
  let main_v57 : IVec S_ 1 := (fun x v => Host.reduce IntOp.andi x v reducesTo_S64x256x1_S_d0_1_2 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  main_v63

def fn_part2 {F : FTy → Type} [FloatOps F] (main_arg7 : FVec F S64x256x3 .f32) (main_arg8 : FVec F S256x64x1 .f32) (main_arg9 : FVec F S64x256x3 .f32) (main_arg10 : FVec F S256x64x1 .f32) (main_arg11 : FVec F S64x256x1 .f32) (main_arg12 : FVec F S64 .f32) (main_v33 : IVec S_ 1) : IVec S_ 1 :=
  let main_v34 : FVec F S64x256x3 .f32 := Host.absf main_arg7
  let main_cst_12 : FVec F S_ .f32 := constant S_ .f32 0x7F800000#32
  let main_v35 : FVec F S64x256x3 .f32 := broadcastInDim S64x256x3 ![] bcast_S_S64x256x3 main_cst_12
  let main_v36 : IVec S64x256x3 1 := cmpf .olt main_v34 main_v35
  let main_c_13 : IVec S_ 1 := constantI S_ 1 1#1
  let main_v37 : IVec S_ 1 := (fun x v => Host.reduce IntOp.andi x v reducesTo_S64x256x3_S_d0_1_2 h_S_) main_v36 main_c_13
  let main_v38 : IVec S_ 1 := andi main_v33 main_v37
  let main_v39 : FVec F S256x64x1 .f32 := Host.absf main_arg8
  let main_cst_14 : FVec F S_ .f32 := constant S_ .f32 0x7F800000#32
  let main_v40 : FVec F S256x64x1 .f32 := broadcastInDim S256x64x1 ![] bcast_S_S256x64x1 main_cst_14
  let main_v41 : IVec S256x64x1 1 := cmpf .olt main_v39 main_v40
  let main_c_15 : IVec S_ 1 := constantI S_ 1 1#1
  let main_v42 : IVec S_ 1 := (fun x v => Host.reduce IntOp.andi x v reducesTo_S256x64x1_S_d0_1_2 h_S_) main_v41 main_c_15
  let main_v43 : IVec S_ 1 := andi main_v38 main_v42
  let main_v44 : FVec F S64x256x3 .f32 := Host.absf main_arg9
  let main_cst_16 : FVec F S_ .f32 := constant S_ .f32 0x7F800000#32
  let main_v45 : FVec F S64x256x3 .f32 := broadcastInDim S64x256x3 ![] bcast_S_S64x256x3 main_cst_16
  let main_v46 : IVec S64x256x3 1 := cmpf .olt main_v44 main_v45
  let main_c_17 : IVec S_ 1 := constantI S_ 1 1#1
  let main_v47 : IVec S_ 1 := (fun x v => Host.reduce IntOp.andi x v reducesTo_S64x256x3_S_d0_1_2 h_S_) main_v46 main_c_17
  let main_v48 : IVec S_ 1 := andi main_v43 main_v47
  let main_v49 : FVec F S256x64x1 .f32 := Host.absf main_arg10
  let main_cst_18 : FVec F S_ .f32 := constant S_ .f32 0x7F800000#32
  let main_v50 : FVec F S256x64x1 .f32 := broadcastInDim S256x64x1 ![] bcast_S_S256x64x1 main_cst_18
  fn_part3 (F := F) main_arg11 main_arg12 main_v48 main_v49 main_v50

def fn_part1 {F : FTy → Type} [FloatOps F] (main_arg4 : FVec F S256 .f32) (main_arg5 : FVec F S256x256x3 .f32) (main_arg6 : FVec F S256 .f32) (main_arg7 : FVec F S64x256x3 .f32) (main_arg8 : FVec F S256x64x1 .f32) (main_arg9 : FVec F S64x256x3 .f32) (main_arg10 : FVec F S256x64x1 .f32) (main_arg11 : FVec F S64x256x1 .f32) (main_arg12 : FVec F S64 .f32) (main_v13 : IVec S_ 1) (main_v16 : IVec S256x128x4 1) : IVec S_ 1 :=
  let main_c_5 : IVec S_ 1 := constantI S_ 1 1#1
  let main_v17 : IVec S_ 1 := (fun x v => Host.reduce IntOp.andi x v reducesTo_S256x128x4_S_d0_1_2 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256x3 .f32 := Host.absf main_arg5
  let main_cst_8 : FVec F S_ .f32 := constant S_ .f32 0x7F800000#32
  let main_v25 : FVec F S256x256x3 .f32 := broadcastInDim S256x256x3 ![] bcast_S_S256x256x3 main_cst_8
  let main_v26 : IVec S256x256x3 1 := cmpf .olt main_v24 main_v25
  let main_c_9 : IVec S_ 1 := constantI S_ 1 1#1
  let main_v27 : IVec S_ 1 := (fun x v => Host.reduce IntOp.andi x v reducesTo_S256x256x3_S_d0_1_2 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S32x1x4096 .f32) (main_arg1 : FVec F S128x1x4 .f32) (main_arg2 : FVec F S128 .f32) (main_arg3 : FVec F S256x128x4 .f32) (main_arg4 : FVec F S256 .f32) (main_arg5 : FVec F S256x256x3 .f32) (main_arg6 : FVec F S256 .f32) (main_arg7 : FVec F S64x256x3 .f32) (main_arg8 : FVec F S256x64x1 .f32) (main_arg9 : FVec F S64x256x3 .f32) (main_arg10 : FVec F S256x64x1 .f32) (main_arg11 : FVec F S64x256x1 .f32) (main_arg12 : FVec F S64 .f32) (main_arg13 : FVec F S1024x64 .f32) (main_arg14 : FVec F S256x64x3 .f32) (main_arg15 : FVec F S256 .f32) (main_arg16 : FVec F S64x256x3 .f32) (main_arg17 : FVec F S256x64x1 .f32) (main_arg18 : FVec F S64x256x3 .f32) (main_arg19 : FVec F S256x64x1 .f32) (main_arg20 : FVec F S256x128x4 .f32) (main_arg21 : FVec F S128 .f32) (main_arg22 : FVec F S128x1x4 .f32) (main_arg23 : FVec F S1 .f32) : IVec S_ 1 :=
  let main_v0 : FVec F S32x1x4096 .f32 := Host.absf main_arg0
  let main_cst : FVec F S_ .f32 := constant S_ .f32 0x7F800000#32
  let main_v1 : FVec F S32x1x4096 .f32 := broadcastInDim S32x1x4096 ![] bcast_S_S32x1x4096 main_cst
  let main_v2 : IVec S32x1x4096 1 := cmpf .olt main_v0 main_v1
  let main_c : IVec S_ 1 := constantI S_ 1 1#1
  let main_v3 : IVec S_ 1 := (fun x v => Host.reduce IntOp.andi x v reducesTo_S32x1x4096_S_d0_1_2 h_S_) main_v2 main_c
  let main_v4 : FVec F S128x1x4 .f32 := Host.absf main_arg1
  let main_cst_0 : FVec F S_ .f32 := constant S_ .f32 0x7F800000#32
  let main_v5 : FVec F S128x1x4 .f32 := broadcastInDim S128x1x4 ![] bcast_S_S128x1x4 main_cst_0
  let main_v6 : IVec S128x1x4 1 := cmpf .olt main_v4 main_v5
  let main_c_1 : IVec S_ 1 := constantI S_ 1 1#1
  let main_v7 : IVec S_ 1 := (fun x v => Host.reduce IntOp.andi x v reducesTo_S128x1x4_S_d0_1_2 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S256x128x4 .f32 := Host.absf main_arg3
  let main_cst_4 : FVec F S_ .f32 := constant S_ .f32 0x7F800000#32
  let main_v15 : FVec F S256x128x4 .f32 := broadcastInDim S256x128x4 ![] bcast_S_S256x128x4 main_cst_4
  let main_v16 : IVec S256x128x4 1 := cmpf .olt main_v14 main_v15
  fn_part1 (F := F) main_arg4 main_arg5 main_arg6 main_arg7 main_arg8 main_arg9 main_arg10 main_arg11 main_arg12 main_v13 main_v16
-- ==== Kernel.lean ====
abbrev S32x1x4096 : Shape := ⟨3, ![32, 1, 4096]⟩
abbrev S128x1x4 : Shape := ⟨3, ![128, 1, 4]⟩
abbrev S128 : Shape := ⟨1, ![128]⟩
abbrev S256x128x4 : Shape := ⟨3, ![256, 128, 4]⟩
abbrev S256 : Shape := ⟨1, ![256]⟩
abbrev S256x256x3 : Shape := ⟨3, ![256, 256, 3]⟩
abbrev S64x256x3 : Shape := ⟨3, ![64, 256, 3]⟩
abbrev S256x64x1 : Shape := ⟨3, ![256, 64, 1]⟩
abbrev S64x256x1 : Shape := ⟨3, ![64, 256, 1]⟩
abbrev S64 : Shape := ⟨1, ![64]⟩
abbrev S1024x64 : Shape := ⟨2, ![1024, 64]⟩
abbrev S256x64x3 : Shape := ⟨3, ![256, 64, 3]⟩
abbrev S1 : Shape := ⟨1, ![1]⟩
abbrev S32x1024x4 : Shape := ⟨3, ![32, 1024, 4]⟩
abbrev S32x4x1024 : Shape := ⟨3, ![32, 4, 1024]⟩
abbrev S128x4 : Shape := ⟨2, ![128, 4]⟩
abbrev S4x256x128 : Shape := ⟨3, ![4, 256, 128]⟩
abbrev S3x256x256 : Shape := ⟨3, ![3, 256, 256]⟩
abbrev S3x64x256 : Shape := ⟨3, ![3, 64, 256]⟩
abbrev S256x64 : Shape := ⟨2, ![256, 64]⟩
abbrev S64x256 : Shape := ⟨2, ![64, 256]⟩
abbrev S3x256x64 : Shape := ⟨3, ![3, 256, 64]⟩
abbrev S4x128x256 : Shape := ⟨3, ![4, 128, 256]⟩
abbrev S4x128 : Shape := ⟨2, ![4, 128]⟩
abbrev S128x1 : Shape := ⟨2, ![128, 1]⟩
abbrev S256x1 : Shape := ⟨2, ![256, 1]⟩
abbrev S64x1 : Shape := ⟨2, ![64, 1]⟩
abbrev S1x1 : Shape := ⟨2, ![1, 1]⟩
abbrev S8x1x4096 : Shape := ⟨3, ![8, 1, 4096]⟩
abbrev S8x1024x1 : Shape := ⟨3, ![8, 1024, 1]⟩
abbrev S8x1x128 : Shape := ⟨3, ![8, 1, 128]⟩
abbrev S4x4x1024 : Shape := ⟨3, ![4, 4, 1024]⟩
abbrev S1x1x4096 : Shape := ⟨3, ![1, 1, 4096]⟩
abbrev S1x1024x1 : Shape := ⟨3, ![1, 1024, 1]⟩
abbrev S1x1x128 : Shape := ⟨3, ![1, 1, 128]⟩
abbrev S1x4x1024 : Shape := ⟨3, ![1, 4, 1024]⟩
abbrev S4x1024 : Shape := ⟨2, ![4, 1024]⟩
abbrev S1x1x1 : Shape := ⟨3, ![1, 1, 1]⟩
abbrev S4x4096 : Shape := ⟨2, ![4, 4096]⟩
abbrev S1x4096 : Shape := ⟨2, ![1, 4096]⟩
abbrev S1x1023 : Shape := ⟨2, ![1, 1023]⟩
abbrev S3x4096 : Shape := ⟨2, ![3, 4096]⟩
abbrev S128x4096 : Shape := ⟨2, ![128, 4096]⟩
abbrev S1x256x128 : Shape := ⟨3, ![1, 256, 128]⟩
abbrev S256x128 : Shape := ⟨2, ![256, 128]⟩
abbrev S128x1023 : Shape := ⟨2, ![128, 1023]⟩
abbrev S256x4096 : Shape := ⟨2, ![256, 4096]⟩
abbrev S1x256x256 : Shape := ⟨3, ![1, 256, 256]⟩
abbrev S256x256 : Shape := ⟨2, ![256, 256]⟩
abbrev S256x1023 : Shape := ⟨2, ![256, 1023]⟩
abbrev S1x64x256 : Shape := ⟨3, ![1, 64, 256]⟩
abbrev S64x4096 : Shape := ⟨2, ![64, 4096]⟩
abbrev S64x1023 : Shape := ⟨2, ![64, 1023]⟩
abbrev S1024 : Shape := ⟨1, ![1024]⟩
abbrev S1024x1 : Shape := ⟨2, ![1024, 1]⟩
abbrev S4096 : Shape := ⟨1, ![4096]⟩
abbrev S1024x4096 : Shape := ⟨2, ![1024, 4096]⟩
abbrev S1x64x4096 : Shape := ⟨3, ![1, 64, 4096]⟩
abbrev S1x256x64 : Shape := ⟨3, ![1, 256, 64]⟩
abbrev S1x128x256 : Shape := ⟨3, ![1, 128, 256]⟩
abbrev S128x256 : Shape := ⟨2, ![128, 256]⟩
abbrev S8x1x1 : Shape := ⟨3, ![8, 1, 1]⟩
abbrev S8x1 : Shape := ⟨2, ![8, 1]⟩
abbrev S1x8x1 : Shape := ⟨3, ![1, 8, 1]⟩
abbrev S8x4x1024 : Shape := ⟨3, ![8, 4, 1024]⟩
abbrev S32x1024 : Shape := ⟨2, ![32, 1024]⟩
abbrev S_ : Shape := ⟨0, ![]⟩

abbrev nBuf : Space → Nat
  | .hbm => 61
  | .vmem => 37
  | .smem => 0
  | _ => 0

abbrev bufTy : (tb : Table) → Fin (tcTables nBuf tb) → BufTy
  | .hbm, ⟨0, _⟩ => ⟨S32x1x4096, .f32⟩
  | .hbm, ⟨1, _⟩ => ⟨S128x1x4, .f32⟩
  | .hbm, ⟨2, _⟩ => ⟨S128, .f32⟩
  | .hbm, ⟨3, _⟩ => ⟨S256x128x4, .f32⟩
  | .hbm, ⟨4, _⟩ => ⟨S256, .f32⟩
  | .hbm, ⟨5, _⟩ => ⟨S256x256x3, .f32⟩
  | .hbm, ⟨6, _⟩ => ⟨S256, .f32⟩
  | .hbm, ⟨7, _⟩ => ⟨S64x256x3, .f32⟩
  | .hbm, ⟨8, _⟩ => ⟨S256x64x1, .f32⟩
  | .hbm, ⟨9, _⟩ => ⟨S64x256x3, .f32⟩
  | .hbm, ⟨10, _⟩ => ⟨S256x64x1, .f32⟩
  | .hbm, ⟨11, _⟩ => ⟨S64x256x1, .f32⟩
  | .hbm, ⟨12, _⟩ => ⟨S64, .f32⟩
  | .hbm, ⟨13, _⟩ => ⟨S1024x64, .f32⟩
  | .hbm, ⟨14, _⟩ => ⟨S256x64x3, .f32⟩
  | .hbm, ⟨15, _⟩ => ⟨S256, .f32⟩
  | .hbm, ⟨16, _⟩ => ⟨S64x256x3, .f32⟩
  | .hbm, ⟨17, _⟩ => ⟨S256x64x1, .f32⟩
  | .hbm, ⟨18, _⟩ => ⟨S64x256x3, .f32⟩
  | .hbm, ⟨19, _⟩ => ⟨S256x64x1, .f32⟩
  | .hbm, ⟨20, _⟩ => ⟨S256x128x4, .f32⟩
  | .hbm, ⟨21, _⟩ => ⟨S128, .f32⟩
  | .hbm, ⟨22, _⟩ => ⟨S128x1x4, .f32⟩
  | .hbm, ⟨23, _⟩ => ⟨S1, .f32⟩
  | .hbm, ⟨24, _⟩ => ⟨S32x1024x4, .f32⟩
  | .hbm, ⟨25, _⟩ => ⟨S32x4x1024, .f32⟩
  | .hbm, ⟨26, _⟩ => ⟨S128x4, .f32⟩
  | .hbm, ⟨27, _⟩ => ⟨S4x256x128, .f32⟩
  | .hbm, ⟨28, _⟩ => ⟨S3x256x256, .f32⟩
  | .hbm, ⟨29, _⟩ => ⟨S3x64x256, .f32⟩
  | .hbm, ⟨30, _⟩ => ⟨S3x64x256, .f32⟩
  | .hbm, ⟨31, _⟩ => ⟨S256x64, .f32⟩
  | .hbm, ⟨32, _⟩ => ⟨S256x64, .f32⟩
  | .hbm, ⟨33, _⟩ => ⟨S64x256, .f32⟩
  | .hbm, ⟨34, _⟩ => ⟨S3x256x64, .f32⟩
  | .hbm, ⟨35, _⟩ => ⟨S3x64x256, .f32⟩
  | .hbm, ⟨36, _⟩ => ⟨S3x64x256, .f32⟩
  | .hbm, ⟨37, _⟩ => ⟨S256x64, .f32⟩
  | .hbm, ⟨38, _⟩ => ⟨S256x64, .f32⟩
  | .hbm, ⟨39, _⟩ => ⟨S4x128x256, .f32⟩
  | .hbm, ⟨40, _⟩ => ⟨S128x4, .f32⟩
  | .hbm, ⟨41, _⟩ => ⟨S4x128, .f32⟩
  | .hbm, ⟨42, _⟩ => ⟨S128x1, .f32⟩
  | .hbm, ⟨43, _⟩ => ⟨S256x1, .f32⟩
  | .hbm, ⟨44, _⟩ => ⟨S256x1, .f32⟩
  | .hbm, ⟨45, _⟩ => ⟨S64x1, .f32⟩
  | .hbm, ⟨46, _⟩ => ⟨S256x1, .f32⟩
  | .hbm, ⟨47, _⟩ => ⟨S128x1, .f32⟩
  | .hbm, ⟨48, _⟩ => ⟨S1x1, .f32⟩
  | .hbm, ⟨49, _⟩ => ⟨S32x4x1024, .f32⟩
  | .hbm, ⟨50, _⟩ => ⟨S8x1x4096, .i32⟩
  | .hbm, ⟨51, _⟩ => ⟨S8x1024x1, .f32⟩
  | .hbm, ⟨52, _⟩ => ⟨S8x1x128, .f32⟩
  | .hbm, ⟨53, _⟩ => ⟨S1x1, .f32⟩
  | .hbm, ⟨54, _⟩ => ⟨S1x1, .f32⟩
  | .hbm, ⟨55, _⟩ => ⟨S32x1024x4, .f32⟩
  | .hbm, ⟨56, _⟩ => ⟨S32x1x4096, .f32⟩
  | .hbm, ⟨57, _⟩ => ⟨S8x4x1024, .i32⟩
  | .hbm, ⟨58, _⟩ => ⟨S32x1024, .i32⟩
  | .hbm, ⟨59, _⟩ => ⟨S_, .f32⟩
  | .hbm, ⟨60, _⟩ => ⟨S_, .f32⟩
  | .local _ .vmem, ⟨0, _⟩ => ⟨S4x4x1024, .f32⟩
  | .local _ .vmem, ⟨1, _⟩ => ⟨S4x4x1024, .f32⟩
  | .local _ .vmem, ⟨2, _⟩ => ⟨S128x4, .f32⟩
  | .local _ .vmem, ⟨3, _⟩ => ⟨S128x1, .f32⟩
  | .local _ .vmem, ⟨4, _⟩ => ⟨S4x256x128, .f32⟩
  | .local _ .vmem, ⟨5, _⟩ => ⟨S256x1, .f32⟩
  | .local _ .vmem, ⟨6, _⟩ => ⟨S3x256x256, .f32⟩
  | .local _ .vmem, ⟨7, _⟩ => ⟨S256x1, .f32⟩
  | .local _ .vmem, ⟨8, _⟩ => ⟨S3x64x256, .f32⟩
  | .local _ .vmem, ⟨9, _⟩ => ⟨S256x64, .f32⟩
  | .local _ .vmem, ⟨10, _⟩ => ⟨S3x64x256, .f32⟩
  | .local _ .vmem, ⟨11, _⟩ => ⟨S256x64, .f32⟩
  | .local _ .vmem, ⟨12, _⟩ => ⟨S64x256, .f32⟩
  | .local _ .vmem, ⟨13, _⟩ => ⟨S64x1, .f32⟩
  | .local _ .vmem, ⟨14, _⟩ => ⟨S1024x64, .f32⟩
  | .local _ .vmem, ⟨15, _⟩ => ⟨S3x256x64, .f32⟩
  | .local _ .vmem, ⟨16, _⟩ => ⟨S256x1, .f32⟩
  | .local _ .vmem, ⟨17, _⟩ => ⟨S3x64x256, .f32⟩
  | .local _ .vmem, ⟨18, _⟩ => ⟨S256x64, .f32⟩
  | .local _ .vmem, ⟨19, _⟩ => ⟨S3x64x256, .f32⟩
  | .local _ .vmem, ⟨20, _⟩ => ⟨S256x64, .f32⟩
  | .local _ .vmem, ⟨21, _⟩ => ⟨S4x128x256, .f32⟩
  | .local _ .vmem, ⟨22, _⟩ => ⟨S128x1, .f32⟩
  | .local _ .vmem, ⟨23, _⟩ => ⟨S4x128, .f32⟩
  | .local _ .vmem, ⟨24, _⟩ => ⟨S1x1, .f32⟩
  | .local _ .vmem, ⟨25, _⟩ => ⟨S4x4x1024, .f32⟩
  | .local _ .vmem, ⟨26, _⟩ => ⟨S4x4x1024, .f32⟩
  | .local _ .vmem, ⟨27, _⟩ => ⟨S1x1x4096, .i32⟩
  | .local _ .vmem, ⟨28, _⟩ => ⟨S1x1x4096, .i32⟩
  | .local _ .vmem, ⟨29, _⟩ => ⟨S1x1024x1, .f32⟩
  | .local _ .vmem, ⟨30, _⟩ => ⟨S1x1024x1, .f32⟩
  | .local _ .vmem, ⟨31, _⟩ => ⟨S1x1x128, .f32⟩
  | .local _ .vmem, ⟨32, _⟩ => ⟨S1x1x128, .f32⟩
  | .local _ .vmem, ⟨33, _⟩ => ⟨S8x1024x1, .f32⟩
  | .local _ .vmem, ⟨34, _⟩ => ⟨S8x1x128, .f32⟩
  | .local _ .vmem, ⟨35, _⟩ => ⟨S1x1, .f32⟩
  | .local _ .vmem, ⟨36, _⟩ => ⟨S1x1, .f32⟩
  | _, _ => ⟨S32x1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25_0 : Ref sig .tc := ⟨.hbm, 49, rfl⟩
abbrev main_v25_1 : Ref sig .tc := ⟨.hbm, 50, rfl⟩
abbrev main_v25_2 : Ref sig .tc := ⟨.hbm, 51, rfl⟩
abbrev main_v25_3 : Ref sig .tc := ⟨.hbm, 52, rfl⟩
abbrev main_v26_0 : Ref sig .tc := ⟨.hbm, 53, rfl⟩
abbrev main_v26_1 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg24_0 : Ref sig .tc := ⟨.vmem, 25, rfl⟩
abbrev cc0_stg24_1 : Ref sig .tc := ⟨.vmem, 26, rfl⟩
abbrev cc0_stg25_0 : Ref sig .tc := ⟨.vmem, 27, rfl⟩
abbrev cc0_stg25_1 : Ref sig .tc := ⟨.vmem, 28, rfl⟩
abbrev cc0_stg26_0 : Ref sig .tc := ⟨.vmem, 29, rfl⟩
abbrev cc0_stg26_1 : Ref sig .tc := ⟨.vmem, 30, rfl⟩
abbrev cc0_stg27_0 : Ref sig .tc := ⟨.vmem, 31, rfl⟩
abbrev cc0_stg27_1 : Ref sig .tc := ⟨.vmem, 32, rfl⟩
abbrev cc1_stg0_0 : Ref sig .tc := ⟨.vmem, 33, rfl⟩
abbrev cc1_stg1_0 : Ref sig .tc := ⟨.vmem, 34, rfl⟩
abbrev cc1_stg2_0 : Ref sig .tc := ⟨.vmem, 35, rfl⟩
abbrev cc1_stg3_0 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem24_0 : DmaSem sig := 25
abbrev cc0_sem24_1 : DmaSem sig := 26
abbrev cc0_sem25_0 : DmaSem sig := 27
abbrev cc0_sem25_1 : DmaSem sig := 28
abbrev cc0_sem26_0 : DmaSem sig := 29
abbrev cc0_sem26_1 : DmaSem sig := 30
abbrev cc0_sem27_0 : DmaSem sig := 31
abbrev cc0_sem27_1 : DmaSem sig := 32
abbrev cc1_sem0_0 : DmaSem sig := 33
abbrev cc1_sem1_0 : DmaSem sig := 34
abbrev cc1_sem2_0 : DmaSem sig := 35
abbrev cc1_sem3_0 : DmaSem sig := 36

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_25 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_26 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_27 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x4x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x64x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x64x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S3x256x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S3x64x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S3x64x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S256x64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S4x128x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S128x1 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S4x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x1 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 2 → Memref sig .tc .vmem S4x4x1024 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S1x1x4096 .i32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S1x1024x1 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S1x1x128 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev grid1 : Pipeline.Grid := .none

abbrev stage1_0 : Fin 1 → Memref sig .tc .vmem S8x1024x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S8x1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
-- ==== ReferenceIdeal.lean ====
abbrev S32x1x4096 : Shape := ⟨3, ![32, 1, 4096]⟩
abbrev S128x1x4 : Shape := ⟨3, ![128, 1, 4]⟩
abbrev S128 : Shape := ⟨1, ![128]⟩
abbrev S256x128x4 : Shape := ⟨3, ![256, 128, 4]⟩
abbrev S256 : Shape := ⟨1, ![256]⟩
abbrev S256x256x3 : Shape := ⟨3, ![256, 256, 3]⟩
abbrev S64x256x3 : Shape := ⟨3, ![64, 256, 3]⟩
abbrev S256x64x1 : Shape := ⟨3, ![256, 64, 1]⟩
abbrev S64x256x1 : Shape := ⟨3, ![64, 256, 1]⟩
abbrev S64 : Shape := ⟨1, ![64]⟩
abbrev S1024x64 : Shape := ⟨2, ![1024, 64]⟩
abbrev S256x64x3 : Shape := ⟨3, ![256, 64, 3]⟩
abbrev S1 : Shape := ⟨1, ![1]⟩
abbrev S_ : Shape := ⟨0, ![]⟩
abbrev S32x1 : Shape := ⟨2, ![32, 1]⟩
abbrev S32x1x1 : Shape := ⟨3, ![32, 1, 1]⟩
abbrev S32x1x4098 : Shape := ⟨3, ![32, 1, 4098]⟩
abbrev S32x1x2048 : Shape := ⟨3, ![32, 1, 2048]⟩
abbrev S128x1x1 : Shape := ⟨3, ![128, 1, 1]⟩
abbrev S128x1 : Shape := ⟨2, ![128, 1]⟩
abbrev S32x2048x128 : Shape := ⟨3, ![32, 2048, 128]⟩
abbrev S32x128x2048 : Shape := ⟨3, ![32, 128, 2048]⟩
abbrev S1x128x1 : Shape := ⟨3, ![1, 128, 1]⟩
abbrev S32x128x2050 : Shape := ⟨3, ![32, 128, 2050]⟩
abbrev S32x128x1024 : Shape := ⟨3, ![32, 128, 1024]⟩
abbrev S256x128x1 : Shape := ⟨3, ![256, 128, 1]⟩
abbrev S256x128 : Shape := ⟨2, ![256, 128]⟩
abbrev S32x1024x256 : Shape := ⟨3, ![32, 1024, 256]⟩
abbrev S32x256x1024 : Shape := ⟨3, ![32, 256, 1024]⟩
abbrev S1x256x1 : Shape := ⟨3, ![1, 256, 1]⟩
abbrev S32x256x1026 : Shape := ⟨3, ![32, 256, 1026]⟩
abbrev S256x256x1 : Shape := ⟨3, ![256, 256, 1]⟩
abbrev S256x256 : Shape := ⟨2, ![256, 256]⟩
abbrev S64x256 : Shape := ⟨2, ![64, 256]⟩
abbrev S32x1024x64 : Shape := ⟨3, ![32, 1024, 64]⟩
abbrev S32x64x1024 : Shape := ⟨3, ![32, 64, 1024]⟩
abbrev S256x64 : Shape := ⟨2, ![256, 64]⟩
abbrev S1x64x1 : Shape := ⟨3, ![1, 64, 1]⟩
abbrev S32768x64 : Shape := ⟨2, ![32768, 64]⟩
abbrev S32768 : Shape := ⟨1, ![32768]⟩
abbrev S32768x1 : Shape := ⟨2, ![32768, 1]⟩
abbrev S64x1024 : Shape := ⟨2, ![64, 1024]⟩
abbrev S32768x1024 : Shape := ⟨2, ![32768, 1024]⟩
abbrev S1024 : Shape := ⟨1, ![1024]⟩
abbrev S1x1024 : Shape := ⟨2, ![1, 1024]⟩
abbrev S32x64x1026 : Shape := ⟨3, ![32, 64, 1026]⟩
abbrev S128x256x4 : Shape := ⟨3, ![128, 256, 4]⟩
abbrev S32x256x2051 : Shape := ⟨3, ![32, 256, 2051]⟩
abbrev S32x256x2048 : Shape := ⟨3, ![32, 256, 2048]⟩
abbrev S128x256x1 : Shape := ⟨3, ![128, 256, 1]⟩
abbrev S128x256 : Shape := ⟨2, ![128, 256]⟩
abbrev S1x128x4 : Shape := ⟨3, ![1, 128, 4]⟩
abbrev S32x128x4099 : Shape := ⟨3, ![32, 128, 4099]⟩
abbrev S32x128x4096 : Shape := ⟨3, ![32, 128, 4096]⟩
abbrev S1x128 : Shape := ⟨2, ![1, 128]⟩
abbrev S32x4096x1 : Shape := ⟨3, ![32, 4096, 1]⟩
abbrev S1x1x1 : Shape := ⟨3, ![1, 1, 1]⟩
abbrev S32x1024 : Shape := ⟨2, ![32, 1024]⟩

abbrev nBuf : Space → Nat
  | .hbm => 419
  | .vmem => 0
  | .smem => 0
  | _ => 0

abbrev hbmTy0_0 (i : Nat) : BufTy := match i % 128 with
  | 0 => ⟨S32x1x4096, .f32⟩
  | 1 => ⟨S128x1x4, .f32⟩
  | 2 => ⟨S128, .f32⟩
  | 3 => ⟨S256x128x4, .f32⟩
  | 4 => ⟨S256, .f32⟩
  | 5 => ⟨S256x256x3, .f32⟩
  | 6 => ⟨S256, .f32⟩
  | 7 => ⟨S64x256x3, .f32⟩
  | 8 => ⟨S256x64x1, .f32⟩
  | 9 => ⟨S64x256x3, .f32⟩
  | 10 => ⟨S256x64x1, .f32⟩
  | 11 => ⟨S64x256x1, .f32⟩
  | 12 => ⟨S64, .f32⟩
  | 13 => ⟨S1024x64, .f32⟩
  | 14 => ⟨S256x64x3, .f32⟩
  | 15 => ⟨S256, .f32⟩
  | 16 => ⟨S64x256x3, .f32⟩
  | 17 => ⟨S256x64x1, .f32⟩
  | 18 => ⟨S64x256x3, .f32⟩
  | 19 => ⟨S256x64x1, .f32⟩
  | 20 => ⟨S256x128x4, .f32⟩
  | 21 => ⟨S128, .f32⟩
  | 22 => ⟨S128x1x4, .f32⟩
  | 23 => ⟨S1, .f32⟩
  | 24 => ⟨S_, .f32⟩
  | 25 => ⟨S32x1, .f32⟩
  | 26 => ⟨S32x1x1, .f32⟩
  | 27 => ⟨S_, .f32⟩
  | 28 => ⟨S32x1x1, .f32⟩
  | 29 => ⟨S32x1x1, .f32⟩
  | 30 => ⟨S32x1x4096, .f32⟩
  | 31 => ⟨S32x1x4096, .f32⟩
  | 32 => ⟨S32x1x4096, .f32⟩
  | 33 => ⟨S_, .f32⟩
  | 34 => ⟨S32x1, .f32⟩
  | 35 => ⟨S32x1x1, .f32⟩
  | 36 => ⟨S_, .f32⟩
  | 37 => ⟨S32x1x1, .f32⟩
  | 38 => ⟨S32x1x1, .f32⟩
  | 39 => ⟨S_, .f32⟩
  | 40 => ⟨S32x1x1, .f32⟩
  | 41 => ⟨S32x1x1, .f32⟩
  | 42 => ⟨S32x1x1, .f32⟩
  | 43 => ⟨S32x1x4096, .f32⟩
  | 44 => ⟨S32x1x4096, .f32⟩
  | 45 => ⟨S32x1x4096, .f32⟩
  | 46 => ⟨S32x1x4096, .f32⟩
  | 47 => ⟨S_, .f32⟩
  | 48 => ⟨S32x1x4098, .f32⟩
  | 49 => ⟨S32x1x2048, .f32⟩
  | 50 => ⟨S128x1x1, .f32⟩
  | 51 => ⟨S128x1, .f32⟩
  | 52 => ⟨S32x2048x128, .f32⟩
  | 53 => ⟨S32x128x2048, .f32⟩
  | 54 => ⟨S32x1x2048, .f32⟩
  | 55 => ⟨S128x1x1, .f32⟩
  | 56 => ⟨S128x1, .f32⟩
  | 57 => ⟨S32x2048x128, .f32⟩
  | 58 => ⟨S32x128x2048, .f32⟩
  | 59 => ⟨S32x128x2048, .f32⟩
  | 60 => ⟨S32x1x2048, .f32⟩
  | 61 => ⟨S128x1x1, .f32⟩
  | 62 => ⟨S128x1, .f32⟩
  | 63 => ⟨S32x2048x128, .f32⟩
  | 64 => ⟨S32x128x2048, .f32⟩
  | 65 => ⟨S32x128x2048, .f32⟩
  | 66 => ⟨S32x1x2048, .f32⟩
  | 67 => ⟨S128x1x1, .f32⟩
  | 68 => ⟨S128x1, .f32⟩
  | 69 => ⟨S32x2048x128, .f32⟩
  | 70 => ⟨S32x128x2048, .f32⟩
  | 71 => ⟨S32x128x2048, .f32⟩
  | 72 => ⟨S1x128x1, .f32⟩
  | 73 => ⟨S32x128x2048, .f32⟩
  | 74 => ⟨S32x128x2048, .f32⟩
  | 75 => ⟨S_, .f32⟩
  | 76 => ⟨S32x128x2048, .f32⟩
  | 77 => ⟨S32x128x2048, .f32⟩
  | 78 => ⟨S_, .f32⟩
  | 79 => ⟨S32x128x2050, .f32⟩
  | 80 => ⟨S32x128x1024, .f32⟩
  | 81 => ⟨S256x128x1, .f32⟩
  | 82 => ⟨S256x128, .f32⟩
  | 83 => ⟨S32x1024x256, .f32⟩
  | 84 => ⟨S32x256x1024, .f32⟩
  | 85 => ⟨S32x128x1024, .f32⟩
  | 86 => ⟨S256x128x1, .f32⟩
  | 87 => ⟨S256x128, .f32⟩
  | 88 => ⟨S32x1024x256, .f32⟩
  | 89 => ⟨S32x256x1024, .f32⟩
  | 90 => ⟨S32x256x1024, .f32⟩
  | 91 => ⟨S32x128x1024, .f32⟩
  | 92 => ⟨S256x128x1, .f32⟩
  | 93 => ⟨S256x128, .f32⟩
  | 94 => ⟨S32x1024x256, .f32⟩
  | 95 => ⟨S32x256x1024, .f32⟩
  | 96 => ⟨S32x256x1024, .f32⟩
  | 97 => ⟨S32x128x1024, .f32⟩
  | 98 => ⟨S256x128x1, .f32⟩
  | 99 => ⟨S256x128, .f32⟩
  | 100 => ⟨S32x1024x256, .f32⟩
  | 101 => ⟨S32x256x1024, .f32⟩
  | 102 => ⟨S32x256x1024, .f32⟩
  | 103 => ⟨S1x256x1, .f32⟩
  | 104 => ⟨S32x256x1024, .f32⟩
  | 105 => ⟨S32x256x1024, .f32⟩
  | 106 => ⟨S_, .f32⟩
  | 107 => ⟨S32x256x1024, .f32⟩
  | 108 => ⟨S32x256x1024, .f32⟩
  | 109 => ⟨S_, .f32⟩
  | 110 => ⟨S32x256x1026, .f32⟩
  | 111 => ⟨S32x256x1024, .f32⟩
  | 112 => ⟨S256x256x1, .f32⟩
  | 113 => ⟨S256x256, .f32⟩
  | 114 => ⟨S32x1024x256, .f32⟩
  | 115 => ⟨S32x256x1024, .f32⟩
  | 116 => ⟨S32x256x1024, .f32⟩
  | 117 => ⟨S256x256x1, .f32⟩
  | 118 => ⟨S256x256, .f32⟩
  | 119 => ⟨S32x1024x256, .f32⟩
  | 120 => ⟨S32x256x1024, .f32⟩
  | 121 => ⟨S32x256x1024, .f32⟩
  | 122 => ⟨S32x256x1024, .f32⟩
  | 123 => ⟨S256x256x1, .f32⟩
  | 124 => ⟨S256x256, .f32⟩
  | 125 => ⟨S32x1024x256, .f32⟩
  | 126 => ⟨S32x256x1024, .f32⟩
  | 127 => ⟨S32x256x1024, .f32⟩
  | _ => ⟨S32x1x4096, .f32⟩

abbrev hbmTy0_1 (i : Nat) : BufTy := match i % 128 with
  | 0 => ⟨S1x256x1, .f32⟩
  | 1 => ⟨S32x256x1024, .f32⟩
  | 2 => ⟨S32x256x1024, .f32⟩
  | 3 => ⟨S_, .f32⟩
  | 4 => ⟨S32x256x1024, .f32⟩
  | 5 => ⟨S32x256x1024, .f32⟩
  | 6 => ⟨S_, .f32⟩
  | 7 => ⟨S32x256x1026, .f32⟩
  | 8 => ⟨S32x256x1024, .f32⟩
  | 9 => ⟨S64x256x1, .f32⟩
  | 10 => ⟨S64x256, .f32⟩
  | 11 => ⟨S32x1024x64, .f32⟩
  | 12 => ⟨S32x64x1024, .f32⟩
  | 13 => ⟨S32x256x1024, .f32⟩
  | 14 => ⟨S64x256x1, .f32⟩
  | 15 => ⟨S64x256, .f32⟩
  | 16 => ⟨S32x1024x64, .f32⟩
  | 17 => ⟨S32x64x1024, .f32⟩
  | 18 => ⟨S32x64x1024, .f32⟩
  | 19 => ⟨S32x256x1024, .f32⟩
  | 20 => ⟨S64x256x1, .f32⟩
  | 21 => ⟨S64x256, .f32⟩
  | 22 => ⟨S32x1024x64, .f32⟩
  | 23 => ⟨S32x64x1024, .f32⟩
  | 24 => ⟨S32x64x1024, .f32⟩
  | 25 => ⟨S_, .f32⟩
  | 26 => ⟨S32x64x1024, .f32⟩
  | 27 => ⟨S32x64x1024, .f32⟩
  | 28 => ⟨S32x64x1024, .f32⟩
  | 29 => ⟨S256x64, .f32⟩
  | 30 => ⟨S32x1024x256, .f32⟩
  | 31 => ⟨S32x256x1024, .f32⟩
  | 32 => ⟨S32x256x1024, .f32⟩
  | 33 => ⟨S_, .f32⟩
  | 34 => ⟨S32x256x1024, .f32⟩
  | 35 => ⟨S32x256x1024, .f32⟩
  | 36 => ⟨S_, .f32⟩
  | 37 => ⟨S32x256x1026, .f32⟩
  | 38 => ⟨S32x256x1024, .f32⟩
  | 39 => ⟨S64x256x1, .f32⟩
  | 40 => ⟨S64x256, .f32⟩
  | 41 => ⟨S32x1024x64, .f32⟩
  | 42 => ⟨S32x64x1024, .f32⟩
  | 43 => ⟨S32x256x1024, .f32⟩
  | 44 => ⟨S64x256x1, .f32⟩
  | 45 => ⟨S64x256, .f32⟩
  | 46 => ⟨S32x1024x64, .f32⟩
  | 47 => ⟨S32x64x1024, .f32⟩
  | 48 => ⟨S32x64x1024, .f32⟩
  | 49 => ⟨S32x256x1024, .f32⟩
  | 50 => ⟨S64x256x1, .f32⟩
  | 51 => ⟨S64x256, .f32⟩
  | 52 => ⟨S32x1024x64, .f32⟩
  | 53 => ⟨S32x64x1024, .f32⟩
  | 54 => ⟨S32x64x1024, .f32⟩
  | 55 => ⟨S_, .f32⟩
  | 56 => ⟨S32x64x1024, .f32⟩
  | 57 => ⟨S32x64x1024, .f32⟩
  | 58 => ⟨S32x64x1024, .f32⟩
  | 59 => ⟨S256x64, .f32⟩
  | 60 => ⟨S32x1024x256, .f32⟩
  | 61 => ⟨S32x256x1024, .f32⟩
  | 62 => ⟨S32x256x1024, .f32⟩
  | 63 => ⟨S_, .f32⟩
  | 64 => ⟨S32x256x1024, .f32⟩
  | 65 => ⟨S32x256x1024, .f32⟩
  | 66 => ⟨S32x256x1024, .f32⟩
  | 67 => ⟨S64x256, .f32⟩
  | 68 => ⟨S32x1024x64, .f32⟩
  | 69 => ⟨S32x64x1024, .f32⟩
  | 70 => ⟨S1x64x1, .f32⟩
  | 71 => ⟨S32x64x1024, .f32⟩
  | 72 => ⟨S32x64x1024, .f32⟩
  | 73 => ⟨S32x1024x64, .f32⟩
  | 74 => ⟨S32768x64, .f32⟩
  | 75 => ⟨S32768x64, .f32⟩
  | 76 => ⟨S_, .f32⟩
  | 77 => ⟨S32768, .f32⟩
  | 78 => ⟨S32768x1, .f32⟩
  | 79 => ⟨S64x1024, .f32⟩
  | 80 => ⟨S32768x1024, .f32⟩
  | 81 => ⟨S_, .f32⟩
  | 82 => ⟨S32768x1024, .f32⟩
  | 83 => ⟨S32768x1024, .f32⟩
  | 84 => ⟨S32768x1024, .f32⟩
  | 85 => ⟨S32768x1024, .f32⟩
  | 86 => ⟨S1024x64, .f32⟩
  | 87 => ⟨S_, .f32⟩
  | 88 => ⟨S1024, .f32⟩
  | 89 => ⟨S1x1024, .f32⟩
  | 90 => ⟨S32768x1024, .f32⟩
  | 91 => ⟨S32768x1024, .f32⟩
  | 92 => ⟨S32768x1024, .i32⟩
  | 93 => ⟨S_, .f32⟩
  | 94 => ⟨S_, .i32⟩
  | 95 => ⟨S32768, .f32⟩
  | 96 => ⟨S32768, .i32⟩
  | 97 => ⟨S32768x1, .i32⟩
  | 98 => ⟨S1024, .i32⟩
  | 99 => ⟨S1x1024, .i32⟩
  | 100 => ⟨S32768x1024, .i32⟩
  | 101 => ⟨S32768x1024, .i32⟩
  | 102 => ⟨S32768x1024, .i1⟩
  | 103 => ⟨S32768x1024, .f32⟩
  | 104 => ⟨S32768x64, .f32⟩
  | 105 => ⟨S32x1024x64, .f32⟩
  | 106 => ⟨S32x1024x64, .f32⟩
  | 107 => ⟨S32x1024x64, .f32⟩
  | 108 => ⟨S_, .f32⟩
  | 109 => ⟨S_, .f32⟩
  | 110 => ⟨S_, .f32⟩
  | 111 => ⟨S_, .f32⟩
  | 112 => ⟨S32x1024x64, .f32⟩
  | 113 => ⟨S32x1024x64, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S32x1024x64, .f32⟩
  | 122 => ⟨S32x1024x64, .f32⟩
  | 123 => ⟨S32x64x1024, .f32⟩
  | 124 => ⟨S_, .f32⟩
  | 125 => ⟨S1024, .f32⟩
  | 126 => ⟨S_, .f32⟩
  | 127 => ⟨S1024, .f32⟩
  | _ => ⟨S32x1x4096, .f32⟩

abbrev hbmTy0_2 (i : Nat) : BufTy := match i % 128 with
  | 0 => ⟨S1024, .f32⟩
  | 1 => ⟨S_, .f32⟩
  | 2 => ⟨S1024, .f32⟩
  | 3 => ⟨S1024, .f32⟩
  | 4 => ⟨S1024, .f32⟩
  | 5 => ⟨S1024, .f32⟩
  | 6 => ⟨S_, .f32⟩
  | 7 => ⟨S_, .f32⟩
  | 8 => ⟨S_, .f32⟩
  | 9 => ⟨S_, .f32⟩
  | 10 => ⟨S_, .f32⟩
  | 11 => ⟨S32x64x1026, .f32⟩
  | 12 => ⟨S32x64x1024, .f32⟩
  | 13 => ⟨S256x64x1, .f32⟩
  | 14 => ⟨S256x64, .f32⟩
  | 15 => ⟨S32x1024x256, .f32⟩
  | 16 => ⟨S32x256x1024, .f32⟩
  | 17 => ⟨S32x64x1024, .f32⟩
  | 18 => ⟨S256x64x1, .f32⟩
  | 19 => ⟨S256x64, .f32⟩
  | 20 => ⟨S32x1024x256, .f32⟩
  | 21 => ⟨S32x256x1024, .f32⟩
  | 22 => ⟨S32x256x1024, .f32⟩
  | 23 => ⟨S32x64x1024, .f32⟩
  | 24 => ⟨S256x64x1, .f32⟩
  | 25 => ⟨S256x64, .f32⟩
  | 26 => ⟨S32x1024x256, .f32⟩
  | 27 => ⟨S32x256x1024, .f32⟩
  | 28 => ⟨S32x256x1024, .f32⟩
  | 29 => ⟨S1x256x1, .f32⟩
  | 30 => ⟨S32x256x1024, .f32⟩
  | 31 => ⟨S32x256x1024, .f32⟩
  | 32 => ⟨S_, .f32⟩
  | 33 => ⟨S32x256x1024, .f32⟩
  | 34 => ⟨S32x256x1024, .f32⟩
  | 35 => ⟨S_, .f32⟩
  | 36 => ⟨S32x256x1026, .f32⟩
  | 37 => ⟨S32x256x1024, .f32⟩
  | 38 => ⟨S64x256x1, .f32⟩
  | 39 => ⟨S64x256, .f32⟩
  | 40 => ⟨S32x1024x64, .f32⟩
  | 41 => ⟨S32x64x1024, .f32⟩
  | 42 => ⟨S32x256x1024, .f32⟩
  | 43 => ⟨S64x256x1, .f32⟩
  | 44 => ⟨S64x256, .f32⟩
  | 45 => ⟨S32x1024x64, .f32⟩
  | 46 => ⟨S32x64x1024, .f32⟩
  | 47 => ⟨S32x64x1024, .f32⟩
  | 48 => ⟨S32x256x1024, .f32⟩
  | 49 => ⟨S64x256x1, .f32⟩
  | 50 => ⟨S64x256, .f32⟩
  | 51 => ⟨S32x1024x64, .f32⟩
  | 52 => ⟨S32x64x1024, .f32⟩
  | 53 => ⟨S32x64x1024, .f32⟩
  | 54 => ⟨S_, .f32⟩
  | 55 => ⟨S32x64x1024, .f32⟩
  | 56 => ⟨S32x64x1024, .f32⟩
  | 57 => ⟨S32x64x1024, .f32⟩
  | 58 => ⟨S256x64, .f32⟩
  | 59 => ⟨S32x1024x256, .f32⟩
  | 60 => ⟨S32x256x1024, .f32⟩
  | 61 => ⟨S32x256x1024, .f32⟩
  | 62 => ⟨S_, .f32⟩
  | 63 => ⟨S32x256x1024, .f32⟩
  | 64 => ⟨S32x256x1024, .f32⟩
  | 65 => ⟨S_, .f32⟩
  | 66 => ⟨S32x256x1026, .f32⟩
  | 67 => ⟨S32x256x1024, .f32⟩
  | 68 => ⟨S64x256x1, .f32⟩
  | 69 => ⟨S64x256, .f32⟩
  | 70 => ⟨S32x1024x64, .f32⟩
  | 71 => ⟨S32x64x1024, .f32⟩
  | 72 => ⟨S32x256x1024, .f32⟩
  | 73 => ⟨S64x256x1, .f32⟩
  | 74 => ⟨S64x256, .f32⟩
  | 75 => ⟨S32x1024x64, .f32⟩
  | 76 => ⟨S32x64x1024, .f32⟩
  | 77 => ⟨S32x64x1024, .f32⟩
  | 78 => ⟨S32x256x1024, .f32⟩
  | 79 => ⟨S64x256x1, .f32⟩
  | 80 => ⟨S64x256, .f32⟩
  | 81 => ⟨S32x1024x64, .f32⟩
  | 82 => ⟨S32x64x1024, .f32⟩
  | 83 => ⟨S32x64x1024, .f32⟩
  | 84 => ⟨S_, .f32⟩
  | 85 => ⟨S32x64x1024, .f32⟩
  | 86 => ⟨S32x64x1024, .f32⟩
  | 87 => ⟨S32x64x1024, .f32⟩
  | 88 => ⟨S256x64, .f32⟩
  | 89 => ⟨S32x1024x256, .f32⟩
  | 90 => ⟨S32x256x1024, .f32⟩
  | 91 => ⟨S32x256x1024, .f32⟩
  | 92 => ⟨S_, .f32⟩
  | 93 => ⟨S32x256x1024, .f32⟩
  | 94 => ⟨S32x256x1024, .f32⟩
  | 95 => ⟨S256x128x4, .f32⟩
  | 96 => ⟨S128x256x4, .f32⟩
  | 97 => ⟨S_, .f32⟩
  | 98 => ⟨S32x256x2051, .f32⟩
  | 99 => ⟨S32x256x2048, .f32⟩
  | 100 => ⟨S128x256x1, .f32⟩
  | 101 => ⟨S128x256, .f32⟩
  | 102 => ⟨S32x2048x128, .f32⟩
  | 103 => ⟨S32x128x2048, .f32⟩
  | 104 => ⟨S32x256x2048, .f32⟩
  | 105 => ⟨S128x256x1, .f32⟩
  | 106 => ⟨S128x256, .f32⟩
  | 107 => ⟨S32x2048x128, .f32⟩
  | 108 => ⟨S32x128x2048, .f32⟩
  | 109 => ⟨S32x128x2048, .f32⟩
  | 110 => ⟨S32x256x2048, .f32⟩
  | 111 => ⟨S128x256x1, .f32⟩
  | 112 => ⟨S128x256, .f32⟩
  | 113 => ⟨S32x2048x128, .f32⟩
  | 114 => ⟨S32x128x2048, .f32⟩
  | 115 => ⟨S32x128x2048, .f32⟩
  | 116 => ⟨S32x256x2048, .f32⟩
  | 117 => ⟨S128x256x1, .f32⟩
  | 118 => ⟨S128x256, .f32⟩
  | 119 => ⟨S32x2048x128, .f32⟩
  | 120 => ⟨S32x128x2048, .f32⟩
  | 121 => ⟨S32x128x2048, .f32⟩
  | 122 => ⟨S1x128x1, .f32⟩
  | 123 => ⟨S32x128x2048, .f32⟩
  | 124 => ⟨S32x128x2048, .f32⟩
  | 125 => ⟨S_, .f32⟩
  | 126 => ⟨S32x128x2048, .f32⟩
  | 127 => ⟨S32x128x2048, .f32⟩
  | _ => ⟨S32x1x4096, .f32⟩

abbrev hbmTy0_3 (i : Nat) : BufTy := match i % 128 with
  | 0 => ⟨S128x1x4, .f32⟩
  | 1 => ⟨S1x128x4, .f32⟩
  | 2 => ⟨S_, .f32⟩
  | 3 => ⟨S32x128x4099, .f32⟩
  | 4 => ⟨S32x128x4096, .f32⟩
  | 5 => ⟨S1x128x1, .f32⟩
  | 6 => ⟨S1x128, .f32⟩
  | 7 => ⟨S32x4096x1, .f32⟩
  | 8 => ⟨S32x1x4096, .f32⟩
  | 9 => ⟨S32x128x4096, .f32⟩
  | 10 => ⟨S1x128x1, .f32⟩
  | 11 => ⟨S1x128, .f32⟩
  | 12 => ⟨S32x4096x1, .f32⟩
  | 13 => ⟨S32x1x4096, .f32⟩
  | 14 => ⟨S32x1x4096, .f32⟩
  | 15 => ⟨S32x128x4096, .f32⟩
  | 16 => ⟨S1x128x1, .f32⟩
  | 17 => ⟨S1x128, .f32⟩
  | 18 => ⟨S32x4096x1, .f32⟩
  | 19 => ⟨S32x1x4096, .f32⟩
  | 20 => ⟨S32x1x4096, .f32⟩
  | 21 => ⟨S32x128x4096, .f32⟩
  | 22 => ⟨S1x128x1, .f32⟩
  | 23 => ⟨S1x128, .f32⟩
  | 24 => ⟨S32x4096x1, .f32⟩
  | 25 => ⟨S32x1x4096, .f32⟩
  | 26 => ⟨S32x1x4096, .f32⟩
  | 27 => ⟨S1x1x1, .f32⟩
  | 28 => ⟨S32x1x4096, .f32⟩
  | 29 => ⟨S32x1x4096, .f32⟩
  | 30 => ⟨S32x1x4096, .f32⟩
  | 31 => ⟨S32x1x4096, .f32⟩
  | 32 => ⟨S32x1x4096, .f32⟩
  | 33 => ⟨S32x1x4096, .f32⟩
  | 34 => ⟨S32x1024, .i32⟩
  | _ => ⟨S32x1x4096, .f32⟩

abbrev hbmTy (i : Nat) : BufTy := match i / 128 with
  | 0 => hbmTy0_0 i
  | 1 => hbmTy0_1 i
  | 2 => hbmTy0_2 i
  | 3 => hbmTy0_3 i
  | _ => ⟨S32x1x4096, .f32⟩

abbrev bufTy : (tb : Table) → Fin (tcTables nBuf tb) → BufTy
  | .hbm, ⟨i, _⟩ => hbmTy i
  | _, _ => ⟨S32x1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_cst : Ref sig .tc := ⟨.hbm, 24, rfl⟩
abbrev main_v0 : Ref sig .tc := ⟨.hbm, 25, rfl⟩
abbrev main_v1 : Ref sig .tc := ⟨.hbm, 26, rfl⟩
abbrev main_cst_0 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_cst_1 : Ref sig .tc := ⟨.hbm, 33, rfl⟩
abbrev main_v7 : Ref sig .tc := ⟨.hbm, 34, rfl⟩
abbrev main_v8 : Ref sig .tc := ⟨.hbm, 35, rfl⟩
abbrev main_cst_2 : Ref sig .tc := ⟨.hbm, 36, rfl⟩
abbrev main_v9 : Ref sig .tc := ⟨.hbm, 37, rfl⟩
abbrev main_v10 : Ref sig .tc := ⟨.hbm, 38, rfl⟩
abbrev main_cst_3 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_cst_4 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_5 : Ref sig .tc := ⟨.hbm, 75, rfl⟩
abbrev main_v45 : Ref sig .tc := ⟨.hbm, 76, rfl⟩
abbrev main_v46 : Ref sig .tc := ⟨.hbm, 77, rfl⟩
abbrev main_cst_6 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_7 : Ref sig .tc := ⟨.hbm, 106, rfl⟩
abbrev main_v74 : Ref sig .tc := ⟨.hbm, 107, rfl⟩
abbrev main_v75 : Ref sig .tc := ⟨.hbm, 108, rfl⟩
abbrev main_cst_8 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_cst_9 : Ref sig .tc := ⟨.hbm, 131, rfl⟩
abbrev main_v97 : Ref sig .tc := ⟨.hbm, 132, rfl⟩
abbrev main_v98 : Ref sig .tc := ⟨.hbm, 133, rfl⟩
abbrev main_cst_10 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_cst_11 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_cst_12 : Ref sig .tc := ⟨.hbm, 161, rfl⟩
abbrev main_v124 : Ref sig .tc := ⟨.hbm, 162, rfl⟩
abbrev main_v125 : Ref sig .tc := ⟨.hbm, 163, rfl⟩
abbrev main_cst_13 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_cst_14 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_cst_15 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_cst_16 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_cst_17 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_cst_18 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_call0_v0 : Ref sig .tc := ⟨.hbm, 220, rfl⟩
abbrev main_call0_cst : Ref sig .tc := ⟨.hbm, 221, rfl⟩
abbrev main_call0_c : Ref sig .tc := ⟨.hbm, 222, rfl⟩
abbrev main_call0_v1_0 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_cst_19 : Ref sig .tc := ⟨.hbm, 236, rfl⟩
abbrev main_v188 : Ref sig .tc := ⟨.hbm, 237, rfl⟩
abbrev main_cst_20 : Ref sig .tc := ⟨.hbm, 238, rfl⟩
abbrev main_v189 : Ref sig .tc := ⟨.hbm, 239, rfl⟩
abbrev main_v190 : Ref sig .tc := ⟨.hbm, 240, rfl⟩
abbrev main_v191 : Ref sig .tc := ⟨.hbm, 241, rfl⟩
abbrev main_cst_21 : Ref sig .tc := ⟨.hbm, 242, rfl⟩
abbrev main_v192 : Ref sig .tc := ⟨.hbm, 243, rfl⟩
abbrev main_cst_22 : Ref sig .tc := ⟨.hbm, 244, rfl⟩
abbrev main_v193 : Ref sig .tc := ⟨.hbm, 245, rfl⟩
abbrev main_cst_23 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_cst_24 : Ref sig .tc := ⟨.hbm, 252, rfl⟩
abbrev main_v199 : Ref sig .tc := ⟨.hbm, 253, rfl⟩
abbrev main_cst_25 : Ref sig .tc := ⟨.hbm, 254, rfl⟩
abbrev main_v200 : Ref sig .tc := ⟨.hbm, 255, rfl⟩
abbrev main_v201 : Ref sig .tc := ⟨.hbm, 256, rfl⟩
abbrev main_cst_26 : Ref sig .tc := ⟨.hbm, 257, rfl⟩
abbrev main_v202 : Ref sig .tc := ⟨.hbm, 258, rfl⟩
abbrev main_v203 : Ref sig .tc := ⟨.hbm, 259, rfl⟩
abbrev main_v204 : Ref sig .tc := ⟨.hbm, 260, rfl⟩
abbrev main_v205 : Ref sig .tc := ⟨.hbm, 261, rfl⟩
abbrev main_cst_27 : Ref sig .tc := ⟨.hbm, 262, rfl⟩
abbrev main_v206 : Ref sig .tc := ⟨.hbm, 263, rfl⟩
abbrev main_v207 : Ref sig .tc := ⟨.hbm, 264, rfl⟩
abbrev main_v208 : Ref sig .tc := ⟨.hbm, 265, rfl⟩
abbrev main_cst_28 : Ref sig .tc := ⟨.hbm, 266, rfl⟩
abbrev main_v209 : Ref sig .tc := ⟨.hbm, 267, rfl⟩
abbrev main_v210 : Ref sig .tc := ⟨.hbm, 268, rfl⟩
abbrev main_v211 : Ref sig .tc := ⟨.hbm, 269, rfl⟩
abbrev main_v212 : Ref sig .tc := ⟨.hbm, 270, rfl⟩
abbrev main_v213 : Ref sig .tc := ⟨.hbm, 271, rfl⟩
abbrev main_v214 : Ref sig .tc := ⟨.hbm, 272, rfl⟩
abbrev main_v215 : Ref sig .tc := ⟨.hbm, 273, rfl⟩
abbrev main_v216 : Ref sig .tc := ⟨.hbm, 274, rfl⟩
abbrev main_v217 : Ref sig .tc := ⟨.hbm, 275, rfl⟩
abbrev main_v218 : Ref sig .tc := ⟨.hbm, 276, rfl⟩
abbrev main_v219 : Ref sig .tc := ⟨.hbm, 277, rfl⟩
abbrev main_v220 : Ref sig .tc := ⟨.hbm, 278, rfl⟩
abbrev main_v221 : Ref sig .tc := ⟨.hbm, 279, rfl⟩
abbrev main_v222 : Ref sig .tc := ⟨.hbm, 280, rfl⟩
abbrev main_v223 : Ref sig .tc := ⟨.hbm, 281, rfl⟩
abbrev main_v224 : Ref sig .tc := ⟨.hbm, 282, rfl⟩
abbrev main_v225 : Ref sig .tc := ⟨.hbm, 283, rfl⟩
abbrev main_v226 : Ref sig .tc := ⟨.hbm, 284, rfl⟩
abbrev main_v227 : Ref sig .tc := ⟨.hbm, 285, rfl⟩
abbrev main_v228 : Ref sig .tc := ⟨.hbm, 286, rfl⟩
abbrev main_v229 : Ref sig .tc := ⟨.hbm, 287, rfl⟩
abbrev main_cst_29 : Ref sig .tc := ⟨.hbm, 288, rfl⟩
abbrev main_v230 : Ref sig .tc := ⟨.hbm, 289, rfl⟩
abbrev main_v231 : Ref sig .tc := ⟨.hbm, 290, rfl⟩
abbrev main_cst_30 : Ref sig .tc := ⟨.hbm, 291, rfl⟩
abbrev main_v232 : Ref sig .tc := ⟨.hbm, 292, rfl⟩
abbrev main_v233 : Ref sig .tc := ⟨.hbm, 293, rfl⟩
abbrev main_v234 : Ref sig .tc := ⟨.hbm, 294, rfl⟩
abbrev main_v235 : Ref sig .tc := ⟨.hbm, 295, rfl⟩
abbrev main_v236 : Ref sig .tc := ⟨.hbm, 296, rfl⟩
abbrev main_v237 : Ref sig .tc := ⟨.hbm, 297, rfl⟩
abbrev main_v238 : Ref sig .tc := ⟨.hbm, 298, rfl⟩
abbrev main_v239 : Ref sig .tc := ⟨.hbm, 299, rfl⟩
abbrev main_v240 : Ref sig .tc := ⟨.hbm, 300, rfl⟩
abbrev main_v241 : Ref sig .tc := ⟨.hbm, 301, rfl⟩
abbrev main_v242 : Ref sig .tc := ⟨.hbm, 302, rfl⟩
abbrev main_v243 : Ref sig .tc := ⟨.hbm, 303, rfl⟩
abbrev main_v244 : Ref sig .tc := ⟨.hbm, 304, rfl⟩
abbrev main_v245 : Ref sig .tc := ⟨.hbm, 305, rfl⟩
abbrev main_v246 : Ref sig .tc := ⟨.hbm, 306, rfl⟩
abbrev main_v247 : Ref sig .tc := ⟨.hbm, 307, rfl⟩
abbrev main_v248 : Ref sig .tc := ⟨.hbm, 308, rfl⟩
abbrev main_v249 : Ref sig .tc := ⟨.hbm, 309, rfl⟩
abbrev main_cst_31 : Ref sig .tc := ⟨.hbm, 310, rfl⟩
abbrev main_v250 : Ref sig .tc := ⟨.hbm, 311, rfl⟩
abbrev main_v251 : Ref sig .tc := ⟨.hbm, 312, rfl⟩
abbrev main_v252 : Ref sig .tc := ⟨.hbm, 313, rfl⟩
abbrev main_v253 : Ref sig .tc := ⟨.hbm, 314, rfl⟩
abbrev main_v254 : Ref sig .tc := ⟨.hbm, 315, rfl⟩
abbrev main_v255 : Ref sig .tc := ⟨.hbm, 316, rfl⟩
abbrev main_v256 : Ref sig .tc := ⟨.hbm, 317, rfl⟩
abbrev main_cst_32 : Ref sig .tc := ⟨.hbm, 318, rfl⟩
abbrev main_v257 : Ref sig .tc := ⟨.hbm, 319, rfl⟩
abbrev main_v258 : Ref sig .tc := ⟨.hbm, 320, rfl⟩
abbrev main_cst_33 : Ref sig .tc := ⟨.hbm, 321, rfl⟩
abbrev main_v259 : Ref sig .tc := ⟨.hbm, 322, rfl⟩
abbrev main_v260 : Ref sig .tc := ⟨.hbm, 323, rfl⟩
abbrev main_v261 : Ref sig .tc := ⟨.hbm, 324, rfl⟩
abbrev main_v262 : Ref sig .tc := ⟨.hbm, 325, rfl⟩
abbrev main_v263 : Ref sig .tc := ⟨.hbm, 326, rfl⟩
abbrev main_v264 : Ref sig .tc := ⟨.hbm, 327, rfl⟩
abbrev main_v265 : Ref sig .tc := ⟨.hbm, 328, rfl⟩
abbrev main_v266 : Ref sig .tc := ⟨.hbm, 329, rfl⟩
abbrev main_v267 : Ref sig .tc := ⟨.hbm, 330, rfl⟩
abbrev main_v268 : Ref sig .tc := ⟨.hbm, 331, rfl⟩
abbrev main_v269 : Ref sig .tc := ⟨.hbm, 332, rfl⟩
abbrev main_v270 : Ref sig .tc := ⟨.hbm, 333, rfl⟩
abbrev main_v271 : Ref sig .tc := ⟨.hbm, 334, rfl⟩
abbrev main_v272 : Ref sig .tc := ⟨.hbm, 335, rfl⟩
abbrev main_v273 : Ref sig .tc := ⟨.hbm, 336, rfl⟩
abbrev main_v274 : Ref sig .tc := ⟨.hbm, 337, rfl⟩
abbrev main_v275 : Ref sig .tc := ⟨.hbm, 338, rfl⟩
abbrev main_v276 : Ref sig .tc := ⟨.hbm, 339, rfl⟩
abbrev main_cst_34 : Ref sig .tc := ⟨.hbm, 340, rfl⟩
abbrev main_v277 : Ref sig .tc := ⟨.hbm, 341, rfl⟩
abbrev main_v278 : Ref sig .tc := ⟨.hbm, 342, rfl⟩
abbrev main_v279 : Ref sig .tc := ⟨.hbm, 343, rfl⟩
abbrev main_v280 : Ref sig .tc := ⟨.hbm, 344, rfl⟩
abbrev main_v281 : Ref sig .tc := ⟨.hbm, 345, rfl⟩
abbrev main_v282 : Ref sig .tc := ⟨.hbm, 346, rfl⟩
abbrev main_v283 : Ref sig .tc := ⟨.hbm, 347, rfl⟩
abbrev main_cst_35 : Ref sig .tc := ⟨.hbm, 348, rfl⟩
abbrev main_v284 : Ref sig .tc := ⟨.hbm, 349, rfl⟩
abbrev main_v285 : Ref sig .tc := ⟨.hbm, 350, rfl⟩
abbrev main_v286 : Ref sig .tc := ⟨.hbm, 351, rfl⟩
abbrev main_v287 : Ref sig .tc := ⟨.hbm, 352, rfl⟩
abbrev main_cst_36 : Ref sig .tc := ⟨.hbm, 353, rfl⟩
abbrev main_v288 : Ref sig .tc := ⟨.hbm, 354, rfl⟩
abbrev main_v289 : Ref sig .tc := ⟨.hbm, 355, rfl⟩
abbrev main_v290 : Ref sig .tc := ⟨.hbm, 356, rfl⟩
abbrev main_v291 : Ref sig .tc := ⟨.hbm, 357, rfl⟩
abbrev main_v292 : Ref sig .tc := ⟨.hbm, 358, rfl⟩
abbrev main_v293 : Ref sig .tc := ⟨.hbm, 359, rfl⟩
abbrev main_v294 : Ref sig .tc := ⟨.hbm, 360, rfl⟩
abbrev main_v295 : Ref sig .tc := ⟨.hbm, 361, rfl⟩
abbrev main_v296 : Ref sig .tc := ⟨.hbm, 362, rfl⟩
abbrev main_v297 : Ref sig .tc := ⟨.hbm, 363, rfl⟩
abbrev main_v298 : Ref sig .tc := ⟨.hbm, 364, rfl⟩
abbrev main_v299 : Ref sig .tc := ⟨.hbm, 365, rfl⟩
abbrev main_v300 : Ref sig .tc := ⟨.hbm, 366, rfl⟩
abbrev main_v301 : Ref sig .tc := ⟨.hbm, 367, rfl⟩
abbrev main_v302 : Ref sig .tc := ⟨.hbm, 368, rfl⟩
abbrev main_v303 : Ref sig .tc := ⟨.hbm, 369, rfl⟩
abbrev main_v304 : Ref sig .tc := ⟨.hbm, 370, rfl⟩
abbrev main_v305 : Ref sig .tc := ⟨.hbm, 371, rfl⟩
abbrev main_v306 : Ref sig .tc := ⟨.hbm, 372, rfl⟩
abbrev main_v307 : Ref sig .tc := ⟨.hbm, 373, rfl⟩
abbrev main_v308 : Ref sig .tc := ⟨.hbm, 374, rfl⟩
abbrev main_v309 : Ref sig .tc := ⟨.hbm, 375, rfl⟩
abbrev main_v310 : Ref sig .tc := ⟨.hbm, 376, rfl⟩
abbrev main_v311 : Ref sig .tc := ⟨.hbm, 377, rfl⟩
abbrev main_v312 : Ref sig .tc := ⟨.hbm, 378, rfl⟩
abbrev main_v313 : Ref sig .tc := ⟨.hbm, 379, rfl⟩
abbrev main_v314 : Ref sig .tc := ⟨.hbm, 380, rfl⟩
abbrev main_cst_37 : Ref sig .tc := ⟨.hbm, 381, rfl⟩
abbrev main_v315 : Ref sig .tc := ⟨.hbm, 382, rfl⟩
abbrev main_v316 : Ref sig .tc := ⟨.hbm, 383, rfl⟩
abbrev main_v317 : Ref sig .tc := ⟨.hbm, 384, rfl⟩
abbrev main_v318 : Ref sig .tc := ⟨.hbm, 385, rfl⟩
abbrev main_cst_38 : Ref sig .tc := ⟨.hbm, 386, rfl⟩
abbrev main_v319 : Ref sig .tc := ⟨.hbm, 387, rfl⟩
abbrev main_v320 : Ref sig .tc := ⟨.hbm, 388, rfl⟩
abbrev main_v321 : Ref sig .tc := ⟨.hbm, 389, rfl⟩
abbrev main_v322 : Ref sig .tc := ⟨.hbm, 390, rfl⟩
abbrev main_v323 : Ref sig .tc := ⟨.hbm, 391, rfl⟩
abbrev main_v324 : Ref sig .tc := ⟨.hbm, 392, rfl⟩
abbrev main_v325 : Ref sig .tc := ⟨.hbm, 393, rfl⟩
abbrev main_v326 : Ref sig .tc := ⟨.hbm, 394, rfl⟩
abbrev main_v327 : Ref sig .tc := ⟨.hbm, 395, rfl⟩
abbrev main_v328 : Ref sig .tc := ⟨.hbm, 396, rfl⟩
abbrev main_v329 : Ref sig .tc := ⟨.hbm, 397, rfl⟩
abbrev main_v330 : Ref sig .tc := ⟨.hbm, 398, rfl⟩
abbrev main_v331 : Ref sig .tc := ⟨.hbm, 399, rfl⟩
abbrev main_v332 : Ref sig .tc := ⟨.hbm, 400, rfl⟩
abbrev main_v333 : Ref sig .tc := ⟨.hbm, 401, rfl⟩
abbrev main_v334 : Ref sig .tc := ⟨.hbm, 402, rfl⟩
abbrev main_v335 : Ref sig .tc := ⟨.hbm, 403, rfl⟩
abbrev main_v336 : Ref sig .tc := ⟨.hbm, 404, rfl⟩
abbrev main_v337 : Ref sig .tc := ⟨.hbm, 405, rfl⟩
abbrev main_v338 : Ref sig .tc := ⟨.hbm, 406, rfl⟩
abbrev main_v339 : Ref sig .tc := ⟨.hbm, 407, rfl⟩
abbrev main_v340 : Ref sig .tc := ⟨.hbm, 408, rfl⟩
abbrev main_v341 : Ref sig .tc := ⟨.hbm, 409, rfl⟩
abbrev main_v342 : Ref sig .tc := ⟨.hbm, 410, rfl⟩
abbrev main_v343 : Ref sig .tc := ⟨.hbm, 411, rfl⟩
abbrev main_v344 : Ref sig .tc := ⟨.hbm, 412, rfl⟩
abbrev main_v345 : Ref sig .tc := ⟨.hbm, 413, rfl⟩
abbrev main_v346 : Ref sig .tc := ⟨.hbm, 414, rfl⟩
abbrev main_v347 : Ref sig .tc := ⟨.hbm, 415, rfl⟩
abbrev main_v348 : Ref sig .tc := ⟨.hbm, 416, rfl⟩
abbrev main_v349 : Ref sig .tc := ⟨.hbm, 417, rfl⟩
abbrev main_v350 : Ref sig .tc := ⟨.hbm, 418, rfl⟩

abbrev nD : Nat := 1
abbrev τ : Topo := Topo.v7x

variable {F : FTy → Type} [FloatOps F]
-- ==== Proof.KernelIdealRun.lean ====
/- The run of `KernelIdeal`: its two pallas_calls among the host operations, each class A, and the frame that follows. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxHeartbeats 4000000
-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0__vqvae_body` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V c (Pipeline.arrRef spec0 13))
    (hafter : ∀ t, dat.after 13 t = iblk0 V c 13 t) (t : Fin cfg0.N) (d) : dat.before 13 t d = iblk0 V c 13 t :=
  (dat.before_in_eq_fetched 13 rfl (fun _ => rfl) (fun _ _ _ => rfl) (fun t => by rw [hafter]; unfold Dat.blockOf iblk0; rw [hA]; try rfl) t d).trans
    (by unfold Dat.fetched Dat.blockOf iblk0; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V c (Pipeline.arrRef spec0 14))
    (hafter : ∀ t, dat.after 14 t = iblk0 V c 14 t) (t : Fin cfg0.N) (d) : dat.before 14 t d = iblk0 V c 14 t :=
  (dat.before_in_eq_fetched 14 rfl (fun _ => rfl) (fun _ _ _ => rfl) (fun t => by rw [hafter]; unfold Dat.blockOf iblk0; rw [hA]; try rfl) t d).trans
    (by unfold Dat.fetched Dat.blockOf iblk0; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of {c : Dev nD} (dat : Dat τ (Elt F) Unit ℕ (UR sig nD τ) ℕ cfg0 c) (hA : dat.A 15 = V c (Pipeline.arrRef spec0 15))
    (hafter : ∀ t, dat.after 15 t = iblk0 V c 15 t) (t : Fin cfg0.N) (d) : dat.before 15 t d = iblk0 V c 15 t :=
  (dat.before_in_eq_fetched 15 rfl (fun _ => rfl) (fun _ _ _ => rfl) (fun t => by rw [hafter]; unfold Dat.blockOf iblk0; rw [hA]; try rfl) t d).trans
    (by unfold Dat.fetched Dat.blockOf iblk0; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_16_of {c : Dev nD} (dat : Dat τ (Elt F) Unit ℕ (UR sig nD τ) ℕ cfg0 c) (hA : dat.A 16 = V c (Pipeline.arrRef spec0 16))
    (hafter : ∀ t, dat.after 16 t = iblk0 V c 16 t) (t : Fin cfg0.N) (d) : dat.before 16 t d = iblk0 V c 16 t :=
  (dat.before_in_eq_fetched 16 rfl (fun _ => rfl) (fun _ _ _ => rfl) (fun t => by rw [hafter]; unfold Dat.blockOf iblk0; rw [hA]; try rfl) t d).trans
    (by unfold Dat.fetched Dat.blockOf iblk0; rw [hA]; try rfl)
/-- Input window 17's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_17_of {c : Dev nD} (dat : Dat τ (Elt F) Unit ℕ (UR sig nD τ) ℕ cfg0 c) (hA : dat.A 17 = V c (Pipeline.arrRef spec0 17))
    (hafter : ∀ t, dat.after 17 t = iblk0 V c 17 t) (t : Fin cfg0.N) (d) : dat.before 17 t d = iblk0 V c 17 t :=
  (dat.before_in_eq_fetched 17 rfl (fun _ => rfl) (fun _ _ _ => rfl) (fun t => by rw [hafter]; unfold Dat.blockOf iblk0; rw [hA]; try rfl) t d).trans
    (by unfold Dat.fetched Dat.blockOf iblk0; rw [hA]; try rfl)
/-- Input window 18's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_18_of {c : Dev nD} (dat : Dat τ (Elt F) Unit ℕ (UR sig nD τ) ℕ cfg0 c) (hA : dat.A 18 = V c (Pipeline.arrRef spec0 18))
    (hafter : ∀ t, dat.after 18 t = iblk0 V c 18 t) (t : Fin cfg0.N) (d) : dat.before 18 t d = iblk0 V c 18 t :=
  (dat.before_in_eq_fetched 18 rfl (fun _ => rfl) (fun _ _ _ => rfl) (fun t => by rw [hafter]; unfold Dat.blockOf iblk0; rw [hA]; try rfl) t d).trans
    (by unfold Dat.fetched Dat.blockOf iblk0; rw [hA]; try rfl)
/-- Input window 19's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_19_of {c : Dev nD} (dat : Dat τ (Elt F) Unit ℕ (UR sig nD τ) ℕ cfg0 c) (hA : dat.A 19 = V c (Pipeline.arrRef spec0 19))
    (hafter : ∀ t, dat.after 19 t = iblk0 V c 19 t) (t : Fin cfg0.N) (d) : dat.before 19 t d = iblk0 V c 19 t :=
  (dat.before_in_eq_fetched 19 rfl (fun _ => rfl) (fun _ _ _ => rfl) (fun t => by rw [hafter]; unfold Dat.blockOf iblk0; rw [hA]; try rfl) t d).trans
    (by unfold Dat.fetched Dat.blockOf iblk0; rw [hA]; try rfl)
/-- Input window 20's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_20_of {c : Dev nD} (dat : Dat τ (Elt F) Unit ℕ (UR sig nD τ) ℕ cfg0 c) (hA : dat.A 20 = V c (Pipeline.arrRef spec0 20))
    (hafter : ∀ t, dat.after 20 t = iblk0 V c 20 t) (t : Fin cfg0.N) (d) : dat.before 20 t d = iblk0 V c 20 t :=
  (dat.before_in_eq_fetched 20 rfl (fun _ => rfl) (fun _ _ _ => rfl) (fun t => by rw [hafter]; unfold Dat.blockOf iblk0; rw [hA]; try rfl) t d).trans
    (by unfold Dat.fetched Dat.blockOf iblk0; rw [hA]; try rfl)
/-- Input window 21's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_21_of {c : Dev nD} (dat : Dat τ (Elt F) Unit ℕ (UR sig nD τ) ℕ cfg0 c) (hA : dat.A 21 = V c (Pipeline.arrRef spec0 21))
    (hafter : ∀ t, dat.after 21 t = iblk0 V c 21 t) (t : Fin cfg0.N) (d) : dat.before 21 t d = iblk0 V c 21 t :=
  (dat.before_in_eq_fetched 21 rfl (fun _ => rfl) (fun _ _ _ => rfl) (fun t => by rw [hafter]; unfold Dat.blockOf iblk0; rw [hA]; try rfl) t d).trans
    (by unfold Dat.fetched Dat.blockOf iblk0; rw [hA]; try rfl)
/-- Input window 22's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_22_of {c : Dev nD} (dat : Dat τ (Elt F) Unit ℕ (UR sig nD τ) ℕ cfg0 c) (hA : dat.A 22 = V c (Pipeline.arrRef spec0 22))
    (hafter : ∀ t, dat.after 22 t = iblk0 V c 22 t) (t : Fin cfg0.N) (d) : dat.before 22 t d = iblk0 V c 22 t :=
  (dat.before_in_eq_fetched 22 rfl (fun _ => rfl) (fun _ _ _ => rfl) (fun t => by rw [hafter]; unfold Dat.blockOf iblk0; rw [hA]; try rfl) t d).trans
    (by unfold Dat.fetched Dat.blockOf iblk0; rw [hA]; try rfl)
/-- Input window 23's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_23_of {c : Dev nD} (dat : Dat τ (Elt F) Unit ℕ (UR sig nD τ) ℕ cfg0 c) (hA : dat.A 23 = V c (Pipeline.arrRef spec0 23))
    (hafter : ∀ t, dat.after 23 t = iblk0 V c 23 t) (t : Fin cfg0.N) (d) : dat.before 23 t d = iblk0 V c 23 t :=
  (dat.before_in_eq_fetched 23 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S4x4x1024 := Rect.unit (s := S4x4x1024) ![0, 0, 0] S4x4x1024.size inb_S4x4x1024_S4x4x1024_0_0_0
abbrev r0_1 : Rect S128x1 := Rect.unit (s := S128x1) ![0, 0] S128x1.size inb_S128x1_S128x1_0_0
abbrev r0_2 : Rect S128x4 := Rect.unit (s := S128x4) ![0, 0] S128x4.size inb_S128x4_S128x4_0_0
abbrev r0_3 : Rect S4x256x128 := Rect.unit (s := S4x256x128) ![0, 0, 0] S4x256x128.size inb_S4x256x128_S4x256x128_0_0_0
abbrev r0_4 : Rect S256x1 := Rect.unit (s := S256x1) ![0, 0] S256x1.size inb_S256x1_S256x1_0_0
abbrev r0_5 : Rect S3x256x256 := Rect.unit (s := S3x256x256) ![0, 0, 0] S3x256x256.size inb_S3x256x256_S3x256x256_0_0_0
abbrev r0_6 : Rect S3x64x256 := Rect.unit (s := S3x64x256) ![0, 0, 0] S3x64x256.size inb_S3x64x256_S3x64x256_0_0_0
abbrev r0_7 : Rect S256x64 := Rect.unit (s := S256x64) ![0, 0] S256x64.size inb_S256x64_S256x64_0_0
abbrev r0_8 : Rect S64x256 := Rect.unit (s := S64x256) ![0, 0] S64x256.size inb_S64x256_S64x256_0_0
abbrev r0_9 : Rect S64x1 := Rect.unit (s := S64x1) ![0, 0] S64x1.size inb_S64x1_S64x1_0_0
abbrev r0_10 : Rect S1024x64 := Rect.unit (s := S1024x64) ![0, 0] S1024x64.size inb_S1024x64_S1024x64_0_0
abbrev r0_11 : Rect S3x256x64 := Rect.unit (s := S3x256x64) ![0, 0, 0] S3x256x64.size inb_S3x256x64_S3x256x64_0_0_0
abbrev r0_12 : Rect S4x128x256 := Rect.unit (s := S4x128x256) ![0, 0, 0] S4x128x256.size inb_S4x128x256_S4x128x256_0_0_0
abbrev r0_13 : Rect S4x128 := Rect.unit (s := S4x128) ![0, 0] S4x128.size inb_S4x128_S4x128_0_0
abbrev r0_14 : Rect S1x1 := Rect.unit (s := S1x1) ![0, 0] S1x1.size inb_S1x1_S1x1_0_0
abbrev r0_15 : Rect S1x1x4096 := Rect.unit (s := S1x1x4096) ![0, 0, 0] S1x1x4096.size inb_S1x1x4096_S1x1x4096_0_0_0
abbrev r0_16 : Rect S1x1024x1 := Rect.unit (s := S1x1024x1) ![0, 0, 0] S1x1024x1.size inb_S1x1024x1_S1x1024x1_0_0_0
abbrev r0_17 : Rect S1x1x128 := Rect.unit (s := S1x1x128) ![0, 0, 0] S1x1x128.size inb_S1x1x128_S1x1x128_0_0_0

/-! ## What the body leaves in each output window's buffer -/

/-! ### Values of the body that the stores' payloads, spelt out, would write more than once

    Each is a vector the body binds (often a part call's result), stated over the input windows' blocks and
    numbered on from the skeleton's payload functions (`k0_pay56` …, after `k0_pay55`), so that
    `out0_W` and the values after it name it instead of spelling it out; the comment after each is the printed function's
    name for the value (a count appended where that name is bound again). -/

def k0_pay56 (x0 : Vec F S4x4x1024 .f32) (x1 : Vec F S128x4 .f32) (x2 : Vec F S128x1 .f32) (x3 : Vec F S4x256x128 .f32) (x4 : Vec F S256x1 .f32) (x5 : Vec F S3x256x256 .f32) (x6 : Vec F S256x1 .f32) (x7 : Vec F S3x64x256 .f32) (x8 : Vec F S256x64 .f32) (x9 : Vec F S3x64x256 .f32) (x10 : Vec F S256x64 .f32) (x11 : Vec F S64x256 .f32) (x12 : Vec F S64x1 .f32) (x13 : Vec F S1024x64 .f32) (x14 : Vec F S3x256x64 .f32) (x15 : Vec F S256x1 .f32) (x16 : Vec F S3x64x256 .f32) (x17 : Vec F S256x64 .f32) (x18 : Vec F S3x64x256 .f32) (x19 : Vec F S256x64 .f32) (x20 : Vec F S4x128x256 .f32) (x21 : Vec F S128x1 .f32) (x22 : Vec F S4x128 .f32) (x23 : Vec F S1x1 .f32) : FVec F S4x4x1024 .f32 :=
  k0_pay3 (View.ld x0 r0_0) -- `v1`
def k0_pay57 (x0 : Vec F S4x4x1024 .f32) (x1 : Vec F S128x4 .f32) (x2 : Vec F S128x1 .f32) (x3 : Vec F S4x256x128 .f32) (x4 : Vec F S256x1 .f32) (x5 : Vec F S3x256x256 .f32) (x6 : Vec F S256x1 .f32) (x7 : Vec F S3x64x256 .f32) (x8 : Vec F S256x64 .f32) (x9 : Vec F S3x64x256 .f32) (x10 : Vec F S256x64 .f32) (x11 : Vec F S64x256 .f32) (x12 : Vec F S64x1 .f32) (x13 : Vec F S1024x64 .f32) (x14 : Vec F S3x256x64 .f32) (x15 : Vec F S256x1 .f32) (x16 : Vec F S3x64x256 .f32) (x17 : Vec F S256x64 .f32) (x18 : Vec F S3x64x256 .f32) (x19 : Vec F S256x64 .f32) (x20 : Vec F S4x128x256 .f32) (x21 : Vec F S128x1 .f32) (x22 : Vec F S4x128 .f32) (x23 : Vec F S1x1 .f32) : FVec F S4x1024 .f32 :=
  k0_pay7 (View.ld x0 r0_0) -- `v22`
def k0_pay58 (x0 : Vec F S4x4x1024 .f32) (x1 : Vec F S128x4 .f32) (x2 : Vec F S128x1 .f32) (x3 : Vec F S4x256x128 .f32) (x4 : Vec F S256x1 .f32) (x5 : Vec F S3x256x256 .f32) (x6 : Vec F S256x1 .f32) (x7 : Vec F S3x64x256 .f32) (x8 : Vec F S256x64 .f32) (x9 : Vec F S3x64x256 .f32) (x10 : Vec F S256x64 .f32) (x11 : Vec F S64x256 .f32) (x12 : Vec F S64x1 .f32) (x13 : Vec F S1024x64 .f32) (x14 : Vec F S3x256x64 .f32) (x15 : Vec F S256x1 .f32) (x16 : Vec F S3x64x256 .f32) (x17 : Vec F S256x64 .f32) (x18 : Vec F S3x64x256 .f32) (x19 : Vec F S256x64 .f32) (x20 : Vec F S4x128x256 .f32) (x21 : Vec F S128x1 .f32) (x22 : Vec F S4x128 .f32) (x23 : Vec F S1x1 .f32) : FVec F S4x1024 .f32 :=
  k0_pay11 (View.ld x0 r0_0) -- `v43`
def k0_pay59 (x0 : Vec F S4x4x1024 .f32) (x1 : Vec F S128x4 .f32) (x2 : Vec F S128x1 .f32) (x3 : Vec F S4x256x128 .f32) (x4 : Vec F S256x1 .f32) (x5 : Vec F S3x256x256 .f32) (x6 : Vec F S256x1 .f32) (x7 : Vec F S3x64x256 .f32) (x8 : Vec F S256x64 .f32) (x9 : Vec F S3x64x256 .f32) (x10 : Vec F S256x64 .f32) (x11 : Vec F S64x256 .f32) (x12 : Vec F S64x1 .f32) (x13 : Vec F S1024x64 .f32) (x14 : Vec F S3x256x64 .f32) (x15 : Vec F S256x1 .f32) (x16 : Vec F S3x64x256 .f32) (x17 : Vec F S256x64 .f32) (x18 : Vec F S3x64x256 .f32) (x19 : Vec F S256x64 .f32) (x20 : Vec F S4x128x256 .f32) (x21 : Vec F S128x1 .f32) (x22 : Vec F S4x128 .f32) (x23 : Vec F S1x1 .f32) : FVec F S4x1024 .f32 :=
  k0_pay12 (View.ld x0 r0_0) -- `v45`
def k0_pay60 (x0 : Vec F S4x4x1024 .f32) (x1 : Vec F S128x4 .f32) (x2 : Vec F S128x1 .f32) (x3 : Vec F S4x256x128 .f32) (x4 : Vec F S256x1 .f32) (x5 : Vec F S3x256x256 .f32) (x6 : Vec F S256x1 .f32) (x7 : Vec F S3x64x256 .f32) (x8 : Vec F S256x64 .f32) (x9 : Vec F S3x64x256 .f32) (x10 : Vec F S256x64 .f32) (x11 : Vec F S64x256 .f32) (x12 : Vec F S64x1 .f32) (x13 : Vec F S1024x64 .f32) (x14 : Vec F S3x256x64 .f32) (x15 : Vec F S256x1 .f32) (x16 : Vec F S3x64x256 .f32) (x17 : Vec F S256x64 .f32) (x18 : Vec F S3x64x256 .f32) (x19 : Vec F S256x64 .f32) (x20 : Vec F S4x128x256 .f32) (x21 : Vec F S128x1 .f32) (x22 : Vec F S4x128 .f32) (x23 : Vec F S1x1 .f32) : FVec F S4x4096 .f32 :=
  k0_pay18 (k0_pay56 x0 x1 x2 x3 x4 x5 x6 x7 x8 x9 x10 x11 x12 x13 x14 x15 x16 x17 x18 x19 x20 x21 x22 x23) (k0_pay57 x0 x1 x2 x3 x4 x5 x6 x7 x8 x9 x10 x11 x12 x13 x14 x15 x16 x17 x18 x19 x20 x21 x22 x23) (k0_pay58 x0 x1 x2 x3 x4 x5 x6 x7 x8 x9 x10 x11 x12 x13 x14 x15 x16 x17 x18 x19 x20 x21 x22 x23) (k0_pay59 x0 x1 x2 x3 x4 x5 x6 x7 x8 x9 x10 x11 x12 x13 x14 x15 x16 x17 x18 x19 x20 x21 x22 x23) -- `v86`
def k0_pay61 (x0 : Vec F S4x4x1024 .f32) (x1 : Vec F S128x4 .f32) (x2 : Vec F S128x1 .f32) (x3 : Vec F S4x256x128 .f32) (x4 : Vec F S256x1 .f32) (x5 : Vec F S3x256x256 .f32) (x6 : Vec F S256x1 .f32) (x7 : Vec F S3x64x256 .f32) (x8 : Vec F S256x64 .f32) (x9 : Vec F S3x64x256 .f32) (x10 : Vec F S256x64 .f32) (x11 : Vec F S64x256 .f32) (x12 : Vec F S64x1 .f32) (x13 : Vec F S1024x64 .f32) (x14 : Vec F S3x256x64 .f32) (x15 : Vec F S256x1 .f32) (x16 : Vec F S3x64x256 .f32) (x17 : Vec F S256x64 .f32) (x18 : Vec F S3x64x256 .f32) (x19 : Vec F S256x64 .f32) (x20 : Vec F S4x128x256 .f32) (x21 : Vec F S128x1 .f32) (x22 : Vec F S4x128 .f32) (x23 : Vec F S1x1 .f32) : FVec F S1x4096 .f32 :=
  k0_pay19 (k0_pay56 x0 x1 x2 x3 x4 x5 x6 x7 x8 x9 x10 x11 x12 x13 x14 x15 x16 x17 x18 x19 x20 x21 x22 x23) (k0_pay57 x0 x1 x2 x3 x4 x5 x6 x7 x8 x9 x10 x11 x12 x13 x14 x15 x16 x17 x18 x19 x20 x21 x22 x23) (k0_pay58 x0 x1 x2 x3 x4 x5 x6 x7 x8 x9 x10 x11 x12 x13 x14 x15 x16 x17 x18 x19 x20 x21 x22 x23) (k0_pay59 x0 x1 x2 x3 x4 x5 x6 x7 x8 x9 x10 x11 x12 x13 x14 x15 x16 x17 x18 x19 x20 x21 x22 x23) -- `v93`
def k0_pay62 (x0 : Vec F S4x4x1024 .f32) (x1 : Vec F S128x4 .f32) (x2 : Vec F S128x1 .f32) (x3 : Vec F S4x256x128 .f32) (x4 : Vec F S256x1 .f32) (x5 : Vec F S3x256x256 .f32) (x6 : Vec F S256x1 .f32) (x7 : Vec F S3x64x256 .f32) (x8 : Vec F S256x64 .f32) (x9 : Vec F S3x64x256 .f32) (x10 : Vec F S256x64 .f32) (x11 : Vec F S64x256 .f32) (x12 : Vec F S64x1 .f32) (x13 : Vec F S1024x64 .f32) (x14 : Vec F S3x256x64 .f32) (x15 : Vec F S256x1 .f32) (x16 : Vec F S3x64x256 .f32) (x17 : Vec F S256x64 .f32) (x18 : Vec F S3x64x256 .f32) (x19 : Vec F S256x64 .f32) (x20 : Vec F S4x128x256 .f32) (x21 : Vec F S128x1 .f32) (x22 : Vec F S4x128 .f32) (x23 : Vec F S1x1 .f32) : FVec F S3x4096 .f32 :=
  k0_pay20 (k0_pay56 x0 x1 x2 x3 x4 x5 x6 x7 x8 x9 x10 x11 x12 x13 x14 x15 x16 x17 x18 x19 x20 x21 x22 x23) (k0_pay57 x0 x1 x2 x3 x4 x5 x6 x7 x8 x9 x10 x11 x12 x13 x14 x15 x16 x17 x18 x19 x20 x21 x22 x23) (k0_pay58 x0 x1 x2 x3 x4 x5 x6 x7 x8 x9 x10 x11 x12 x13 x14 x15 x16 x17 x18 x19 x20 x21 x22 x23) (k0_pay59 x0 x1 x2 x3 x4 x5 x6 x7 x8 x9 x10 x11 x12 x13 x14 x15 x16 x17 x18 x19 x20 x21 x22 x23) -- `v94`
def k0_pay63 (x0 : Vec F S4x4x1024 .f32) (x1 : Vec F S128x4 .f32) (x2 : Vec F S128x1 .f32) (x3 : Vec F S4x256x128 .f32) (x4 : Vec F S256x1 .f32) (x5 : Vec F S3x256x256 .f32) (x6 : Vec F S256x1 .f32) (x7 : Vec F S3x64x256 .f32) (x8 : Vec F S256x64 .f32) (x9 : Vec F S3x64x256 .f32) (x10 : Vec F S256x64 .f32) (x11 : Vec F S64x256 .f32) (x12 : Vec F S64x1 .f32) (x13 : Vec F S1024x64 .f32) (x14 : Vec F S3x256x64 .f32) (x15 : Vec F S256x1 .f32) (x16 : Vec F S3x64x256 .f32) (x17 : Vec F S256x64 .f32) (x18 : Vec F S3x64x256 .f32) (x19 : Vec F S256x64 .f32) (x20 : Vec F S4x128x256 .f32) (x21 : Vec F S128x1 .f32) (x22 : Vec F S4x128 .f32) (x23 : Vec F S1x1 .f32) : FVec F S256x4096 .f32 :=
  k0_pay28 (k0_pay27 (k0_pay22 (k0_pay61 x0 x1 x2 x3 x4 x5 x6 x7 x8 x9 x10 x11 x12 x13 x14 x15 x16 x17 x18 x19 x20 x21 x22 x23) (k0_pay62 x0 x1 x2 x3 x4 x5 x6 x7 x8 x9 x10 x11 x12 x13 x14 x15 x16 x17 x18 x19 x20 x21 x22 x23) (View.ld x2 r0_1) (View.ld x1 r0_2)) (k0_pay23 (k0_pay60 x0 x1 x2 x3 x4 x5 x6 x7 x8 x9 x10 x11 x12 x13 x14 x15 x16 x17 x18 x19 x20 x21 x22 x23) (View.ld x2 r0_1) (View.ld x1 r0_2)) (k0_pay24 (View.ld x3 r0_3)) (k0_pay25 (k0_pay60 x0 x1 x2 x3 x4 x5 x6 x7 x8 x9 x10 x11 x12 x13 x14 x15 x16 x17 x18 x19 x20 x21 x22 x23) (k0_pay61 x0 x1 x2 x3 x4 x5 x6 x7 x8 x9 x10 x11 x12 x13 x14 x15 x16 x17 x18 x19 x20 x21 x22 x23) (k0_pay62 x0 x1 x2 x3 x4 x5 x6 x7 x8 x9 x10 x11 x12 x13 x14 x15 x16 x17 x18 x19 x20 x21 x22 x23) (View.ld x2 r0_1) (View.ld x1 r0_2) (View.ld x1 r0_2) (View.ld x3 r0_3)) (k0_pay26 (View.ld x3 r0_3)) (View.ld x4 r0_4) (View.ld x5 r0_5)) (View.ld x6 r0_4) (View.ld x7 r0_6) (View.ld x8 r0_7) -- `v217`
def k0_pay64 (x0 : Vec F S4x4x1024 .f32) (x1 : Vec F S128x4 .f32) (x2 : Vec F S128x1 .f32) (x3 : Vec F S4x256x128 .f32) (x4 : Vec F S256x1 .f32) (x5 : Vec F S3x256x256 .f32) (x6 : Vec F S256x1 .f32) (x7 : Vec F S3x64x256 .f32) (x8 : Vec F S256x64 .f32) (x9 : Vec F S3x64x256 .f32) (x10 : Vec F S256x64 .f32) (x11 : Vec F S64x256 .f32) (x12 : Vec F S64x1 .f32) (x13 : Vec F S1024x64 .f32) (x14 : Vec F S3x256x64 .f32) (x15 : Vec F S256x1 .f32) (x16 : Vec F S3x64x256 .f32) (x17 : Vec F S256x64 .f32) (x18 : Vec F S3x64x256 .f32) (x19 : Vec F S256x64 .f32) (x20 : Vec F S4x128x256 .f32) (x21 : Vec F S128x1 .f32) (x22 : Vec F S4x128 .f32) (x23 : Vec F S1x1 .f32) : FVec F S3x64x256 .f32 :=
  k0_pay29 (View.ld x9 r0_6) -- `v219`
def k0_pay65 (x0 : Vec F S4x4x1024 .f32) (x1 : Vec F S128x4 .f32) (x2 : Vec F S128x1 .f32) (x3 : Vec F S4x256x128 .f32) (x4 : Vec F S256x1 .f32) (x5 : Vec F S3x256x256 .f32) (x6 : Vec F S256x1 .f32) (x7 : Vec F S3x64x256 .f32) (x8 : Vec F S256x64 .f32) (x9 : Vec F S3x64x256 .f32) (x10 : Vec F S256x64 .f32) (x11 : Vec F S64x256 .f32) (x12 : Vec F S64x1 .f32) (x13 : Vec F S1024x64 .f32) (x14 : Vec F S3x256x64 .f32) (x15 : Vec F S256x1 .f32) (x16 : Vec F S3x64x256 .f32) (x17 : Vec F S256x64 .f32) (x18 : Vec F S3x64x256 .f32) (x19 : Vec F S256x64 .f32) (x20 : Vec F S4x128x256 .f32) (x21 : Vec F S128x1 .f32) (x22 : Vec F S4x128 .f32) (x23 : Vec F S1x1 .f32) : FVec F S256x64 .f32 :=
  k0_pay30 (View.ld x10 r0_7) -- `v221`
def k0_pay66 (x0 : Vec F S4x4x1024 .f32) (x1 : Vec F S128x4 .f32) (x2 : Vec F S128x1 .f32) (x3 : Vec F S4x256x128 .f32) (x4 : Vec F S256x1 .f32) (x5 : Vec F S3x256x256 .f32) (x6 : Vec F S256x1 .f32) (x7 : Vec F S3x64x256 .f32) (x8 : Vec F S256x64 .f32) (x9 : Vec F S3x64x256 .f32) (x10 : Vec F S256x64 .f32) (x11 : Vec F S64x256 .f32) (x12 : Vec F S64x1 .f32) (x13 : Vec F S1024x64 .f32) (x14 : Vec F S3x256x64 .f32) (x15 : Vec F S256x1 .f32) (x16 : Vec F S3x64x256 .f32) (x17 : Vec F S256x64 .f32) (x18 : Vec F S3x64x256 .f32) (x19 : Vec F S256x64 .f32) (x20 : Vec F S4x128x256 .f32) (x21 : Vec F S128x1 .f32) (x22 : Vec F S4x128 .f32) (x23 : Vec F S1x1 .f32) : FVec F S256x4096 .f32 :=
  k0_pay31 (F := F) -- `v222`
def k0_pay67 (x0 : Vec F S4x4x1024 .f32) (x1 : Vec F S128x4 .f32) (x2 : Vec F S128x1 .f32) (x3 : Vec F S4x256x128 .f32) (x4 : Vec F S256x1 .f32) (x5 : Vec F S3x256x256 .f32) (x6 : Vec F S256x1 .f32) (x7 : Vec F S3x64x256 .f32) (x8 : Vec F S256x64 .f32) (x9 : Vec F S3x64x256 .f32) (x10 : Vec F S256x64 .f32) (x11 : Vec F S64x256 .f32) (x12 : Vec F S64x1 .f32) (x13 : Vec F S1024x64 .f32) (x14 : Vec F S3x256x64 .f32) (x15 : Vec F S256x1 .f32) (x16 : Vec F S3x64x256 .f32) (x17 : Vec F S256x64 .f32) (x18 : Vec F S3x64x256 .f32) (x19 : Vec F S256x64 .f32) (x20 : Vec F S4x128x256 .f32) (x21 : Vec F S128x1 .f32) (x22 : Vec F S4x128 .f32) (x23 : Vec F S1x1 .f32) : FVec F S64x4096 .f32 :=
  k0_pay32 (k0_pay63 x0 x1 x2 x3 x4 x5 x6 x7 x8 x9 x10 x11 x12 x13 x14 x15 x16 x17 x18 x19 x20 x21 x22 x23) (k0_pay64 x0 x1 x2 x3 x4 x5 x6 x7 x8 x9 x10 x11 x12 x13 x14 x15 x16 x17 x18 x19 x20 x21 x22 x23) (k0_pay65 x0 x1 x2 x3 x4 x5 x6 x7 x8 x9 x10 x11 x12 x13 x14 x15 x16 x17 x18 x19 x20 x21 x22 x23) (k0_pay66 x0 x1 x2 x3 x4 x5 x6 x7 x8 x9 x10 x11 x12 x13 x14 x15 x16 x17 x18 x19 x20 x21 x22 x23) (View.ld x11 r0_8) (View.ld x12 r0_9) -- `v259`
def k0_pay68 (x0 : Vec F S4x4x1024 .f32) (x1 : Vec F S128x4 .f32) (x2 : Vec F S128x1 .f32) (x3 : Vec F S4x256x128 .f32) (x4 : Vec F S256x1 .f32) (x5 : Vec F S3x256x256 .f32) (x6 : Vec F S256x1 .f32) (x7 : Vec F S3x64x256 .f32) (x8 : Vec F S256x64 .f32) (x9 : Vec F S3x64x256 .f32) (x10 : Vec F S256x64 .f32) (x11 : Vec F S64x256 .f32) (x12 : Vec F S64x1 .f32) (x13 : Vec F S1024x64 .f32) (x14 : Vec F S3x256x64 .f32) (x15 : Vec F S256x1 .f32) (x16 : Vec F S3x64x256 .f32) (x17 : Vec F S256x64 .f32) (x18 : Vec F S3x64x256 .f32) (x19 : Vec F S256x64 .f32) (x20 : Vec F S4x128x256 .f32) (x21 : Vec F S128x1 .f32) (x22 : Vec F S4x128 .f32) (x23 : Vec F S1x1 .f32) : FVec F S1024x1 .f32 :=
  k0_pay33 (View.ld x13 r0_10) -- `v263`
def k0_pay69 (x0 : Vec F S4x4x1024 .f32) (x1 : Vec F S128x4 .f32) (x2 : Vec F S128x1 .f32) (x3 : Vec F S4x256x128 .f32) (x4 : Vec F S256x1 .f32) (x5 : Vec F S3x256x256 .f32) (x6 : Vec F S256x1 .f32) (x7 : Vec F S3x64x256 .f32) (x8 : Vec F S256x64 .f32) (x9 : Vec F S3x64x256 .f32) (x10 : Vec F S256x64 .f32) (x11 : Vec F S64x256 .f32) (x12 : Vec F S64x1 .f32) (x13 : Vec F S1024x64 .f32) (x14 : Vec F S3x256x64 .f32) (x15 : Vec F S256x1 .f32) (x16 : Vec F S3x64x256 .f32) (x17 : Vec F S256x64 .f32) (x18 : Vec F S3x64x256 .f32) (x19 : Vec F S256x64 .f32) (x20 : Vec F S4x128x256 .f32) (x21 : Vec F S128x1 .f32) (x22 : Vec F S4x128 .f32) (x23 : Vec F S1x1 .f32) : FVec F S4096 .f32 :=
  k0_pay34 (k0_pay63 x0 x1 x2 x3 x4 x5 x6 x7 x8 x9 x10 x11 x12 x13 x14 x15 x16 x17 x18 x19 x20 x21 x22 x23) (k0_pay64 x0 x1 x2 x3 x4 x5 x6 x7 x8 x9 x10 x11 x12 x13 x14 x15 x16 x17 x18 x19 x20 x21 x22 x23) (k0_pay65 x0 x1 x2 x3 x4 x5 x6 x7 x8 x9 x10 x11 x12 x13 x14 x15 x16 x17 x18 x19 x20 x21 x22 x23) (k0_pay66 x0 x1 x2 x3 x4 x5 x6 x7 x8 x9 x10 x11 x12 x13 x14 x15 x16 x17 x18 x19 x20 x21 x22 x23) (View.ld x11 r0_8) (View.ld x12 r0_9) -- `v265`
def k0_pay70 (x0 : Vec F S4x4x1024 .f32) (x1 : Vec F S128x4 .f32) (x2 : Vec F S128x1 .f32) (x3 : Vec F S4x256x128 .f32) (x4 : Vec F S256x1 .f32) (x5 : Vec F S3x256x256 .f32) (x6 : Vec F S256x1 .f32) (x7 : Vec F S3x64x256 .f32) (x8 : Vec F S256x64 .f32) (x9 : Vec F S3x64x256 .f32) (x10 : Vec F S256x64 .f32) (x11 : Vec F S64x256 .f32) (x12 : Vec F S64x1 .f32) (x13 : Vec F S1024x64 .f32) (x14 : Vec F S3x256x64 .f32) (x15 : Vec F S256x1 .f32) (x16 : Vec F S3x64x256 .f32) (x17 : Vec F S256x64 .f32) (x18 : Vec F S3x64x256 .f32) (x19 : Vec F S256x64 .f32) (x20 : Vec F S4x128x256 .f32) (x21 : Vec F S128x1 .f32) (x22 : Vec F S4x128 .f32) (x23 : Vec F S1x1 .f32) : FVec F S64x4096 .f32 :=
  k0_pay37 (k0_pay67 x0 x1 x2 x3 x4 x5 x6 x7 x8 x9 x10 x11 x12 x13 x14 x15 x16 x17 x18 x19 x20 x21 x22 x23) (View.ld x13 r0_10) (k0_pay68 x0 x1 x2 x3 x4 x5 x6 x7 x8 x9 x10 x11 x12 x13 x14 x15 x16 x17 x18 x19 x20 x21 x22 x23) (k0_pay69 x0 x1 x2 x3 x4 x5 x6 x7 x8 x9 x10 x11 x12 x13 x14 x15 x16 x17 x18 x19 x20 x21 x22 x23) -- `v287`
def k0_pay71 (x0 : Vec F S4x4x1024 .f32) (x1 : Vec F S128x4 .f32) (x2 : Vec F S128x1 .f32) (x3 : Vec F S4x256x128 .f32) (x4 : Vec F S256x1 .f32) (x5 : Vec F S3x256x256 .f32) (x6 : Vec F S256x1 .f32) (x7 : Vec F S3x64x256 .f32) (x8 : Vec F S256x64 .f32) (x9 : Vec F S3x64x256 .f32) (x10 : Vec F S256x64 .f32) (x11 : Vec F S64x256 .f32) (x12 : Vec F S64x1 .f32) (x13 : Vec F S1024x64 .f32) (x14 : Vec F S3x256x64 .f32) (x15 : Vec F S256x1 .f32) (x16 : Vec F S3x64x256 .f32) (x17 : Vec F S256x64 .f32) (x18 : Vec F S3x64x256 .f32) (x19 : Vec F S256x64 .f32) (x20 : Vec F S4x128x256 .f32) (x21 : Vec F S128x1 .f32) (x22 : Vec F S4x128 .f32) (x23 : Vec F S1x1 .f32) : FVec F S256x4096 .f32 :=
  k0_pay41 (k0_pay67 x0 x1 x2 x3 x4 x5 x6 x7 x8 x9 x10 x11 x12 x13 x14 x15 x16 x17 x18 x19 x20 x21 x22 x23) (View.ld x13 r0_10) (k0_pay68 x0 x1 x2 x3 x4 x5 x6 x7 x8 x9 x10 x11 x12 x13 x14 x15 x16 x17 x18 x19 x20 x21 x22 x23) (k0_pay69 x0 x1 x2 x3 x4 x5 x6 x7 x8 x9 x10 x11 x12 x13 x14 x15 x16 x17 x18 x19 x20 x21 x22 x23) (View.ld x14 r0_11) -- `v310`
def k0_pay72 (x0 : Vec F S4x4x1024 .f32) (x1 : Vec F S128x4 .f32) (x2 : Vec F S128x1 .f32) (x3 : Vec F S4x256x128 .f32) (x4 : Vec F S256x1 .f32) (x5 : Vec F S3x256x256 .f32) (x6 : Vec F S256x1 .f32) (x7 : Vec F S3x64x256 .f32) (x8 : Vec F S256x64 .f32) (x9 : Vec F S3x64x256 .f32) (x10 : Vec F S256x64 .f32) (x11 : Vec F S64x256 .f32) (x12 : Vec F S64x1 .f32) (x13 : Vec F S1024x64 .f32) (x14 : Vec F S3x256x64 .f32) (x15 : Vec F S256x1 .f32) (x16 : Vec F S3x64x256 .f32) (x17 : Vec F S256x64 .f32) (x18 : Vec F S3x64x256 .f32) (x19 : Vec F S256x64 .f32) (x20 : Vec F S4x128x256 .f32) (x21 : Vec F S128x1 .f32) (x22 : Vec F S4x128 .f32) (x23 : Vec F S1x1 .f32) : FVec F S1x256x64 .f32 :=
  k0_pay42 (View.ld x14 r0_11) -- `v311`
def k0_pay73 (x0 : Vec F S4x4x1024 .f32) (x1 : Vec F S128x4 .f32) (x2 : Vec F S128x1 .f32) (x3 : Vec F S4x256x128 .f32) (x4 : Vec F S256x1 .f32) (x5 : Vec F S3x256x256 .f32) (x6 : Vec F S256x1 .f32) (x7 : Vec F S3x64x256 .f32) (x8 : Vec F S256x64 .f32) (x9 : Vec F S3x64x256 .f32) (x10 : Vec F S256x64 .f32) (x11 : Vec F S64x256 .f32) (x12 : Vec F S64x1 .f32) (x13 : Vec F S1024x64 .f32) (x14 : Vec F S3x256x64 .f32) (x15 : Vec F S256x1 .f32) (x16 : Vec F S3x64x256 .f32) (x17 : Vec F S256x64 .f32) (x18 : Vec F S3x64x256 .f32) (x19 : Vec F S256x64 .f32) (x20 : Vec F S4x128x256 .f32) (x21 : Vec F S128x1 .f32) (x22 : Vec F S4x128 .f32) (x23 : Vec F S1x1 .f32) : FVec F S256x4096 .f32 :=
  k0_pay46 (k0_pay43 (k0_pay70 x0 x1 x2 x3 x4 x5 x6 x7 x8 x9 x10 x11 x12 x13 x14 x15 x16 x17 x18 x19 x20 x21 x22 x23) (k0_pay71 x0 x1 x2 x3 x4 x5 x6 x7 x8 x9 x10 x11 x12 x13 x14 x15 x16 x17 x18 x19 x20 x21 x22 x23) (k0_pay72 x0 x1 x2 x3 x4 x5 x6 x7 x8 x9 x10 x11 x12 x13 x14 x15 x16 x17 x18 x19 x20 x21 x22 x23) (View.ld x15 r0_4)) (k0_pay44 (View.ld x17 r0_7)) (k0_pay45 (k0_pay70 x0 x1 x2 x3 x4 x5 x6 x7 x8 x9 x10 x11 x12 x13 x14 x15 x16 x17 x18 x19 x20 x21 x22 x23) (k0_pay71 x0 x1 x2 x3 x4 x5 x6 x7 x8 x9 x10 x11 x12 x13 x14 x15 x16 x17 x18 x19 x20 x21 x22 x23) (k0_pay72 x0 x1 x2 x3 x4 x5 x6 x7 x8 x9 x10 x11 x12 x13 x14 x15 x16 x17 x18 x19 x20 x21 x22 x23) (View.ld x15 r0_4) (View.ld x16 r0_6)) (View.ld x18 r0_6) (View.ld x19 r0_7) -- `v392`
def k0_pay74 (x0 : Vec F S4x4x1024 .f32) (x1 : Vec F S128x4 .f32) (x2 : Vec F S128x1 .f32) (x3 : Vec F S4x256x128 .f32) (x4 : Vec F S256x1 .f32) (x5 : Vec F S3x256x256 .f32) (x6 : Vec F S256x1 .f32) (x7 : Vec F S3x64x256 .f32) (x8 : Vec F S256x64 .f32) (x9 : Vec F S3x64x256 .f32) (x10 : Vec F S256x64 .f32) (x11 : Vec F S64x256 .f32) (x12 : Vec F S64x1 .f32) (x13 : Vec F S1024x64 .f32) (x14 : Vec F S3x256x64 .f32) (x15 : Vec F S256x1 .f32) (x16 : Vec F S3x64x256 .f32) (x17 : Vec F S256x64 .f32) (x18 : Vec F S3x64x256 .f32) (x19 : Vec F S256x64 .f32) (x20 : Vec F S4x128x256 .f32) (x21 : Vec F S128x1 .f32) (x22 : Vec F S4x128 .f32) (x23 : Vec F S1x1 .f32) : FVec F S4x128x256 .f32 :=
  k0_pay47 (View.ld x20 r0_12) -- `v394`

/-- Window 24's staging buffer after the body, from the input windows' blocks: its 1 store as pieces, LAST
    FIRST (Lib/Pipeline/FrameBody.lean `View.canon`; the payloads are the skeleton's and the values stated above). -/
def out0_24 (x0 : Vec F S4x4x1024 .f32) (x1 : Vec F S128x4 .f32) (x2 : Vec F S128x1 .f32) (x3 : Vec F S4x256x128 .f32) (x4 : Vec F S256x1 .f32) (x5 : Vec F S3x256x256 .f32) (x6 : Vec F S256x1 .f32) (x7 : Vec F S3x64x256 .f32) (x8 : Vec F S256x64 .f32) (x9 : Vec F S3x64x256 .f32) (x10 : Vec F S256x64 .f32) (x11 : Vec F S64x256 .f32) (x12 : Vec F S64x1 .f32) (x13 : Vec F S1024x64 .f32) (x14 : Vec F S3x256x64 .f32) (x15 : Vec F S256x1 .f32) (x16 : Vec F S3x64x256 .f32) (x17 : Vec F S256x64 .f32) (x18 : Vec F S3x64x256 .f32) (x19 : Vec F S256x64 .f32) (x20 : Vec F S4x128x256 .f32) (x21 : Vec F S128x1 .f32) (x22 : Vec F S4x128 .f32) (x23 : Vec F S1x1 .f32) : Vec F S4x4x1024 .f32 :=
  View.canon [⟨r0_0, k0_pay54 (k0_pay5 (View.ld x0 r0_0)) (k0_pay6 (View.ld x0 r0_0)) (k0_pay9 (View.ld x0 r0_0)) (k0_pay10 (View.ld x0 r0_0)) (k0_pay13 (k0_pay59 x0 x1 x2 x3 x4 x5 x6 x7 x8 x9 x10 x11 x12 x13 x14 x15 x16 x17 x18 x19 x20 x21 x22 x23)) (k0_pay14 (k0_pay59 x0 x1 x2 x3 x4 x5 x6 x7 x8 x9 x10 x11 x12 x13 x14 x15 x16 x17 x18 x19 x20 x21 x22 x23)) (k0_pay16 (k0_pay56 x0 x1 x2 x3 x4 x5 x6 x7 x8 x9 x10 x11 x12 x13 x14 x15 x16 x17 x18 x19 x20 x21 x22 x23)) (k0_pay17 (k0_pay56 x0 x1 x2 x3 x4 x5 x6 x7 x8 x9 x10 x11 x12 x13 x14 x15 x16 x17 x18 x19 x20 x21 x22 x23)) (k0_pay50 (k0_pay73 x0 x1 x2 x3 x4 x5 x6 x7 x8 x9 x10 x11 x12 x13 x14 x15 x16 x17 x18 x19 x20 x21 x22 x23) (k0_pay74 x0 x1 x2 x3 x4 x5 x6 x7 x8 x9 x10 x11 x12 x13 x14 x15 x16 x17 x18 x19 x20 x21 x22 x23) (View.ld x21 r0_1) (View.ld x22 r0_13)) (k0_pay51 (k0_pay73 x0 x1 x2 x3 x4 x5 x6 x7 x8 x9 x10 x11 x12 x13 x14 x15 x16 x17 x18 x19 x20 x21 x22 x23) (k0_pay74 x0 x1 x2 x3 x4 x5 x6 x7 x8 x9 x10 x11 x12 x13 x14 x15 x16 x17 x18 x19 x20 x21 x22 x23) (View.ld x21 r0_1) (View.ld x22 r0_13)) (k0_pay52 (k0_pay73 x0 x1 x2 x3 x4 x5 x6 x7 x8 x9 x10 x11 x12 x13 x14 x15 x16 x17 x18 x19 x20 x21 x22 x23) (k0_pay74 x0 x1 x2 x3 x4 x5 x6 x7 x8 x9 x10 x11 x12 x13 x14 x15 x16 x17 x18 x19 x20 x21 x22 x23) (View.ld x21 r0_1) (View.ld x22 r0_13)) (k0_pay53 (k0_pay73 x0 x1 x2 x3 x4 x5 x6 x7 x8 x9 x10 x11 x12 x13 x14 x15 x16 x17 x18 x19 x20 x21 x22 x23) (k0_pay74 x0 x1 x2 x3 x4 x5 x6 x7 x8 x9 x10 x11 x12 x13 x14 x15 x16 x17 x18 x19 x20 x21 x22 x23) (View.ld x21 r0_1) (View.ld x22 r0_13)) (View.ld x23 r0_14)⟩]

/-- Its stores tile the buffer (checked by evaluation), so they cover it. -/
theorem cover0_24 (p0 : Vec F S4x4x1024 .f32) (y : S4x4x1024.Idx) :
    ∃ pc ∈ ([⟨r0_0, p0⟩] : List (View.Piece (Elt F) S4x4x1024 .f32)), y ∈ pc.1.set :=
  View.cover_of_tiled [⟨r0_0, p0⟩] S4x4x1024.size (by rfl) y

/-- Window 25's staging buffer after the body, from the input windows' blocks: its 1 store as pieces, LAST
    FIRST (Lib/Pipeline/FrameBody.lean `View.canon`; the payloads are the skeleton's and the values stated above). -/
def out0_25 (x0 : Vec F S4x4x1024 .f32) (x1 : Vec F S128x4 .f32) (x2 : Vec F S128x1 .f32) (x3 : Vec F S4x256x128 .f32) (x4 : Vec F S256x1 .f32) (x5 : Vec F S3x256x256 .f32) (x6 : Vec F S256x1 .f32) (x7 : Vec F S3x64x256 .f32) (x8 : Vec F S256x64 .f32) (x9 : Vec F S3x64x256 .f32) (x10 : Vec F S256x64 .f32) (x11 : Vec F S64x256 .f32) (x12 : Vec F S64x1 .f32) (x13 : Vec F S1024x64 .f32) (x14 : Vec F S3x256x64 .f32) (x15 : Vec F S256x1 .f32) (x16 : Vec F S3x64x256 .f32) (x17 : Vec F S256x64 .f32) (x18 : Vec F S3x64x256 .f32) (x19 : Vec F S256x64 .f32) (x20 : Vec F S4x128x256 .f32) (x21 : Vec F S128x1 .f32) (x22 : Vec F S4x128 .f32) (x23 : Vec F S1x1 .f32) : Vec F S1x1x4096 .i32 :=
  View.canon [⟨r0_15, k0_pay55 (k0_pay35 (k0_pay67 x0 x1 x2 x3 x4 x5 x6 x7 x8 x9 x10 x11 x12 x13 x14 x15 x16 x17 x18 x19 x20 x21 x22 x23) (View.ld x13 r0_10) (k0_pay68 x0 x1 x2 x3 x4 x5 x6 x7 x8 x9 x10 x11 x12 x13 x14 x15 x16 x17 x18 x19 x20 x21 x22 x23) (k0_pay69 x0 x1 x2 x3 x4 x5 x6 x7 x8 x9 x10 x11 x12 x13 x14 x15 x16 x17 x18 x19 x20 x21 x22 x23))⟩]

/-- Its stores tile the buffer (checked by evaluation), so they cover it. -/
theorem cover0_25 (p0 : Vec F S1x1x4096 .i32) (y : S1x1x4096.Idx) :
    ∃ pc ∈ ([⟨r0_15, p0⟩] : List (View.Piece (Elt F) S1x1x4096 .i32)), y ∈ pc.1.set :=
  View.cover_of_tiled [⟨r0_15, p0⟩] S1x1x4096.size (by rfl) y

/-- Window 26's staging buffer after the body, from the input windows' blocks: its 1 store as pieces, LAST
    FIRST (Lib/Pipeline/FrameBody.lean `View.canon`; the payloads are the skeleton's and the values stated above). -/
def out0_26 (x0 : Vec F S4x4x1024 .f32) (x1 : Vec F S128x4 .f32) (x2 : Vec F S128x1 .f32) (x3 : Vec F S4x256x128 .f32) (x4 : Vec F S256x1 .f32) (x5 : Vec F S3x256x256 .f32) (x6 : Vec F S256x1 .f32) (x7 : Vec F S3x64x256 .f32) (x8 : Vec F S256x64 .f32) (x9 : Vec F S3x64x256 .f32) (x10 : Vec F S256x64 .f32) (x11 : Vec F S64x256 .f32) (x12 : Vec F S64x1 .f32) (x13 : Vec F S1024x64 .f32) (x14 : Vec F S3x256x64 .f32) (x15 : Vec F S256x1 .f32) (x16 : Vec F S3x64x256 .f32) (x17 : Vec F S256x64 .f32) (x18 : Vec F S3x64x256 .f32) (x19 : Vec F S256x64 .f32) (x20 : Vec F S4x128x256 .f32) (x21 : Vec F S128x1 .f32) (x22 : Vec F S4x128 .f32) (x23 : Vec F S1x1 .f32) : Vec F S1x1024x1 .f32 :=
  View.canon [⟨r0_16, k0_pay1 (k0_pay38 (k0_pay67 x0 x1 x2 x3 x4 x5 x6 x7 x8 x9 x10 x11 x12 x13 x14 x15 x16 x17 x18 x19 x20 x21 x22 x23) (View.ld x13 r0_10) (k0_pay68 x0 x1 x2 x3 x4 x5 x6 x7 x8 x9 x10 x11 x12 x13 x14 x15 x16 x17 x18 x19 x20 x21 x22 x23) (k0_pay69 x0 x1 x2 x3 x4 x5 x6 x7 x8 x9 x10 x11 x12 x13 x14 x15 x16 x17 x18 x19 x20 x21 x22 x23))⟩]

/-- Its stores tile the buffer (checked by evaluation), so they cover it. -/
theorem cover0_26 (p0 : Vec F S1x1024x1 .f32) (y : S1x1024x1.Idx) :
    ∃ pc ∈ ([⟨r0_16, p0⟩] : List (View.Piece (Elt F) S1x1024x1 .f32)), y ∈ pc.1.set :=
  View.cover_of_tiled [⟨r0_16, p0⟩] S1x1024x1.size (by rfl) y

/-- Window 27's staging buffer after the body, from the input windows' blocks: its 1 store as pieces, LAST
    FIRST (Lib/Pipeline/FrameBody.lean `View.canon`; the payloads are the skeleton's and the values stated above). -/
def out0_27 (x0 : Vec F S4x4x1024 .f32) (x1 : Vec F S128x4 .f32) (x2 : Vec F S128x1 .f32) (x3 : Vec F S4x256x128 .f32) (x4 : Vec F S256x1 .f32) (x5 : Vec F S3x256x256 .f32) (x6 : Vec F S256x1 .f32) (x7 : Vec F S3x64x256 .f32) (x8 : Vec F S256x64 .f32) (x9 : Vec F S3x64x256 .f32) (x10 : Vec F S256x64 .f32) (x11 : Vec F S64x256 .f32) (x12 : Vec F S64x1 .f32) (x13 : Vec F S1024x64 .f32) (x14 : Vec F S3x256x64 .f32) (x15 : Vec F S256x1 .f32) (x16 : Vec F S3x64x256 .f32) (x17 : Vec F S256x64 .f32) (x18 : Vec F S3x64x256 .f32) (x19 : Vec F S256x64 .f32) (x20 : Vec F S4x128x256 .f32) (x21 : Vec F S128x1 .f32) (x22 : Vec F S4x128 .f32) (x23 : Vec F S1x1 .f32) : Vec F S1x1x128 .f32 :=
  View.canon [⟨r0_17, k0_pay2 (k0_pay39 (k0_pay67 x0 x1 x2 x3 x4 x5 x6 x7 x8 x9 x10 x11 x12 x13 x14 x15 x16 x17 x18 x19 x20 x21 x22 x23) (View.ld x13 r0_10) (k0_pay68 x0 x1 x2 x3 x4 x5 x6 x7 x8 x9 x10 x11 x12 x13 x14 x15 x16 x17 x18 x19 x20 x21 x22 x23) (k0_pay69 x0 x1 x2 x3 x4 x5 x6 x7 x8 x9 x10 x11 x12 x13 x14 x15 x16 x17 x18 x19 x20 x21 x22 x23))⟩]

/-- Its stores tile the buffer (checked by evaluation), so they cover it. -/
theorem cover0_27 (p0 : Vec F S1x1x128 .f32) (y : S1x1x128.Idx) :
    ∃ pc ∈ ([⟨r0_17, p0⟩] : List (View.Piece (Elt F) S1x1x128 .f32)), y ∈ pc.1.set :=
  View.cover_of_tiled [⟨r0_17, p0⟩] S1x1x128.size (by rfl) y

/-! ## The body's triple -/

set_option maxHeartbeats 2471050 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S4x4x1024 .f32) (harg1 : arg1.IsWhole) (arg2 : Memref sig .tc .vmem S128x4 .f32) (harg2 : arg2.IsWhole) (arg3 : Memref sig .tc .vmem S128x1 .f32) (harg3 : arg3.IsWhole) (arg4 : Memref sig .tc .vmem S4x256x128 .f32) (harg4 : arg4.IsWhole) (arg5 : Memref sig .tc .vmem S256x1 .f32) (harg5 : arg5.IsWhole) (arg6 : Memref sig .tc .vmem S3x256x256 .f32) (harg6 : arg6.IsWhole) (arg7 : Memref sig .tc .vmem S256x1 .f32) (harg7 : arg7.IsWhole) (arg8 : Memref sig .tc .vmem S3x64x256 .f32) (harg8 : arg8.IsWhole) (arg9 : Memref sig .tc .vmem S256x64 .f32) (harg9 : arg9.IsWhole) (arg10 : Memref sig .tc .vmem S3x64x256 .f32) (harg10 : arg10.IsWhole) (arg11 : Memref sig .tc .vmem S256x64 .f32) (harg11 : arg11.IsWhole) (arg12 : Memref sig .tc .vmem S64x256 .f32) (harg12 : arg12.IsWhole) (arg13 : Memref sig .tc .vmem S64x1 .f32) (harg13 : arg13.IsWhole) (arg14 : Memref sig .tc .vmem S1024x64 .f32) (harg14 : arg14.IsWhole) (arg15 : Memref sig .tc .vmem S3x256x64 .f32) (harg15 : arg15.IsWhole) (arg16 : Memref sig .tc .vmem S256x1 .f32) (harg16 : arg16.IsWhole) (arg17 : Memref sig .tc .vmem S3x64x256 .f32) (harg17 : arg17.IsWhole) (arg18 : Memref sig .tc .vmem S256x64 .f32) (harg18 : arg18.IsWhole) (arg19 : Memref sig .tc .vmem S3x64x256 .f32) (harg19 : arg19.IsWhole) (arg20 : Memref sig .tc .vmem S256x64 .f32) (harg20 : arg20.IsWhole) (arg21 : Memref sig .tc .vmem S4x128x256 .f32) (harg21 : arg21.IsWhole) (arg22 : Memref sig .tc .vmem S128x1 .f32) (harg22 : arg22.IsWhole) (arg23 : Memref sig .tc .vmem S4x128 .f32) (harg23 : arg23.IsWhole) (arg24 : Memref sig .tc .vmem S1x1 .f32) (harg24 : arg24.IsWhole) (arg25 : Memref sig .tc .vmem S4x4x1024 .f32) (harg25 : arg25.IsWhole) (arg26 : Memref sig .tc .vmem S1x1x4096 .i32) (harg26 : arg26.IsWhole) (arg27 : Memref sig .tc .vmem S1x1024x1 .f32) (harg27 : arg27.IsWhole) (arg28 : Memref sig .tc .vmem S1x1x128 .f32) (harg28 : arg28.IsWhole)
    (x0 : Vec F S4x4x1024 .f32) (x1 : Vec F S128x4 .f32) (x2 : Vec F S128x1 .f32) (x3 : Vec F S4x256x128 .f32) (x4 : Vec F S256x1 .f32) (x5 : Vec F S3x256x256 .f32) (x6 : Vec F S256x1 .f32) (x7 : Vec F S3x64x256 .f32) (x8 : Vec F S256x64 .f32) (x9 : Vec F S3x64x256 .f32) (x10 : Vec F S256x64 .f32) (x11 : Vec F S64x256 .f32) (x12 : Vec F S64x1 .f32) (x13 : Vec F S1024x64 .f32) (x14 : Vec F S3x256x64 .f32) (x15 : Vec F S256x1 .f32) (x16 : Vec F S3x64x256 .f32) (x17 : Vec F S256x64 .f32) (x18 : Vec F S3x64x256 .f32) (x19 : Vec F S256x64 .f32) (x20 : Vec F S4x128x256 .f32) (x21 : Vec F S128x1 .f32) (x22 : Vec F S4x128 .f32) (x23 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare (out0_24 x0 x1 x2 x3 x4 x5 x6 x7 x8 x9 x10 x11 x12 x13 x14 x15 x16 x17 x18 x19 x20 x21 x22 x23) ∗ owns (c : Thread nD τ) arg26 fullShare (out0_25 x0 x1 x2 x3 x4 x5 x6 x7 x8 x9 x10 x11 x12 x13 x14 x15 x16 x17 x18 x19 x20 x21 x22 x23) ∗ owns (c : Thread nD τ) arg27 fullShare (out0_26 x0 x1 x2 x3 x4 x5 x6 x7 x8 x9 x10 x11 x12 x13 x14 x15 x16 x17 x18 x19 x20 x21 x22 x23) ∗ owns (c : Thread nD τ) arg28 fullShare (out0_27 x0 x1 x2 x3 x4 x5 x6 x7 x8 x9 x10 x11 x12 x13 x14 x15 x16 x17 x18 x19 x20 x21 x22 x23)) -∗ K ⟨⟩))
      ⊢ wp frame (wpE (defs₀ (F := F)) Variants.none c none) E (cc0__vqvae_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K := by
  simp only [cc0__vqvae_body_eq_skeleton]; unfold cc0__vqvae_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%d24, %f24, -, H24⟩, ⟨%d25, %f25, -, H25⟩, ⟨%d26, %f26, -, H26⟩, ⟨%d27, %f27, -, H27⟩, Hk⟩
  subst hf0 hf1 hf2 hf3 hf4 hf5 hf6 hf7 hf8 hf9 hf10 hf11 hf12 hf13 hf14 hf15 hf16 hf17 hf18 hf19 hf20 hf21 hf22 hf23
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists _; isplitr
    swap; · iexact H24
    ipureintro
    refine (View.read_writes_eq_canon _ _ _ (cover0_24 _)).trans ?_
    rfl
  isplitl [H25]
  · iexists _; isplitr
    swap; · iexact H25
    ipureintro
    refine (View.read_writes_eq_canon _ _ _ (cover0_25 _)).trans ?_
    rfl
  isplitl [H26]
  · iexists _; isplitr
    swap; · iexact H26
    ipureintro
    refine (View.read_writes_eq_canon _ _ _ (cover0_26 _)).trans ?_
    rfl
  iexists _; isplitr
  swap; · iexact H27
  ipureintro
  refine (View.read_writes_eq_canon _ _ _ (cover0_27 _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => iblk0 V c 15 t
    | ⟨16, _⟩ => iblk0 V c 16 t
    | ⟨17, _⟩ => iblk0 V c 17 t
    | ⟨18, _⟩ => iblk0 V c 18 t
    | ⟨19, _⟩ => iblk0 V c 19 t
    | ⟨20, _⟩ => iblk0 V c 20 t
    | ⟨21, _⟩ => iblk0 V c 21 t
    | ⟨22, _⟩ => iblk0 V c 22 t
    | ⟨23, _⟩ => iblk0 V c 23 t
    | ⟨24, _⟩ => out0_24 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) (iblk0 V c 23 t)
    | ⟨25, _⟩ => out0_25 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) (iblk0 V c 23 t)
    | ⟨26, _⟩ => out0_26 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) (iblk0 V c 23 t)
    | ⟨27, _⟩ => out0_27 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) (iblk0 V c 23 t)
    | ⟨_ + 28, h⟩ => absurd h (Nat.not_lt.2 (Nat.le_add_left _ _))
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) : (dat0 V c).after 14 t = iblk0 V c 14 t := by dsimp only [dat0]
theorem after0_15 (c : Dev nD) (t : Fin cfg0.N) : (dat0 V c).after 15 t = iblk0 V c 15 t := by dsimp only [dat0]
theorem after0_16 (c : Dev nD) (t : Fin cfg0.N) : (dat0 V c).after 16 t = iblk0 V c 16 t := by dsimp only [dat0]
theorem after0_17 (c : Dev nD) (t : Fin cfg0.N) : (dat0 V c).after 17 t = iblk0 V c 17 t := by dsimp only [dat0]
theorem after0_18 (c : Dev nD) (t : Fin cfg0.N) : (dat0 V c).after 18 t = iblk0 V c 18 t := by dsimp only [dat0]
theorem after0_19 (c : Dev nD) (t : Fin cfg0.N) : (dat0 V c).after 19 t = iblk0 V c 19 t := by dsimp only [dat0]
theorem after0_20 (c : Dev nD) (t : Fin cfg0.N) : (dat0 V c).after 20 t = iblk0 V c 20 t := by dsimp only [dat0]
theorem after0_21 (c : Dev nD) (t : Fin cfg0.N) : (dat0 V c).after 21 t = iblk0 V c 21 t := by dsimp only [dat0]
theorem after0_22 (c : Dev nD) (t : Fin cfg0.N) : (dat0 V c).after 22 t = iblk0 V c 22 t := by dsimp only [dat0]
theorem after0_23 (c : Dev nD) (t : Fin cfg0.N) : (dat0 V c).after 23 t = iblk0 V c 23 t := by dsimp only [dat0]
theorem after0_24 (c : Dev nD) (t : Fin cfg0.N) : (dat0 V c).after 24 t = out0_24 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) (iblk0 V c 23 t) := by dsimp only [dat0]
theorem after0_25 (c : Dev nD) (t : Fin cfg0.N) : (dat0 V c).after 25 t = out0_25 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) (iblk0 V c 23 t) := by dsimp only [dat0]
theorem after0_26 (c : Dev nD) (t : Fin cfg0.N) : (dat0 V c).after 26 t = out0_26 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) (iblk0 V c 23 t) := by dsimp only [dat0]
theorem after0_27 (c : Dev nD) (t : Fin cfg0.N) : (dat0 V c).after 27 t = out0_27 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) (iblk0 V c 23 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d
theorem before0_12 (c : Dev nD) (t : Fin cfg0.N) (d) : (dat0 V c).before 12 t d = iblk0 V c 12 t :=
  before0_12_of V (dat0 V c) (A_eq0 V c 12) (after0_12 V c) t d
theorem before0_13 (c : Dev nD) (t : Fin cfg0.N) (d) : (dat0 V c).before 13 t d = iblk0 V c 13 t :=
  before0_13_of V (dat0 V c) (A_eq0 V c 13) (after0_13 V c) t d
theorem before0_14 (c : Dev nD) (t : Fin cfg0.N) (d) : (dat0 V c).before 14 t d = iblk0 V c 14 t :=
  before0_14_of V (dat0 V c) (A_eq0 V c 14) (after0_14 V c) t d
theorem before0_15 (c : Dev nD) (t : Fin cfg0.N) (d) : (dat0 V c).before 15 t d = iblk0 V c 15 t :=
  before0_15_of V (dat0 V c) (A_eq0 V c 15) (after0_15 V c) t d
theorem before0_16 (c : Dev nD) (t : Fin cfg0.N) (d) : (dat0 V c).before 16 t d = iblk0 V c 16 t :=
  before0_16_of V (dat0 V c) (A_eq0 V c 16) (after0_16 V c) t d
theorem before0_17 (c : Dev nD) (t : Fin cfg0.N) (d) : (dat0 V c).before 17 t d = iblk0 V c 17 t :=
  before0_17_of V (dat0 V c) (A_eq0 V c 17) (after0_17 V c) t d
theorem before0_18 (c : Dev nD) (t : Fin cfg0.N) (d) : (dat0 V c).before 18 t d = iblk0 V c 18 t :=
  before0_18_of V (dat0 V c) (A_eq0 V c 18) (after0_18 V c) t d
theorem before0_19 (c : Dev nD) (t : Fin cfg0.N) (d) : (dat0 V c).before 19 t d = iblk0 V c 19 t :=
  before0_19_of V (dat0 V c) (A_eq0 V c 19) (after0_19 V c) t d
theorem before0_20 (c : Dev nD) (t : Fin cfg0.N) (d) : (dat0 V c).before 20 t d = iblk0 V c 20 t :=
  before0_20_of V (dat0 V c) (A_eq0 V c 20) (after0_20 V c) t d
theorem before0_21 (c : Dev nD) (t : Fin cfg0.N) (d) : (dat0 V c).before 21 t d = iblk0 V c 21 t :=
  before0_21_of V (dat0 V c) (A_eq0 V c 21) (after0_21 V c) t d
theorem before0_22 (c : Dev nD) (t : Fin cfg0.N) (d) : (dat0 V c).before 22 t d = iblk0 V c 22 t :=
  before0_22_of V (dat0 V c) (A_eq0 V c 22) (after0_22 V c) t d
theorem before0_23 (c : Dev nD) (t : Fin cfg0.N) (d) : (dat0 V c).before 23 t d = iblk0 V c 23 t :=
  before0_23_of V (dat0 V c) (A_eq0 V c 23) (after0_23 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d))
    ∗ (∃ d, owns (c : Thread nD τ) (st0_16 t) fullShare ((dat0 V c).before 16 t d))
    ∗ (∃ d, owns (c : Thread nD τ) (st0_17 t) fullShare ((dat0 V c).before 17 t d))
    ∗ (∃ d, owns (c : Thread nD τ) (st0_18 t) fullShare ((dat0 V c).before 18 t d))
    ∗ (∃ d, owns (c : Thread nD τ) (st0_19 t) fullShare ((dat0 V c).before 19 t d))
    ∗ (∃ d, owns (c : Thread nD τ) (st0_20 t) fullShare ((dat0 V c).before 20 t d))
    ∗ (∃ d, owns (c : Thread nD τ) (st0_21 t) fullShare ((dat0 V c).before 21 t d))
    ∗ (∃ d, owns (c : Thread nD τ) (st0_22 t) fullShare ((dat0 V c).before 22 t d))
    ∗ (∃ d, owns (c : Thread nD τ) (st0_23 t) fullShare ((dat0 V c).before 23 t d))
    ∗ (∃ d, owns (c : Thread nD τ) (st0_24 t) fullShare ((dat0 V c).before 24 t d))
    ∗ (∃ d, owns (c : Thread nD τ) (st0_25 t) fullShare ((dat0 V c).before 25 t d))
    ∗ (∃ d, owns (c : Thread nD τ) (st0_26 t) fullShare ((dat0 V c).before 26 t d))
    ∗ (∃ d, owns (c : Thread nD τ) (st0_27 t) fullShare ((dat0 V c).before 27 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t)
    ∗ owns (c : Thread nD τ) (st0_16 t) fullShare ((dat0 V c).after 16 t)
    ∗ owns (c : Thread nD τ) (st0_17 t) fullShare ((dat0 V c).after 17 t)
    ∗ owns (c : Thread nD τ) (st0_18 t) fullShare ((dat0 V c).after 18 t)
    ∗ owns (c : Thread nD τ) (st0_19 t) fullShare ((dat0 V c).after 19 t)
    ∗ owns (c : Thread nD τ) (st0_20 t) fullShare ((dat0 V c).after 20 t)
    ∗ owns (c : Thread nD τ) (st0_21 t) fullShare ((dat0 V c).after 21 t)
    ∗ owns (c : Thread nD τ) (st0_22 t) fullShare ((dat0 V c).after 22 t)
    ∗ owns (c : Thread nD τ) (st0_23 t) fullShare ((dat0 V c).after 23 t)
    ∗ owns (c : Thread nD τ) (st0_24 t) fullShare ((dat0 V c).after 24 t)
    ∗ owns (c : Thread nD τ) (st0_25 t) fullShare ((dat0 V c).after 25 t)
    ∗ owns (c : Thread nD τ) (st0_26 t) fullShare ((dat0 V c).after 26 t)
    ∗ owns (c : Thread nD τ) (st0_27 t) fullShare ((dat0 V c).after 27 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
  iapply (sound_kernel0 c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) (iblk0 V c 23 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexists _; iexact H24
  isplitl [H25]; · iexists _; iexact H25
  isplitl [H26]; · iexists _; iexact H26
  isplitl [H27]; · iexists _; iexact H27
  iintro ⟨H0, H1, H2, H3, H4, H5, H6, H7, H8, H9, H10, H11, H12, H13, H14, H15, H16, H17, H18, H19, H20, H21, H22, H23, H24, H25, H26, H27⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  iexact H27

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1__finalize_body` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S8x1x128 := Rect.unit (s := S8x1x128) ![0, 0, 0] S8x1x128.size inb_S8x1x128_S8x1x128_0_0_0
abbrev r1_1 : Rect S8x1024x1 := Rect.unit (s := S8x1024x1) ![0, 0, 0] S8x1024x1.size inb_S8x1024x1_S8x1024x1_0_0_0
abbrev r1_2 : Rect S1x1 := Rect.unit (s := S1x1) ![0, 0] S1x1.size inb_S1x1_S1x1_0_0

/-! ## What the body leaves in each output window's buffer -/

/-- Window 2's staging buffer after the body, from the input windows' blocks: its 1 store as pieces, LAST
    FIRST (Lib/Pipeline/FrameBody.lean `View.canon`; the payloads are the skeleton's). -/
def out1_2 (x0 : Vec F S8x1024x1 .f32) (x1 : Vec F S8x1x128 .f32) : Vec F S1x1 .f32 :=
  View.canon [⟨r1_2, k1_pay1 (View.ld x1 r1_0)⟩]

/-- Its stores tile the buffer (checked by evaluation), so they cover it. -/
theorem cover1_2 (p0 : Vec F S1x1 .f32) (y : S1x1.Idx) :
    ∃ pc ∈ ([⟨r1_2, p0⟩] : List (View.Piece (Elt F) S1x1 .f32)), y ∈ pc.1.set :=
  View.cover_of_tiled [⟨r1_2, p0⟩] S1x1.size (by rfl) y

/-- Window 3's staging buffer after the body, from the input windows' blocks: its 1 store as pieces, LAST
    FIRST (Lib/Pipeline/FrameBody.lean `View.canon`; the payloads are the skeleton's). -/
def out1_3 (x0 : Vec F S8x1024x1 .f32) (x1 : Vec F S8x1x128 .f32) : Vec F S1x1 .f32 :=
  View.canon [⟨r1_2, k1_pay2 (View.ld x0 r1_1)⟩]

/-- Its stores tile the buffer (checked by evaluation), so they cover it. -/
theorem cover1_3 (p0 : Vec F S1x1 .f32) (y : S1x1.Idx) :
    ∃ pc ∈ ([⟨r1_2, p0⟩] : List (View.Piece (Elt F) S1x1 .f32)), y ∈ pc.1.set :=
  View.cover_of_tiled [⟨r1_2, p0⟩] S1x1.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (arg0 : Memref sig .tc .vmem S8x1024x1 .f32) (harg0 : arg0.IsWhole) (arg1 : Memref sig .tc .vmem S8x1x128 .f32) (harg1 : arg1.IsWhole) (arg2 : Memref sig .tc .vmem S1x1 .f32) (harg2 : arg2.IsWhole) (arg3 : Memref sig .tc .vmem S1x1 .f32) (harg3 : arg3.IsWhole)
    (x0 : Vec F S8x1024x1 .f32) (x1 : Vec F S8x1x128 .f32) (K : PUnit → sProp 𝕄) :
    iprop(owns (c : Thread nD τ) arg0 fullShare x0 ∗ owns (c : Thread nD τ) arg1 fullShare x1 ∗ (∃ d, owns (c : Thread nD τ) arg2 fullShare d) ∗ (∃ d, owns (c : Thread nD τ) arg3 fullShare d)
        ∗ (iprop(owns (c : Thread nD τ) arg0 fullShare x0 ∗ owns (c : Thread nD τ) arg1 fullShare x1 ∗ owns (c : Thread nD τ) arg2 fullShare (out1_2 x0 x1) ∗ owns (c : Thread nD τ) arg3 fullShare (out1_3 x0 x1)) -∗ K ⟨⟩))
      ⊢ wp frame (wpE (defs₀ (F := F)) Variants.none c none) E (cc1__finalize_body arg0 harg0 arg1 harg1 arg2 harg2 arg3 harg3) K := by
  simp only [cc1__finalize_body_eq_skeleton]; unfold cc1__finalize_body_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover1_2 _)
  iexists _; isplitr
  swap; · iexact H3
  ipureintro
  exact View.read_writes_eq_canon _ _ _ (cover1_3 _)

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
    | ⟨3, _⟩ => out1_3 (iblk1 V c 0 t) (iblk1 V c 1 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem after1_3 (c : Dev nD) (t : Fin cfg1.N) : (dat1 V c).after 3 t = out1_3 (iblk1 V c 0 t) (iblk1 V c 1 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ (iblk1 V c 0 t) (iblk1 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v27, main_v28, main_v29, main_v30, main_v31, main_v32]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2`. -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)
theorem W4_main_arg3 (c : Dev nD) : W4 m ρ c (Proc.devRef .tc main_arg3) = m ((c : Thread nD τ).loc main_arg3) :=
  W4_args m ρ c main_arg3 (by decide)
theorem W4_main_arg4 (c : Dev nD) : W4 m ρ c (Proc.devRef .tc main_arg4) = m ((c : Thread nD τ).loc main_arg4) :=
  W4_args m ρ c main_arg4 (by decide)
theorem W4_main_arg5 (c : Dev nD) : W4 m ρ c (Proc.devRef .tc main_arg5) = m ((c : Thread nD τ).loc main_arg5) :=
  W4_args m ρ c main_arg5 (by decide)
theorem W4_main_arg6 (c : Dev nD) : W4 m ρ c (Proc.devRef .tc main_arg6) = m ((c : Thread nD τ).loc main_arg6) :=
  W4_args m ρ c main_arg6 (by decide)
theorem W4_main_arg7 (c : Dev nD) : W4 m ρ c (Proc.devRef .tc main_arg7) = m ((c : Thread nD τ).loc main_arg7) :=
  W4_args m ρ c main_arg7 (by decide)
theorem W4_main_arg8 (c : Dev nD) : W4 m ρ c (Proc.devRef .tc main_arg8) = m ((c : Thread nD τ).loc main_arg8) :=
  W4_args m ρ c main_arg8 (by decide)
theorem W4_main_arg9 (c : Dev nD) : W4 m ρ c (Proc.devRef .tc main_arg9) = m ((c : Thread nD τ).loc main_arg9) :=
  W4_args m ρ c main_arg9 (by decide)
theorem W4_main_arg10 (c : Dev nD) : W4 m ρ c (Proc.devRef .tc main_arg10) = m ((c : Thread nD τ).loc main_arg10) :=
  W4_args m ρ c main_arg10 (by decide)
theorem W4_main_arg11 (c : Dev nD) : W4 m ρ c (Proc.devRef .tc main_arg11) = m ((c : Thread nD τ).loc main_arg11) :=
  W4_args m ρ c main_arg11 (by decide)
theorem W4_main_arg12 (c : Dev nD) : W4 m ρ c (Proc.devRef .tc main_arg12) = m ((c : Thread nD τ).loc main_arg12) :=
  W4_args m ρ c main_arg12 (by decide)
theorem W4_main_arg13 (c : Dev nD) : W4 m ρ c (Proc.devRef .tc main_arg13) = m ((c : Thread nD τ).loc main_arg13) :=
  W4_args m ρ c main_arg13 (by decide)
theorem W4_main_arg14 (c : Dev nD) : W4 m ρ c (Proc.devRef .tc main_arg14) = m ((c : Thread nD τ).loc main_arg14) :=
  W4_args m ρ c main_arg14 (by decide)
theorem W4_main_arg15 (c : Dev nD) : W4 m ρ c (Proc.devRef .tc main_arg15) = m ((c : Thread nD τ).loc main_arg15) :=
  W4_args m ρ c main_arg15 (by decide)
theorem W4_main_arg16 (c : Dev nD) : W4 m ρ c (Proc.devRef .tc main_arg16) = m ((c : Thread nD τ).loc main_arg16) :=
  W4_args m ρ c main_arg16 (by decide)
theorem W4_main_arg17 (c : Dev nD) : W4 m ρ c (Proc.devRef .tc main_arg17) = m ((c : Thread nD τ).loc main_arg17) :=
  W4_args m ρ c main_arg17 (by decide)
theorem W4_main_arg18 (c : Dev nD) : W4 m ρ c (Proc.devRef .tc main_arg18) = m ((c : Thread nD τ).loc main_arg18) :=
  W4_args m ρ c main_arg18 (by decide)
theorem W4_main_arg19 (c : Dev nD) : W4 m ρ c (Proc.devRef .tc main_arg19) = m ((c : Thread nD τ).loc main_arg19) :=
  W4_args m ρ c main_arg19 (by decide)
theorem W4_main_arg20 (c : Dev nD) : W4 m ρ c (Proc.devRef .tc main_arg20) = m ((c : Thread nD τ).loc main_arg20) :=
  W4_args m ρ c main_arg20 (by decide)
theorem W4_main_arg21 (c : Dev nD) : W4 m ρ c (Proc.devRef .tc main_arg21) = m ((c : Thread nD τ).loc main_arg21) :=
  W4_args m ρ c main_arg21 (by decide)
theorem W4_main_arg22 (c : Dev nD) : W4 m ρ c (Proc.devRef .tc main_arg22) = m ((c : Thread nD τ).loc main_arg22) :=
  W4_args m ρ c main_arg22 (by decide)
theorem W4_main_arg23 (c : Dev nD) : W4 m ρ c (Proc.devRef .tc main_arg23) = m ((c : Thread nD τ).loc main_arg23) :=
  W4_args m ρ c main_arg23 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: from any memory with zero counters, every weakly fair execution of @main on the TensorCores terminates,
    nothing faulting, and every final state has each unscoped buffer at the last boundary's contents `W4` and every
    semaphore counter of the machine at zero: the kit's launch over the segments, the last thread state read against the
    final state (`pointsTo_read_all`). -/
theorem run : θ_run defs (onTc (τ := τ) (main (F := F))) ⟨m, fun _ => 0, ρ⟩ (fun r =>
      (∀ c : Dev nD, ∀ b ∈ Pipeline.ucRefs τ sig, r.2.mem (((c : Thread nD τ)).1, b) = W4 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- THE FRAME: the argument arrays end as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23))
      ∧ r.2.sem = fun _ => 0) :=
  (θ_run defs _ _).mono (fun _ hr => ⟨fun c =>
    have h := hr.1
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c),
     (h c _ (mem_uc main_arg11 (by decide))).trans (W4_main_arg11 m ρ c),
     (h c _ (mem_uc main_arg12 (by decide))).trans (W4_main_arg12 m ρ c),
     (h c _ (mem_uc main_arg13 (by decide))).trans (W4_main_arg13 m ρ c),
     (h c _ (mem_uc main_arg14 (by decide))).trans (W4_main_arg14 m ρ c),
     (h c _ (mem_uc main_arg15 (by decide))).trans (W4_main_arg15 m ρ c),
     (h c _ (mem_uc main_arg16 (by decide))).trans (W4_main_arg16 m ρ c),
     (h c _ (mem_uc main_arg17 (by decide))).trans (W4_main_arg17 m ρ c),
     (h c _ (mem_uc main_arg18 (by decide))).trans (W4_main_arg18 m ρ c),
     (h c _ (mem_uc main_arg19 (by decide))).trans (W4_main_arg19 m ρ c),
     (h c _ (mem_uc main_arg20 (by decide))).trans (W4_main_arg20 m ρ c),
     (h c _ (mem_uc main_arg21 (by decide))).trans (W4_main_arg21 m ρ c),
     (h c _ (mem_uc main_arg22 (by decide))).trans (W4_main_arg22 m ρ c),
     (h c _ (mem_uc main_arg23 (by decide))).trans (W4_main_arg23 m ρ c)⟩, hr.2⟩) (run m ρ)

end Cert.KernelIdeal.Gen

end
-- ==== Proof.RefRun.lean ====
/- The run of the reference: @main is a straight line of host operations, cut here at its layers into sixteen
   lists. Every buffer ends at the operations' results folded over the launch contents. -/
module

public import Idealize.ShloMosaic.Lib.StableHlo.Run
public import Idealize.ShloMosaic.Lib.StableHlo.RunRead
public import proofs.«01_k».proof.Proof.Gen.ReferenceIdeal

@[expose] public section

set_option maxRecDepth 16384
set_option maxHeartbeats 4000000

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- The operations of the means, deviations and the normalised signal. -/
abbrev ops0 : List (HloOp τ sig (Elt F)) :=
  [ nullary main_cst (constant S_ .f32 0x00000000#32),
    binary main_arg0 main_cst main_v0 ((fun x v => Host.reduceAdd x v reducesTo_S32x1x4096_S32x1_d2 h_S_)),
    unary main_v0 main_v1 (broadcastInDim S32x1x1 ![0, 1] bcast_S32x1_S32x1x1_0_1),
    nullary main_cst_0 (constant S_ .f32 0x45800000#32),
    unary main_cst_0 main_v2 (broadcastInDim S32x1x1 ![] bcast_S_S32x1x1),
    binary main_v1 main_v2 main_v3 (Host.divf),
    unary main_v3 main_v4 (broadcastInDim S32x1x4096 ![0, 1, 2] bcast_S32x1x1_S32x1x4096_0_1_2),
    binary main_arg0 main_v4 main_v5 (subf),
    binary main_v5 main_v5 main_v6 (mulf),
    nullary main_cst_1 (constant S_ .f32 0x00000000#32),
    binary main_v6 main_cst_1 main_v7 ((fun x v => Host.reduceAdd x v reducesTo_S32x1x4096_S32x1_d2 h_S_)),
    unary main_v7 main_v8 (broadcastInDim S32x1x1 ![0, 1] bcast_S32x1_S32x1x1_0_1),
    nullary main_cst_2 (constant S_ .f32 0x45800000#32),
    unary main_cst_2 main_v9 (broadcastInDim S32x1x1 ![] bcast_S_S32x1x1),
    binary main_v8 main_v9 main_v10 (Host.divf),
    nullary main_cst_3 (constant S_ .f32 0x3727C5AC#32),
    unary main_cst_3 main_v11 (broadcastInDim S32x1x1 ![] bcast_S_S32x1x1),
    binary main_v10 main_v11 main_v12 (addf),
    unary main_v12 main_v13 (Host.sqrt),
    unary main_v3 main_v14 (broadcastInDim S32x1x4096 ![0, 1, 2] bcast_S32x1x1_S32x1x4096_0_1_2),
    binary main_arg0 main_v14 main_v15 (subf),
    unary main_v13 main_v16 (broadcastInDim S32x1x4096 ![0, 1, 2] bcast_S32x1x1_S32x1x4096_0_1_2),
    binary main_v15 main_v16 main_v17 (Host.divf) ]

/-- The operations of the first convolution. -/
abbrev ops1 : List (HloOp τ sig (Elt F)) :=
  [ nullary main_cst_4 (constant S_ .f32 0x00000000#32),
    binary main_v17 main_cst_4 main_v18 ((fun x v => pad S32x1x4098 ![0, 0, 1] ![0, 0, 1] ![0, 0, 0] x v pads_S32x1x4096_S32x1x4098_000_000_110 h_S_)),
    unary main_v18 main_v19 ((Host.slice S32x1x2048 ![0, 0, 0] ![1, 1, 2] · slicesBy_S32x1x4098_S32x1x2048_0s1_0s1_0s2)),
    unary main_arg1 main_v20 ((extractStridedSlice S128x1x1 ![0, 0, 0] · slices_S128x1x4_S128x1x1_0_0_0)),
    reshape main_v20 main_v21 (rfl : (.f32 : EltTy) = .f32) shapeCasts_S128x1x1_S128x1,
    binary main_v19 main_v21 main_v22 ((fun l r => Host.dotGeneral dot_S32x1x2048_S128x1_S32x2048x128_1_1_02_0_n_n none l r)),
    unary main_v22 main_v23 ((transpose S32x128x2048 [0, 2, 1] · transposes_S32x2048x128_S32x128x2048_0_2_1)),
    unary main_v18 main_v24 ((Host.slice S32x1x2048 ![0, 0, 1] ![1, 1, 2] · slicesBy_S32x1x4098_S32x1x2048_0s1_0s1_1s2)),
    unary main_arg1 main_v25 ((extractStridedSlice S128x1x1 ![0, 0, 1] · slices_S128x1x4_S128x1x1_0_0_1)),
    reshape main_v25 main_v26 (rfl : (.f32 : EltTy) = .f32) shapeCasts_S128x1x1_S128x1,
    binary main_v24 main_v26 main_v27 ((fun l r => Host.dotGeneral dot_S32x1x2048_S128x1_S32x2048x128_1_1_02_0_n_n none l r)),
    unary main_v27 main_v28 ((transpose S32x128x2048 [0, 2, 1] · transposes_S32x2048x128_S32x128x2048_0_2_1)),
    binary main_v23 main_v28 main_v29 (addf),
    unary main_v18 main_v30 ((Host.slice S32x1x2048 ![0, 0, 2] ![1, 1, 2] · slicesBy_S32x1x4098_S32x1x2048_0s1_0s1_2s2)),
    unary main_arg1 main_v31 ((extractStridedSlice S128x1x1 ![0, 0, 2] · slices_S128x1x4_S128x1x1_0_0_2)),
    reshape main_v31 main_v32 (rfl : (.f32 : EltTy) = .f32) shapeCasts_S128x1x1_S128x1,
    binary main_v30 main_v32 main_v33 ((fun l r => Host.dotGeneral dot_S32x1x2048_S128x1_S32x2048x128_1_1_02_0_n_n none l r)),
    unary main_v33 main_v34 ((transpose S32x128x2048 [0, 2, 1] · transposes_S32x2048x128_S32x128x2048_0_2_1)),
    binary main_v29 main_v34 main_v35 (addf),
    unary main_v18 main_v36 ((Host.slice S32x1x2048 ![0, 0, 3] ![1, 1, 2] · slicesBy_S32x1x4098_S32x1x2048_0s1_0s1_3s2)),
    unary main_arg1 main_v37 ((extractStridedSlice S128x1x1 ![0, 0, 3] · slices_S128x1x4_S128x1x1_0_0_3)),
    reshape main_v37 main_v38 (rfl : (.f32 : EltTy) = .f32) shapeCasts_S128x1x1_S128x1,
    binary main_v36 main_v38 main_v39 ((fun l r => Host.dotGeneral dot_S32x1x2048_S128x1_S32x2048x128_1_1_02_0_n_n none l r)),
    unary main_v39 main_v40 ((transpose S32x128x2048 [0, 2, 1] · transposes_S32x2048x128_S32x128x2048_0_2_1)),
    binary main_v35 main_v40 main_v41 (addf),
    unary main_arg2 main_v42 (broadcastInDim S1x128x1 ![1] bcast_S128_S1x128x1_1),
    unary main_v42 main_v43 (broadcastInDim S32x128x2048 ![0, 1, 2] bcast_S1x128x1_S32x128x2048_0_1_2),
    binary main_v41 main_v43 main_v44 (addf),
    nullary main_cst_5 (constant S_ .f32 0x00000000#32),
    unary main_cst_5 main_v45 (broadcastInDim S32x128x2048 ![] bcast_S_S32x128x2048),
    binary main_v44 main_v45 main_v46 (maximumf) ]

/-- The operations of the second convolution. -/
abbrev ops2 : List (HloOp τ sig (Elt F)) :=
  [ nullary main_cst_6 (constant S_ .f32 0x00000000#32),
    binary main_v46 main_cst_6 main_v47 ((fun x v => pad S32x128x2050 ![0, 0, 1] ![0, 0, 1] ![0, 0, 0] x v pads_S32x128x2048_S32x128x2050_000_000_110 h_S_)),
    unary main_v47 main_v48 ((Host.slice S32x128x1024 ![0, 0, 0] ![1, 1, 2] · slicesBy_S32x128x2050_S32x128x1024_0s1_0s1_0s2)),
    unary main_arg3 main_v49 ((extractStridedSlice S256x128x1 ![0, 0, 0] · slices_S256x128x4_S256x128x1_0_0_0)),
    reshape main_v49 main_v50 (rfl : (.f32 : EltTy) = .f32) shapeCasts_S256x128x1_S256x128,
    binary main_v48 main_v50 main_v51 ((fun l r => Host.dotGeneral dot_S32x128x1024_S256x128_S32x1024x256_1_1_02_0_n_n none l r)),
    unary main_v51 main_v52 ((transpose S32x256x1024 [0, 2, 1] · transposes_S32x1024x256_S32x256x1024_0_2_1)),
    unary main_v47 main_v53 ((Host.slice S32x128x1024 ![0, 0, 1] ![1, 1, 2] · slicesBy_S32x128x2050_S32x128x1024_0s1_0s1_1s2)),
    unary main_arg3 main_v54 ((extractStridedSlice S256x128x1 ![0, 0, 1] · slices_S256x128x4_S256x128x1_0_0_1)),
    reshape main_v54 main_v55 (rfl : (.f32 : EltTy) = .f32) shapeCasts_S256x128x1_S256x128,
    binary main_v53 main_v55 main_v56 ((fun l r => Host.dotGeneral dot_S32x128x1024_S256x128_S32x1024x256_1_1_02_0_n_n none l r)),
    unary main_v56 main_v57 ((transpose S32x256x1024 [0, 2, 1] · transposes_S32x1024x256_S32x256x1024_0_2_1)),
    binary main_v52 main_v57 main_v58 (addf),
    unary main_v47 main_v59 ((Host.slice S32x128x1024 ![0, 0, 2] ![1, 1, 2] · slicesBy_S32x128x2050_S32x128x1024_0s1_0s1_2s2)),
    unary main_arg3 main_v60 ((extractStridedSlice S256x128x1 ![0, 0, 2] · slices_S256x128x4_S256x128x1_0_0_2)),
    reshape main_v60 main_v61 (rfl : (.f32 : EltTy) = .f32) shapeCasts_S256x128x1_S256x128,
    binary main_v59 main_v61 main_v62 ((fun l r => Host.dotGeneral dot_S32x128x1024_S256x128_S32x1024x256_1_1_02_0_n_n none l r)),
    unary main_v62 main_v63 ((transpose S32x256x1024 [0, 2, 1] · transposes_S32x1024x256_S32x256x1024_0_2_1)),
    binary main_v58 main_v63 main_v64 (addf),
    unary main_v47 main_v65 ((Host.slice S32x128x1024 ![0, 0, 3] ![1, 1, 2] · slicesBy_S32x128x2050_S32x128x1024_0s1_0s1_3s2)),
    unary main_arg3 main_v66 ((extractStridedSlice S256x128x1 ![0, 0, 3] · slices_S256x128x4_S256x128x1_0_0_3)),
    reshape main_v66 main_v67 (rfl : (.f32 : EltTy) = .f32) shapeCasts_S256x128x1_S256x128,
    binary main_v65 main_v67 main_v68 ((fun l r => Host.dotGeneral dot_S32x128x1024_S256x128_S32x1024x256_1_1_02_0_n_n none l r)),
    unary main_v68 main_v69 ((transpose S32x256x1024 [0, 2, 1] · transposes_S32x1024x256_S32x256x1024_0_2_1)),
    binary main_v64 main_v69 main_v70 (addf),
    unary main_arg4 main_v71 (broadcastInDim S1x256x1 ![1] bcast_S256_S1x256x1_1),
    unary main_v71 main_v72 (broadcastInDim S32x256x1024 ![0, 1, 2] bcast_S1x256x1_S32x256x1024_0_1_2),
    binary main_v70 main_v72 main_v73 (addf),
    nullary main_cst_7 (constant S_ .f32 0x00000000#32),
    unary main_cst_7 main_v74 (broadcastInDim S32x256x1024 ![] bcast_S_S32x256x1024),
    binary main_v73 main_v74 main_v75 (maximumf) ]

/-- The operations of the third convolution. -/
abbrev ops3 : List (HloOp τ sig (Elt F)) :=
  [ nullary main_cst_8 (constant S_ .f32 0x00000000#32),
    binary main_v75 main_cst_8 main_v76 ((fun x v => pad S32x256x1026 ![0, 0, 1] ![0, 0, 1] ![0, 0, 0] x v pads_S32x256x1024_S32x256x1026_000_000_110 h_S_)),
    unary main_v76 main_v77 ((extractStridedSlice S32x256x1024 ![0, 0, 0] · slices_S32x256x1026_S32x256x1024_0_0_0)),
    unary main_arg5 main_v78 ((extractStridedSlice S256x256x1 ![0, 0, 0] · slices_S256x256x3_S256x256x1_0_0_0)),
    reshape main_v78 main_v79 (rfl : (.f32 : EltTy) = .f32) shapeCasts_S256x256x1_S256x256,
    binary main_v77 main_v79 main_v80 ((fun l r => Host.dotGeneral dot_S32x256x1024_S256x256_S32x1024x256_1_1_02_0_n_n none l r)),
    unary main_v80 main_v81 ((transpose S32x256x1024 [0, 2, 1] · transposes_S32x1024x256_S32x256x1024_0_2_1)),
    unary main_v76 main_v82 ((extractStridedSlice S32x256x1024 ![0, 0, 1] · slices_S32x256x1026_S32x256x1024_0_0_1)),
    unary main_arg5 main_v83 ((extractStridedSlice S256x256x1 ![0, 0, 1] · slices_S256x256x3_S256x256x1_0_0_1)),
    reshape main_v83 main_v84 (rfl : (.f32 : EltTy) = .f32) shapeCasts_S256x256x1_S256x256,
    binary main_v82 main_v84 main_v85 ((fun l r => Host.dotGeneral dot_S32x256x1024_S256x256_S32x1024x256_1_1_02_0_n_n none l r)),
    unary main_v85 main_v86 ((transpose S32x256x1024 [0, 2, 1] · transposes_S32x1024x256_S32x256x1024_0_2_1)),
    binary main_v81 main_v86 main_v87 (addf),
    unary main_v76 main_v88 ((extractStridedSlice S32x256x1024 ![0, 0, 2] · slices_S32x256x1026_S32x256x1024_0_0_2)),
    unary main_arg5 main_v89 ((extractStridedSlice S256x256x1 ![0, 0, 2] · slices_S256x256x3_S256x256x1_0_0_2)),
    reshape main_v89 main_v90 (rfl : (.f32 : EltTy) = .f32) shapeCasts_S256x256x1_S256x256,
    binary main_v88 main_v90 main_v91 ((fun l r => Host.dotGeneral dot_S32x256x1024_S256x256_S32x1024x256_1_1_02_0_n_n none l r)),
    unary main_v91 main_v92 ((transpose S32x256x1024 [0, 2, 1] · transposes_S32x1024x256_S32x256x1024_0_2_1)),
    binary main_v87 main_v92 main_v93 (addf),
    unary main_arg6 main_v94 (broadcastInDim S1x256x1 ![1] bcast_S256_S1x256x1_1),
    unary main_v94 main_v95 (broadcastInDim S32x256x1024 ![0, 1, 2] bcast_S1x256x1_S32x256x1024_0_1_2),
    binary main_v93 main_v95 main_v96 (addf) ]

/-- The operations of the first residual block. -/
abbrev ops4 : List (HloOp τ sig (Elt F)) :=
  [ nullary main_cst_9 (constant S_ .f32 0x00000000#32),
    unary main_cst_9 main_v97 (broadcastInDim S32x256x1024 ![] bcast_S_S32x256x1024),
    binary main_v96 main_v97 main_v98 (maximumf),
    nullary main_cst_10 (constant S_ .f32 0x00000000#32),
    binary main_v98 main_cst_10 main_v99 ((fun x v => pad S32x256x1026 ![0, 0, 1] ![0, 0, 1] ![0, 0, 0] x v pads_S32x256x1024_S32x256x1026_000_000_110 h_S_)),
    unary main_v99 main_v100 ((extractStridedSlice S32x256x1024 ![0, 0, 0] · slices_S32x256x1026_S32x256x1024_0_0_0)),
    unary main_arg7 main_v101 ((extractStridedSlice S64x256x1 ![0, 0, 0] · slices_S64x256x3_S64x256x1_0_0_0)),
    reshape main_v101 main_v102 (rfl : (.f32 : EltTy) = .f32) shapeCasts_S64x256x1_S64x256,
    binary main_v100 main_v102 main_v103 ((fun l r => Host.dotGeneral dot_S32x256x1024_S64x256_S32x1024x64_1_1_02_0_n_n none l r)),
    unary main_v103 main_v104 ((transpose S32x64x1024 [0, 2, 1] · transposes_S32x1024x64_S32x64x1024_0_2_1)),
    unary main_v99 main_v105 ((extractStridedSlice S32x256x1024 ![0, 0, 1] · slices_S32x256x1026_S32x256x1024_0_0_1)),
    unary main_arg7 main_v106 ((extractStridedSlice S64x256x1 ![0, 0, 1] · slices_S64x256x3_S64x256x1_0_0_1)),
    reshape main_v106 main_v107 (rfl : (.f32 : EltTy) = .f32) shapeCasts_S64x256x1_S64x256,
    binary main_v105 main_v107 main_v108 ((fun l r => Host.dotGeneral dot_S32x256x1024_S64x256_S32x1024x64_1_1_02_0_n_n none l r)),
    unary main_v108 main_v109 ((transpose S32x64x1024 [0, 2, 1] · transposes_S32x1024x64_S32x64x1024_0_2_1)),
    binary main_v104 main_v109 main_v110 (addf),
    unary main_v99 main_v111 ((extractStridedSlice S32x256x1024 ![0, 0, 2] · slices_S32x256x1026_S32x256x1024_0_0_2)),
    unary main_arg7 main_v112 ((extractStridedSlice S64x256x1 ![0, 0, 2] · slices_S64x256x3_S64x256x1_0_0_2)),
    reshape main_v112 main_v113 (rfl : (.f32 : EltTy) = .f32) shapeCasts_S64x256x1_S64x256,
    binary main_v111 main_v113 main_v114 ((fun l r => Host.dotGeneral dot_S32x256x1024_S64x256_S32x1024x64_1_1_02_0_n_n none l r)),
    unary main_v114 main_v115 ((transpose S32x64x1024 [0, 2, 1] · transposes_S32x1024x64_S32x64x1024_0_2_1)),
    binary main_v110 main_v115 main_v116 (addf),
    nullary main_cst_11 (constant S_ .f32 0x00000000#32),
    unary main_cst_11 main_v117 (broadcastInDim S32x64x1024 ![] bcast_S_S32x64x1024),
    binary main_v116 main_v117 main_v118 (maximumf),
    unary main_v118 main_v119 ((extractStridedSlice S32x64x1024 ![0, 0, 0] · slices_S32x64x1024_S32x64x1024_0_0_0)),
    reshape main_arg8 main_v120 (rfl : (.f32 : EltTy) = .f32) shapeCasts_S256x64x1_S256x64,
    binary main_v119 main_v120 main_v121 ((fun l r => Host.dotGeneral dot_S32x64x1024_S256x64_S32x1024x256_1_1_02_0_n_n none l r)),
    unary main_v121 main_v122 ((transpose S32x256x1024 [0, 2, 1] · transposes_S32x1024x256_S32x256x1024_0_2_1)),
    binary main_v96 main_v122 main_v123 (addf) ]

/-- The operations of the second residual block. -/
abbrev ops5 : List (HloOp τ sig (Elt F)) :=
  [ nullary main_cst_12 (constant S_ .f32 0x00000000#32),
    unary main_cst_12 main_v124 (broadcastInDim S32x256x1024 ![] bcast_S_S32x256x1024),
    binary main_v123 main_v124 main_v125 (maximumf),
    nullary main_cst_13 (constant S_ .f32 0x00000000#32),
    binary main_v125 main_cst_13 main_v126 ((fun x v => pad S32x256x1026 ![0, 0, 1] ![0, 0, 1] ![0, 0, 0] x v pads_S32x256x1024_S32x256x1026_000_000_110 h_S_)),
    unary main_v126 main_v127 ((extractStridedSlice S32x256x1024 ![0, 0, 0] · slices_S32x256x1026_S32x256x1024_0_0_0)),
    unary main_arg9 main_v128 ((extractStridedSlice S64x256x1 ![0, 0, 0] · slices_S64x256x3_S64x256x1_0_0_0)),
    reshape main_v128 main_v129 (rfl : (.f32 : EltTy) = .f32) shapeCasts_S64x256x1_S64x256,
    binary main_v127 main_v129 main_v130 ((fun l r => Host.dotGeneral dot_S32x256x1024_S64x256_S32x1024x64_1_1_02_0_n_n none l r)),
    unary main_v130 main_v131 ((transpose S32x64x1024 [0, 2, 1] · transposes_S32x1024x64_S32x64x1024_0_2_1)),
    unary main_v126 main_v132 ((extractStridedSlice S32x256x1024 ![0, 0, 1] · slices_S32x256x1026_S32x256x1024_0_0_1)),
    unary main_arg9 main_v133 ((extractStridedSlice S64x256x1 ![0, 0, 1] · slices_S64x256x3_S64x256x1_0_0_1)),
    reshape main_v133 main_v134 (rfl : (.f32 : EltTy) = .f32) shapeCasts_S64x256x1_S64x256,
    binary main_v132 main_v134 main_v135 ((fun l r => Host.dotGeneral dot_S32x256x1024_S64x256_S32x1024x64_1_1_02_0_n_n none l r)),
    unary main_v135 main_v136 ((transpose S32x64x1024 [0, 2, 1] · transposes_S32x1024x64_S32x64x1024_0_2_1)),
    binary main_v131 main_v136 main_v137 (addf),
    unary main_v126 main_v138 ((extractStridedSlice S32x256x1024 ![0, 0, 2] · slices_S32x256x1026_S32x256x1024_0_0_2)),
    unary main_arg9 main_v139 ((extractStridedSlice S64x256x1 ![0, 0, 2] · slices_S64x256x3_S64x256x1_0_0_2)),
    reshape main_v139 main_v140 (rfl : (.f32 : EltTy) = .f32) shapeCasts_S64x256x1_S64x256,
    binary main_v138 main_v140 main_v141 ((fun l r => Host.dotGeneral dot_S32x256x1024_S64x256_S32x1024x64_1_1_02_0_n_n none l r)),
    unary main_v141 main_v142 ((transpose S32x64x1024 [0, 2, 1] · transposes_S32x1024x64_S32x64x1024_0_2_1)),
    binary main_v137 main_v142 main_v143 (addf),
    nullary main_cst_14 (constant S_ .f32 0x00000000#32),
    unary main_cst_14 main_v144 (broadcastInDim S32x64x1024 ![] bcast_S_S32x64x1024),
    binary main_v143 main_v144 main_v145 (maximumf),
    unary main_v145 main_v146 ((extractStridedSlice S32x64x1024 ![0, 0, 0] · slices_S32x64x1024_S32x64x1024_0_0_0)),
    reshape main_arg10 main_v147 (rfl : (.f32 : EltTy) = .f32) shapeCasts_S256x64x1_S256x64,
    binary main_v146 main_v147 main_v148 ((fun l r => Host.dotGeneral dot_S32x64x1024_S256x64_S32x1024x256_1_1_02_0_n_n none l r)),
    unary main_v148 main_v149 ((transpose S32x256x1024 [0, 2, 1] · transposes_S32x1024x256_S32x256x1024_0_2_1)),
    binary main_v123 main_v149 main_v150 (addf) ]

/-- The operations of the encoder's last relu and projection. -/
abbrev ops6 : List (HloOp τ sig (Elt F)) :=
  [ nullary main_cst_15 (constant S_ .f32 0x00000000#32),
    unary main_cst_15 main_v151 (broadcastInDim S32x256x1024 ![] bcast_S_S32x256x1024),
    binary main_v150 main_v151 main_v152 (maximumf),
    unary main_v152 main_v153 ((extractStridedSlice S32x256x1024 ![0, 0, 0] · slices_S32x256x1024_S32x256x1024_0_0_0)),
    reshape main_arg11 main_v154 (rfl : (.f32 : EltTy) = .f32) shapeCasts_S64x256x1_S64x256,
    binary main_v153 main_v154 main_v155 ((fun l r => Host.dotGeneral dot_S32x256x1024_S64x256_S32x1024x64_1_1_02_0_n_n none l r)),
    unary main_v155 main_v156 ((transpose S32x64x1024 [0, 2, 1] · transposes_S32x1024x64_S32x64x1024_0_2_1)),
    unary main_arg12 main_v157 (broadcastInDim S1x64x1 ![1] bcast_S64_S1x64x1_1),
    unary main_v157 main_v158 (broadcastInDim S32x64x1024 ![0, 1, 2] bcast_S1x64x1_S32x64x1024_0_1_2),
    binary main_v156 main_v158 main_v159 (addf) ]

/-- The operations of the distances and the nearest code. -/
abbrev ops7 : List (HloOp τ sig (Elt F)) :=
  [ unary main_v159 main_v160 ((transpose S32x1024x64 [0, 2, 1] · transposes_S32x64x1024_S32x1024x64_0_2_1)),
    reshape main_v160 main_v161 (rfl : (.f32 : EltTy) = .f32) shapeCasts_S32x1024x64_S32768x64,
    binary main_v161 main_v161 main_v162 (mulf),
    nullary main_cst_16 (constant S_ .f32 0x00000000#32),
    binary main_v162 main_cst_16 main_v163 ((fun x v => Host.reduceAdd x v reducesTo_S32768x64_S32768_d1 h_S_)),
    unary main_v163 main_v164 (broadcastInDim S32768x1 ![0] bcast_S32768_S32768x1_0),
    unary main_arg13 main_v165 ((transpose S64x1024 [1, 0] · transposes_S1024x64_S64x1024_1_0)),
    binary main_v161 main_v165 main_v166 ((fun l r => Host.dotGeneral dot_S32768x64_S64x1024_S32768x1024_1_0_0_1_n_n none l r)),
    nullary main_cst_17 (constant S_ .f32 0x40000000#32),
    unary main_cst_17 main_v167 (broadcastInDim S32768x1024 ![] bcast_S_S32768x1024),
    binary main_v167 main_v166 main_v168 (mulf),
    unary main_v164 main_v169 (broadcastInDim S32768x1024 ![0, 1] bcast_S32768x1_S32768x1024_0_1),
    binary main_v169 main_v168 main_v170 (subf),
    binary main_arg13 main_arg13 main_v171 (mulf),
    nullary main_cst_18 (constant S_ .f32 0x00000000#32),
    binary main_v171 main_cst_18 main_v172 ((fun x v => Host.reduceAdd x v reducesTo_S1024x64_S1024_d1 h_S_)),
    unary main_v172 main_v173 (broadcastInDim S1x1024 ![1] bcast_S1024_S1x1024_1),
    unary main_v173 main_v174 (broadcastInDim S32768x1024 ![0, 1] bcast_S1x1024_S32768x1024_0_1),
    binary main_v170 main_v174 main_v175 (addf),
    TRef.nullary main_call0.v0 (iotaInDim S32768x1024 32 1),
    TRef.nullary main_call0.cst (constant S_ .f32 0x7F800000#32),
    TRef.nullary main_call0.c (constantI S_ 32 0#32),
    TRef.quaternary (.of main_v175) main_call0.v0 main_call0.cst main_call0.c main_call0.v1_0 (fun x y u v j => (Host.argReduce reducer_argmin_f32_i32 x y u v reducesTo_S32768x1024_S32768_d1 h_S_ j).1),
    TRef.quaternary (.of main_v175) main_call0.v0 main_call0.cst main_call0.c main_call0.v1_1 (fun x y u v j => (Host.argReduce reducer_argmin_f32_i32 x y u v reducesTo_S32768x1024_S32768_d1 h_S_ j).2) ]

/-- The operations of the one-hot rows and the chosen codes. -/
abbrev ops8 : List (HloOp τ sig (Elt F)) :=
  [ unary main_v176 main_v177 (broadcastInDim S32768x1 ![0] bcast_S32768_S32768x1_0),
    nullary main_v178 (iotaInDim S1024 32 0),
    unary main_v178 main_v179 (broadcastInDim S1x1024 ![1] bcast_S1024_S1x1024_1),
    unary main_v177 main_v180 (broadcastInDim S32768x1024 ![0, 1] bcast_S32768x1_S32768x1024_0_1),
    unary main_v179 main_v181 (broadcastInDim S32768x1024 ![0, 1] bcast_S1x1024_S32768x1024_0_1),
    binary main_v180 main_v181 main_v182 (cmpi .eq),
    unary main_v182 main_v183 (uitofp .f32),
    binary main_v183 main_arg13 main_v184 ((fun l r => Host.dotGeneral dot_S32768x1024_S1024x64_S32768x64_1_0_0_1_n_n none l r)),
    reshape main_v184 main_v185 (rfl : (.f32 : EltTy) = .f32) shapeCasts_S32768x64_S32x1024x64 ]

/-- The operations of the losses and the straight-through codes. -/
abbrev ops9 : List (HloOp τ sig (Elt F)) :=
  [ binary main_v185 main_v160 main_v186 (subf),
    binary main_v186 main_v186 main_v187 (mulf),
    nullary main_cst_19 (constant S_ .f32 0x00000000#32),
    binary main_v187 main_cst_19 main_v188 ((fun x v => Host.reduceAdd x v reducesTo_S32x1024x64_S_d0_1_2 h_S_)),
    nullary main_cst_20 (constant S_ .f32 0x4A000000#32),
    binary main_v188 main_cst_20 main_v189 (Host.divf),
    binary main_v185 main_v160 main_v190 (subf),
    binary main_v190 main_v190 main_v191 (mulf),
    nullary main_cst_21 (constant S_ .f32 0x00000000#32),
    binary main_v191 main_cst_21 main_v192 ((fun x v => Host.reduceAdd x v reducesTo_S32x1024x64_S_d0_1_2 h_S_)),
    nullary main_cst_22 (constant S_ .f32 0x4A000000#32),
    binary main_v192 main_cst_22 main_v193 (Host.divf),
    nullary main_cst_23 (constant S_ .f32 0x3E800000#32),
    binary main_cst_23 main_v189 main_v194 (mulf),
    binary main_v193 main_v194 main_v195 (addf),
    binary main_v185 main_v160 main_v196 (subf),
    binary main_v160 main_v196 main_v197 (addf),
    unary main_v197 main_v198 ((transpose S32x64x1024 [0, 2, 1] · transposes_S32x1024x64_S32x64x1024_0_2_1)) ]

/-- The operations of the perplexity. -/
abbrev ops10 : List (HloOp τ sig (Elt F)) :=
  [ nullary main_cst_24 (constant S_ .f32 0x00000000#32),
    binary main_v183 main_cst_24 main_v199 ((fun x v => Host.reduceAdd x v reducesTo_S32768x1024_S1024_d0 h_S_)),
    nullary main_cst_25 (constant S_ .f32 0x47000000#32),
    unary main_cst_25 main_v200 (broadcastInDim S1024 ![] bcast_S_S1024),
    binary main_v199 main_v200 main_v201 (Host.divf),
    nullary main_cst_26 (constant S_ .f32 0x2EDBE6FF#32),
    unary main_cst_26 main_v202 (broadcastInDim S1024 ![] bcast_S_S1024),
    binary main_v201 main_v202 main_v203 (addf),
    unary main_v203 main_v204 (Host.log),
    binary main_v201 main_v204 main_v205 (mulf),
    nullary main_cst_27 (constant S_ .f32 0x00000000#32),
    binary main_v205 main_cst_27 main_v206 ((fun x v => Host.reduceAdd x v reducesTo_S1024_S_d0 h_S_)),
    unary main_v206 main_v207 (Host.negf),
    unary main_v207 main_v208 (Host.exp) ]

/-- The operations of the decoder's first convolution. -/
abbrev ops11 : List (HloOp τ sig (Elt F)) :=
  [ nullary main_cst_28 (constant S_ .f32 0x00000000#32),
    binary main_v198 main_cst_28 main_v209 ((fun x v => pad S32x64x1026 ![0, 0, 1] ![0, 0, 1] ![0, 0, 0] x v pads_S32x64x1024_S32x64x1026_000_000_110 h_S_)),
    unary main_v209 main_v210 ((extractStridedSlice S32x64x1024 ![0, 0, 0] · slices_S32x64x1026_S32x64x1024_0_0_0)),
    unary main_arg14 main_v211 ((extractStridedSlice S256x64x1 ![0, 0, 0] · slices_S256x64x3_S256x64x1_0_0_0)),
    reshape main_v211 main_v212 (rfl : (.f32 : EltTy) = .f32) shapeCasts_S256x64x1_S256x64,
    binary main_v210 main_v212 main_v213 ((fun l r => Host.dotGeneral dot_S32x64x1024_S256x64_S32x1024x256_1_1_02_0_n_n none l r)),
    unary main_v213 main_v214 ((transpose S32x256x1024 [0, 2, 1] · transposes_S32x1024x256_S32x256x1024_0_2_1)),
    unary main_v209 main_v215 ((extractStridedSlice S32x64x1024 ![0, 0, 1] · slices_S32x64x1026_S32x64x1024_0_0_1)),
    unary main_arg14 main_v216 ((extractStridedSlice S256x64x1 ![0, 0, 1] · slices_S256x64x3_S256x64x1_0_0_1)),
    reshape main_v216 main_v217 (rfl : (.f32 : EltTy) = .f32) shapeCasts_S256x64x1_S256x64,
    binary main_v215 main_v217 main_v218 ((fun l r => Host.dotGeneral dot_S32x64x1024_S256x64_S32x1024x256_1_1_02_0_n_n none l r)),
    unary main_v218 main_v219 ((transpose S32x256x1024 [0, 2, 1] · transposes_S32x1024x256_S32x256x1024_0_2_1)),
    binary main_v214 main_v219 main_v220 (addf),
    unary main_v209 main_v221 ((extractStridedSlice S32x64x1024 ![0, 0, 2] · slices_S32x64x1026_S32x64x1024_0_0_2)),
    unary main_arg14 main_v222 ((extractStridedSlice S256x64x1 ![0, 0, 2] · slices_S256x64x3_S256x64x1_0_0_2)),
    reshape main_v222 main_v223 (rfl : (.f32 : EltTy) = .f32) shapeCasts_S256x64x1_S256x64,
    binary main_v221 main_v223 main_v224 ((fun l r => Host.dotGeneral dot_S32x64x1024_S256x64_S32x1024x256_1_1_02_0_n_n none l r)),
    unary main_v224 main_v225 ((transpose S32x256x1024 [0, 2, 1] · transposes_S32x1024x256_S32x256x1024_0_2_1)),
    binary main_v220 main_v225 main_v226 (addf),
    unary main_arg15 main_v227 (broadcastInDim S1x256x1 ![1] bcast_S256_S1x256x1_1),
    unary main_v227 main_v228 (broadcastInDim S32x256x1024 ![0, 1, 2] bcast_S1x256x1_S32x256x1024_0_1_2),
    binary main_v226 main_v228 main_v229 (addf) ]

/-- The operations of the decoder's first residual block. -/
abbrev ops12 : List (HloOp τ sig (Elt F)) :=
  [ nullary main_cst_29 (constant S_ .f32 0x00000000#32),
    unary main_cst_29 main_v230 (broadcastInDim S32x256x1024 ![] bcast_S_S32x256x1024),
    binary main_v229 main_v230 main_v231 (maximumf),
    nullary main_cst_30 (constant S_ .f32 0x00000000#32),
    binary main_v231 main_cst_30 main_v232 ((fun x v => pad S32x256x1026 ![0, 0, 1] ![0, 0, 1] ![0, 0, 0] x v pads_S32x256x1024_S32x256x1026_000_000_110 h_S_)),
    unary main_v232 main_v233 ((extractStridedSlice S32x256x1024 ![0, 0, 0] · slices_S32x256x1026_S32x256x1024_0_0_0)),
    unary main_arg16 main_v234 ((extractStridedSlice S64x256x1 ![0, 0, 0] · slices_S64x256x3_S64x256x1_0_0_0)),
    reshape main_v234 main_v235 (rfl : (.f32 : EltTy) = .f32) shapeCasts_S64x256x1_S64x256,
    binary main_v233 main_v235 main_v236 ((fun l r => Host.dotGeneral dot_S32x256x1024_S64x256_S32x1024x64_1_1_02_0_n_n none l r)),
    unary main_v236 main_v237 ((transpose S32x64x1024 [0, 2, 1] · transposes_S32x1024x64_S32x64x1024_0_2_1)),
    unary main_v232 main_v238 ((extractStridedSlice S32x256x1024 ![0, 0, 1] · slices_S32x256x1026_S32x256x1024_0_0_1)),
    unary main_arg16 main_v239 ((extractStridedSlice S64x256x1 ![0, 0, 1] · slices_S64x256x3_S64x256x1_0_0_1)),
    reshape main_v239 main_v240 (rfl : (.f32 : EltTy) = .f32) shapeCasts_S64x256x1_S64x256,
    binary main_v238 main_v240 main_v241 ((fun l r => Host.dotGeneral dot_S32x256x1024_S64x256_S32x1024x64_1_1_02_0_n_n none l r)),
    unary main_v241 main_v242 ((transpose S32x64x1024 [0, 2, 1] · transposes_S32x1024x64_S32x64x1024_0_2_1)),
    binary main_v237 main_v242 main_v243 (addf),
    unary main_v232 main_v244 ((extractStridedSlice S32x256x1024 ![0, 0, 2] · slices_S32x256x1026_S32x256x1024_0_0_2)),
    unary main_arg16 main_v245 ((extractStridedSlice S64x256x1 ![0, 0, 2] · slices_S64x256x3_S64x256x1_0_0_2)),
    reshape main_v245 main_v246 (rfl : (.f32 : EltTy) = .f32) shapeCasts_S64x256x1_S64x256,
    binary main_v244 main_v246 main_v247 ((fun l r => Host.dotGeneral dot_S32x256x1024_S64x256_S32x1024x64_1_1_02_0_n_n none l r)),
    unary main_v247 main_v248 ((transpose S32x64x1024 [0, 2, 1] · transposes_S32x1024x64_S32x64x1024_0_2_1)),
    binary main_v243 main_v248 main_v249 (addf),
    nullary main_cst_31 (constant S_ .f32 0x00000000#32),
    unary main_cst_31 main_v250 (broadcastInDim S32x64x1024 ![] bcast_S_S32x64x1024),
    binary main_v249 main_v250 main_v251 (maximumf),
    unary main_v251 main_v252 ((extractStridedSlice S32x64x1024 ![0, 0, 0] · slices_S32x64x1024_S32x64x1024_0_0_0)),
    reshape main_arg17 main_v253 (rfl : (.f32 : EltTy) = .f32) shapeCasts_S256x64x1_S256x64,
    binary main_v252 main_v253 main_v254 ((fun l r => Host.dotGeneral dot_S32x64x1024_S256x64_S32x1024x256_1_1_02_0_n_n none l r)),
    unary main_v254 main_v255 ((transpose S32x256x1024 [0, 2, 1] · transposes_S32x1024x256_S32x256x1024_0_2_1)),
    binary main_v229 main_v255 main_v256 (addf) ]

/-- The operations of the decoder's second residual block. -/
abbrev ops13 : List (HloOp τ sig (Elt F)) :=
  [ nullary main_cst_32 (constant S_ .f32 0x00000000#32),
    unary main_cst_32 main_v257 (broadcastInDim S32x256x1024 ![] bcast_S_S32x256x1024),
    binary main_v256 main_v257 main_v258 (maximumf),
    nullary main_cst_33 (constant S_ .f32 0x00000000#32),
    binary main_v258 main_cst_33 main_v259 ((fun x v => pad S32x256x1026 ![0, 0, 1] ![0, 0, 1] ![0, 0, 0] x v pads_S32x256x1024_S32x256x1026_000_000_110 h_S_)),
    unary main_v259 main_v260 ((extractStridedSlice S32x256x1024 ![0, 0, 0] · slices_S32x256x1026_S32x256x1024_0_0_0)),
    unary main_arg18 main_v261 ((extractStridedSlice S64x256x1 ![0, 0, 0] · slices_S64x256x3_S64x256x1_0_0_0)),
    reshape main_v261 main_v262 (rfl : (.f32 : EltTy) = .f32) shapeCasts_S64x256x1_S64x256,
    binary main_v260 main_v262 main_v263 ((fun l r => Host.dotGeneral dot_S32x256x1024_S64x256_S32x1024x64_1_1_02_0_n_n none l r)),
    unary main_v263 main_v264 ((transpose S32x64x1024 [0, 2, 1] · transposes_S32x1024x64_S32x64x1024_0_2_1)),
    unary main_v259 main_v265 ((extractStridedSlice S32x256x1024 ![0, 0, 1] · slices_S32x256x1026_S32x256x1024_0_0_1)),
    unary main_arg18 main_v266 ((extractStridedSlice S64x256x1 ![0, 0, 1] · slices_S64x256x3_S64x256x1_0_0_1)),
    reshape main_v266 main_v267 (rfl : (.f32 : EltTy) = .f32) shapeCasts_S64x256x1_S64x256,
    binary main_v265 main_v267 main_v268 ((fun l r => Host.dotGeneral dot_S32x256x1024_S64x256_S32x1024x64_1_1_02_0_n_n none l r)),
    unary main_v268 main_v269 ((transpose S32x64x1024 [0, 2, 1] · transposes_S32x1024x64_S32x64x1024_0_2_1)),
    binary main_v264 main_v269 main_v270 (addf),
    unary main_v259 main_v271 ((extractStridedSlice S32x256x1024 ![0, 0, 2] · slices_S32x256x1026_S32x256x1024_0_0_2)),
    unary main_arg18 main_v272 ((extractStridedSlice S64x256x1 ![0, 0, 2] · slices_S64x256x3_S64x256x1_0_0_2)),
    reshape main_v272 main_v273 (rfl : (.f32 : EltTy) = .f32) shapeCasts_S64x256x1_S64x256,
    binary main_v271 main_v273 main_v274 ((fun l r => Host.dotGeneral dot_S32x256x1024_S64x256_S32x1024x64_1_1_02_0_n_n none l r)),
    unary main_v274 main_v275 ((transpose S32x64x1024 [0, 2, 1] · transposes_S32x1024x64_S32x64x1024_0_2_1)),
    binary main_v270 main_v275 main_v276 (addf),
    nullary main_cst_34 (constant S_ .f32 0x00000000#32),
    unary main_cst_34 main_v277 (broadcastInDim S32x64x1024 ![] bcast_S_S32x64x1024),
    binary main_v276 main_v277 main_v278 (maximumf),
    unary main_v278 main_v279 ((extractStridedSlice S32x64x1024 ![0, 0, 0] · slices_S32x64x1024_S32x64x1024_0_0_0)),
    reshape main_arg19 main_v280 (rfl : (.f32 : EltTy) = .f32) shapeCasts_S256x64x1_S256x64,
    binary main_v279 main_v280 main_v281 ((fun l r => Host.dotGeneral dot_S32x64x1024_S256x64_S32x1024x256_1_1_02_0_n_n none l r)),
    unary main_v281 main_v282 ((transpose S32x256x1024 [0, 2, 1] · transposes_S32x1024x256_S32x256x1024_0_2_1)),
    binary main_v256 main_v282 main_v283 (addf) ]

/-- The operations of the first transposed convolution. -/
abbrev ops14 : List (HloOp τ sig (Elt F)) :=
  [ nullary main_cst_35 (constant S_ .f32 0x00000000#32),
    unary main_cst_35 main_v284 (broadcastInDim S32x256x1024 ![] bcast_S_S32x256x1024),
    binary main_v283 main_v284 main_v285 (maximumf),
    unary main_arg20 main_v286 (Host.reverse [2]),
    unary main_v286 main_v287 ((transpose S128x256x4 [1, 0, 2] · transposes_S256x128x4_S128x256x4_1_0_2)),
    nullary main_cst_36 (constant S_ .f32 0x00000000#32),
    binary main_v285 main_cst_36 main_v288 ((fun x v => pad S32x256x2051 ![0, 0, 2] ![0, 0, 2] ![0, 0, 1] x v pads_S32x256x1024_S32x256x2051_000_000_221 h_S_)),
    unary main_v288 main_v289 ((extractStridedSlice S32x256x2048 ![0, 0, 0] · slices_S32x256x2051_S32x256x2048_0_0_0)),
    unary main_v287 main_v290 ((extractStridedSlice S128x256x1 ![0, 0, 0] · slices_S128x256x4_S128x256x1_0_0_0)),
    reshape main_v290 main_v291 (rfl : (.f32 : EltTy) = .f32) shapeCasts_S128x256x1_S128x256,
    binary main_v289 main_v291 main_v292 ((fun l r => Host.dotGeneral dot_S32x256x2048_S128x256_S32x2048x128_1_1_02_0_n_n none l r)),
    unary main_v292 main_v293 ((transpose S32x128x2048 [0, 2, 1] · transposes_S32x2048x128_S32x128x2048_0_2_1)),
    unary main_v288 main_v294 ((extractStridedSlice S32x256x2048 ![0, 0, 1] · slices_S32x256x2051_S32x256x2048_0_0_1)),
    unary main_v287 main_v295 ((extractStridedSlice S128x256x1 ![0, 0, 1] · slices_S128x256x4_S128x256x1_0_0_1)),
    reshape main_v295 main_v296 (rfl : (.f32 : EltTy) = .f32) shapeCasts_S128x256x1_S128x256,
    binary main_v294 main_v296 main_v297 ((fun l r => Host.dotGeneral dot_S32x256x2048_S128x256_S32x2048x128_1_1_02_0_n_n none l r)),
    unary main_v297 main_v298 ((transpose S32x128x2048 [0, 2, 1] · transposes_S32x2048x128_S32x128x2048_0_2_1)),
    binary main_v293 main_v298 main_v299 (addf),
    unary main_v288 main_v300 ((extractStridedSlice S32x256x2048 ![0, 0, 2] · slices_S32x256x2051_S32x256x2048_0_0_2)),
    unary main_v287 main_v301 ((extractStridedSlice S128x256x1 ![0, 0, 2] · slices_S128x256x4_S128x256x1_0_0_2)),
    reshape main_v301 main_v302 (rfl : (.f32 : EltTy) = .f32) shapeCasts_S128x256x1_S128x256,
    binary main_v300 main_v302 main_v303 ((fun l r => Host.dotGeneral dot_S32x256x2048_S128x256_S32x2048x128_1_1_02_0_n_n none l r)),
    unary main_v303 main_v304 ((transpose S32x128x2048 [0, 2, 1] · transposes_S32x2048x128_S32x128x2048_0_2_1)),
    binary main_v299 main_v304 main_v305 (addf),
    unary main_v288 main_v306 ((extractStridedSlice S32x256x2048 ![0, 0, 3] · slices_S32x256x2051_S32x256x2048_0_0_3)),
    unary main_v287 main_v307 ((extractStridedSlice S128x256x1 ![0, 0, 3] · slices_S128x256x4_S128x256x1_0_0_3)),
    reshape main_v307 main_v308 (rfl : (.f32 : EltTy) = .f32) shapeCasts_S128x256x1_S128x256,
    binary main_v306 main_v308 main_v309 ((fun l r => Host.dotGeneral dot_S32x256x2048_S128x256_S32x2048x128_1_1_02_0_n_n none l r)),
    unary main_v309 main_v310 ((transpose S32x128x2048 [0, 2, 1] · transposes_S32x2048x128_S32x128x2048_0_2_1)),
    binary main_v305 main_v310 main_v311 (addf),
    unary main_arg21 main_v312 (broadcastInDim S1x128x1 ![1] bcast_S128_S1x128x1_1),
    unary main_v312 main_v313 (broadcastInDim S32x128x2048 ![0, 1, 2] bcast_S1x128x1_S32x128x2048_0_1_2),
    binary main_v311 main_v313 main_v314 (addf),
    nullary main_cst_37 (constant S_ .f32 0x00000000#32),
    unary main_cst_37 main_v315 (broadcastInDim S32x128x2048 ![] bcast_S_S32x128x2048),
    binary main_v314 main_v315 main_v316 (maximumf) ]

/-- The operations of the second transposed convolution and the results. -/
abbrev ops15 : List (HloOp τ sig (Elt F)) :=
  [ unary main_arg22 main_v317 (Host.reverse [2]),
    unary main_v317 main_v318 ((transpose S1x128x4 [1, 0, 2] · transposes_S128x1x4_S1x128x4_1_0_2)),
    nullary main_cst_38 (constant S_ .f32 0x00000000#32),
    binary main_v316 main_cst_38 main_v319 ((fun x v => pad S32x128x4099 ![0, 0, 2] ![0, 0, 2] ![0, 0, 1] x v pads_S32x128x2048_S32x128x4099_000_000_221 h_S_)),
    unary main_v319 main_v320 ((extractStridedSlice S32x128x4096 ![0, 0, 0] · slices_S32x128x4099_S32x128x4096_0_0_0)),
    unary main_v318 main_v321 ((extractStridedSlice S1x128x1 ![0, 0, 0] · slices_S1x128x4_S1x128x1_0_0_0)),
    reshape main_v321 main_v322 (rfl : (.f32 : EltTy) = .f32) shapeCasts_S1x128x1_S1x128,
    binary main_v320 main_v322 main_v323 ((fun l r => Host.dotGeneral dot_S32x128x4096_S1x128_S32x4096x1_1_1_02_0_n_n none l r)),
    unary main_v323 main_v324 ((transpose S32x1x4096 [0, 2, 1] · transposes_S32x4096x1_S32x1x4096_0_2_1)),
    unary main_v319 main_v325 ((extractStridedSlice S32x128x4096 ![0, 0, 1] · slices_S32x128x4099_S32x128x4096_0_0_1)),
    unary main_v318 main_v326 ((extractStridedSlice S1x128x1 ![0, 0, 1] · slices_S1x128x4_S1x128x1_0_0_1)),
    reshape main_v326 main_v327 (rfl : (.f32 : EltTy) = .f32) shapeCasts_S1x128x1_S1x128,
    binary main_v325 main_v327 main_v328 ((fun l r => Host.dotGeneral dot_S32x128x4096_S1x128_S32x4096x1_1_1_02_0_n_n none l r)),
    unary main_v328 main_v329 ((transpose S32x1x4096 [0, 2, 1] · transposes_S32x4096x1_S32x1x4096_0_2_1)),
    binary main_v324 main_v329 main_v330 (addf),
    unary main_v319 main_v331 ((extractStridedSlice S32x128x4096 ![0, 0, 2] · slices_S32x128x4099_S32x128x4096_0_0_2)),
    unary main_v318 main_v332 ((extractStridedSlice S1x128x1 ![0, 0, 2] · slices_S1x128x4_S1x128x1_0_0_2)),
    reshape main_v332 main_v333 (rfl : (.f32 : EltTy) = .f32) shapeCasts_S1x128x1_S1x128,
    binary main_v331 main_v333 main_v334 ((fun l r => Host.dotGeneral dot_S32x128x4096_S1x128_S32x4096x1_1_1_02_0_n_n none l r)),
    unary main_v334 main_v335 ((transpose S32x1x4096 [0, 2, 1] · transposes_S32x4096x1_S32x1x4096_0_2_1)),
    binary main_v330 main_v335 main_v336 (addf),
    unary main_v319 main_v337 ((extractStridedSlice S32x128x4096 ![0, 0, 3] · slices_S32x128x4099_S32x128x4096_0_0_3)),
    unary main_v318 main_v338 ((extractStridedSlice S1x128x1 ![0, 0, 3] · slices_S1x128x4_S1x128x1_0_0_3)),
    reshape main_v338 main_v339 (rfl : (.f32 : EltTy) = .f32) shapeCasts_S1x128x1_S1x128,
    binary main_v337 main_v339 main_v340 ((fun l r => Host.dotGeneral dot_S32x128x4096_S1x128_S32x4096x1_1_1_02_0_n_n none l r)),
    unary main_v340 main_v341 ((transpose S32x1x4096 [0, 2, 1] · transposes_S32x4096x1_S32x1x4096_0_2_1)),
    binary main_v336 main_v341 main_v342 (addf),
    unary main_arg23 main_v343 (broadcastInDim S1x1x1 ![1] bcast_S1_S1x1x1_1),
    unary main_v343 main_v344 (broadcastInDim S32x1x4096 ![0, 1, 2] bcast_S1x1x1_S32x1x4096_0_1_2),
    binary main_v342 main_v344 main_v345 (addf),
    unary main_v13 main_v346 (broadcastInDim S32x1x4096 ![0, 1, 2] bcast_S32x1x1_S32x1x4096_0_1_2),
    binary main_v345 main_v346 main_v347 (mulf),
    unary main_v3 main_v348 (broadcastInDim S32x1x4096 ![0, 1, 2] bcast_S32x1x1_S32x1x4096_0_1_2),
    binary main_v347 main_v348 main_v349 (addf),
    reshape main_v176 main_v350 (rfl : (.i32 : EltTy) = .i32) shapeCasts_S32768_S32x1024 ]

/-- @main's operations, in order. -/
abbrev ops : List (HloOp τ sig (Elt F)) :=
  (ops0 ++ (ops1 ++ (ops2 ++ (ops3 ++ (ops4 ++ (ops5 ++ (ops6 ++ (ops7 ++ (ops8 ++ (ops9 ++ (ops10 ++ (ops11 ++ (ops12 ++ (ops13 ++ (ops14 ++ (ops15))))))))))))))))

/-- @main is that straight line. -/
theorem main_eq (c : Dev nD) : main (F := F) c = seq ops := rfl

end Cert.Proof.Ref

end
-- ==== Proof.RefFrame.lean ====
/- The run of the reference, read: what each list of operations writes, what it leaves alone, and the program's run
   and frame. -/
module

public import proofs.«01_k».proof.Defs
public import proofs.«01_k».proof.Proof.RefRun
public import Idealize.ShloMosaic.Lib.Pipeline.Frame

@[expose] public section

set_option maxRecDepth 16384
set_option maxHeartbeats 4000000

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- The buffers list 0 writes, in order. -/
abbrev W0 : List (Ref sig .tc) :=
  [main_cst, main_v0, main_v1, main_cst_0, main_v2, main_v3, main_v4, main_v5, main_v6, main_cst_1, main_v7,
     main_v8, main_cst_2, main_v9, main_v10, main_cst_3, main_v11, main_v12, main_v13, main_v14, main_v15,
     main_v16, main_v17]

theorem keep0 (V : Valuation τ sig (Elt F)) {r : Ref sig .tc} (hr : r ∉ W0) :
    after ops0 V (Proc.devRef .tc r) = V (Proc.devRef .tc r) :=
  after_of_writes_sub (W := W0) ops0 V (forall_writes_sub_of_map rfl) hr

/-- The buffers list 1 writes, in order. -/
abbrev W1 : List (Ref sig .tc) :=
  [main_cst_4, main_v18, main_v19, main_v20, main_v21, main_v22, main_v23, main_v24, main_v25, main_v26,
     main_v27, main_v28, main_v29, main_v30, main_v31, main_v32, main_v33, main_v34, main_v35, main_v36,
     main_v37, main_v38, main_v39, main_v40, main_v41, main_v42, main_v43, main_v44, main_cst_5, main_v45,
     main_v46]

theorem keep1 (V : Valuation τ sig (Elt F)) {r : Ref sig .tc} (hr : r ∉ W1) :
    after ops1 V (Proc.devRef .tc r) = V (Proc.devRef .tc r) :=
  after_of_writes_sub (W := W1) ops1 V (forall_writes_sub_of_map rfl) hr

/-- The buffers list 2 writes, in order. -/
abbrev W2 : List (Ref sig .tc) :=
  [main_cst_6, main_v47, main_v48, main_v49, main_v50, main_v51, main_v52, main_v53, main_v54, main_v55,
     main_v56, main_v57, main_v58, main_v59, main_v60, main_v61, main_v62, main_v63, main_v64, main_v65,
     main_v66, main_v67, main_v68, main_v69, main_v70, main_v71, main_v72, main_v73, main_cst_7, main_v74,
     main_v75]

theorem keep2 (V : Valuation τ sig (Elt F)) {r : Ref sig .tc} (hr : r ∉ W2) :
    after ops2 V (Proc.devRef .tc r) = V (Proc.devRef .tc r) :=
  after_of_writes_sub (W := W2) ops2 V (forall_writes_sub_of_map rfl) hr

/-- The buffers list 3 writes, in order. -/
abbrev W3 : List (Ref sig .tc) :=
  [main_cst_8, main_v76, main_v77, main_v78, main_v79, main_v80, main_v81, main_v82, main_v83, main_v84,
     main_v85, main_v86, main_v87, main_v88, main_v89, main_v90, main_v91, main_v92, main_v93, main_v94,
     main_v95, main_v96]

theorem keep3 (V : Valuation τ sig (Elt F)) {r : Ref sig .tc} (hr : r ∉ W3) :
    after ops3 V (Proc.devRef .tc r) = V (Proc.devRef .tc r) :=
  after_of_writes_sub (W := W3) ops3 V (forall_writes_sub_of_map rfl) hr

/-- The buffers list 4 writes, in order. -/
abbrev W4 : List (Ref sig .tc) :=
  [main_cst_9, main_v97, main_v98, main_cst_10, main_v99, main_v100, main_v101, main_v102, main_v103,
     main_v104, main_v105, main_v106, main_v107, main_v108, main_v109, main_v110, main_v111, main_v112,
     main_v113, main_v114, main_v115, main_v116, main_cst_11, main_v117, main_v118, main_v119, main_v120,
     main_v121, main_v122, main_v123]

theorem keep4 (V : Valuation τ sig (Elt F)) {r : Ref sig .tc} (hr : r ∉ W4) :
    after ops4 V (Proc.devRef .tc r) = V (Proc.devRef .tc r) :=
  after_of_writes_sub (W := W4) ops4 V (forall_writes_sub_of_map rfl) hr

/-- The buffers list 5 writes, in order. -/
abbrev W5 : List (Ref sig .tc) :=
  [main_cst_12, main_v124, main_v125, main_cst_13, main_v126, main_v127, main_v128, main_v129, main_v130,
     main_v131, main_v132, main_v133, main_v134, main_v135, main_v136, main_v137, main_v138, main_v139,
     main_v140, main_v141, main_v142, main_v143, main_cst_14, main_v144, main_v145, main_v146, main_v147,
     main_v148, main_v149, main_v150]

theorem keep5 (V : Valuation τ sig (Elt F)) {r : Ref sig .tc} (hr : r ∉ W5) :
    after ops5 V (Proc.devRef .tc r) = V (Proc.devRef .tc r) :=
  after_of_writes_sub (W := W5) ops5 V (forall_writes_sub_of_map rfl) hr

/-- The buffers list 6 writes, in order. -/
abbrev W6 : List (Ref sig .tc) :=
  [main_cst_15, main_v151, main_v152, main_v153, main_v154, main_v155, main_v156, main_v157, main_v158,
     main_v159]

theorem keep6 (V : Valuation τ sig (Elt F)) {r : Ref sig .tc} (hr : r ∉ W6) :
    after ops6 V (Proc.devRef .tc r) = V (Proc.devRef .tc r) :=
  after_of_writes_sub (W := W6) ops6 V (forall_writes_sub_of_map rfl) hr

/-- The buffers list 7 writes, in order. -/
abbrev W7 : List (Ref sig .tc) :=
  [main_v160, main_v161, main_v162, main_cst_16, main_v163, main_v164, main_v165, main_v166, main_cst_17,
     main_v167, main_v168, main_v169, main_v170, main_v171, main_cst_18, main_v172, main_v173, main_v174,
     main_v175, main_call0_v0, main_call0_cst, main_call0_c, main_call0_v1_0, main_v176]

theorem keep7 (V : Valuation τ sig (Elt F)) {r : Ref sig .tc} (hr : r ∉ W7) :
    after ops7 V (Proc.devRef .tc r) = V (Proc.devRef .tc r) :=
  after_of_writes_sub (W := W7) ops7 V (forall_writes_sub_of_map rfl) hr

/-- The buffers list 8 writes, in order. -/
abbrev W8 : List (Ref sig .tc) :=
  [main_v177, main_v178, main_v179, main_v180, main_v181, main_v182, main_v183, main_v184, main_v185]

theorem keep8 (V : Valuation τ sig (Elt F)) {r : Ref sig .tc} (hr : r ∉ W8) :
    after ops8 V (Proc.devRef .tc r) = V (Proc.devRef .tc r) :=
  after_of_writes_sub (W := W8) ops8 V (forall_writes_sub_of_map rfl) hr

/-- The buffers list 9 writes, in order. -/
abbrev W9 : List (Ref sig .tc) :=
  [main_v186, main_v187, main_cst_19, main_v188, main_cst_20, main_v189, main_v190, main_v191, main_cst_21,
     main_v192, main_cst_22, main_v193, main_cst_23, main_v194, main_v195, main_v196, main_v197, main_v198]

theorem keep9 (V : Valuation τ sig (Elt F)) {r : Ref sig .tc} (hr : r ∉ W9) :
    after ops9 V (Proc.devRef .tc r) = V (Proc.devRef .tc r) :=
  after_of_writes_sub (W := W9) ops9 V (forall_writes_sub_of_map rfl) hr

/-- The buffers list 10 writes, in order. -/
abbrev W10 : List (Ref sig .tc) :=
  [main_cst_24, main_v199, main_cst_25, main_v200, main_v201, main_cst_26, main_v202, main_v203, main_v204,
     main_v205, main_cst_27, main_v206, main_v207, main_v208]

theorem keep10 (V : Valuation τ sig (Elt F)) {r : Ref sig .tc} (hr : r ∉ W10) :
    after ops10 V (Proc.devRef .tc r) = V (Proc.devRef .tc r) :=
  after_of_writes_sub (W := W10) ops10 V (forall_writes_sub_of_map rfl) hr

/-- The buffers list 11 writes, in order. -/
abbrev W11 : List (Ref sig .tc) :=
  [main_cst_28, main_v209, main_v210, main_v211, main_v212, main_v213, main_v214, main_v215, main_v216,
     main_v217, main_v218, main_v219, main_v220, main_v221, main_v222, main_v223, main_v224, main_v225,
     main_v226, main_v227, main_v228, main_v229]

theorem keep11 (V : Valuation τ sig (Elt F)) {r : Ref sig .tc} (hr : r ∉ W11) :
    after ops11 V (Proc.devRef .tc r) = V (Proc.devRef .tc r) :=
  after_of_writes_sub (W := W11) ops11 V (forall_writes_sub_of_map rfl) hr

/-- The buffers list 12 writes, in order. -/
abbrev W12 : List (Ref sig .tc) :=
  [main_cst_29, main_v230, main_v231, main_cst_30, main_v232, main_v233, main_v234, main_v235, main_v236,
     main_v237, main_v238, main_v239, main_v240, main_v241, main_v242, main_v243, main_v244, main_v245,
     main_v246, main_v247, main_v248, main_v249, main_cst_31, main_v250, main_v251, main_v252, main_v253,
     main_v254, main_v255, main_v256]

theorem keep12 (V : Valuation τ sig (Elt F)) {r : Ref sig .tc} (hr : r ∉ W12) :
    after ops12 V (Proc.devRef .tc r) = V (Proc.devRef .tc r) :=
  after_of_writes_sub (W := W12) ops12 V (forall_writes_sub_of_map rfl) hr

/-- The buffers list 13 writes, in order. -/
abbrev W13 : List (Ref sig .tc) :=
  [main_cst_32, main_v257, main_v258, main_cst_33, main_v259, main_v260, main_v261, main_v262, main_v263,
     main_v264, main_v265, main_v266, main_v267, main_v268, main_v269, main_v270, main_v271, main_v272,
     main_v273, main_v274, main_v275, main_v276, main_cst_34, main_v277, main_v278, main_v279, main_v280,
     main_v281, main_v282, main_v283]

theorem keep13 (V : Valuation τ sig (Elt F)) {r : Ref sig .tc} (hr : r ∉ W13) :
    after ops13 V (Proc.devRef .tc r) = V (Proc.devRef .tc r) :=
  after_of_writes_sub (W := W13) ops13 V (forall_writes_sub_of_map rfl) hr

/-- The buffers list 14 writes, in order. -/
abbrev W14 : List (Ref sig .tc) :=
  [main_cst_35, main_v284, main_v285, main_v286, main_v287, main_cst_36, main_v288, main_v289, main_v290,
     main_v291, main_v292, main_v293, main_v294, main_v295, main_v296, main_v297, main_v298, main_v299,
     main_v300, main_v301, main_v302, main_v303, main_v304, main_v305, main_v306, main_v307, main_v308,
     main_v309, main_v310, main_v311, main_v312, main_v313, main_v314, main_cst_37, main_v315, main_v316]

theorem keep14 (V : Valuation τ sig (Elt F)) {r : Ref sig .tc} (hr : r ∉ W14) :
    after ops14 V (Proc.devRef .tc r) = V (Proc.devRef .tc r) :=
  after_of_writes_sub (W := W14) ops14 V (forall_writes_sub_of_map rfl) hr

/-- The buffers list 15 writes, in order. -/
abbrev W15 : List (Ref sig .tc) :=
  [main_v317, main_v318, main_cst_38, main_v319, main_v320, main_v321, main_v322, main_v323, main_v324,
     main_v325, main_v326, main_v327, main_v328, main_v329, main_v330, main_v331, main_v332, main_v333,
     main_v334, main_v335, main_v336, main_v337, main_v338, main_v339, main_v340, main_v341, main_v342,
     main_v343, main_v344, main_v345, main_v346, main_v347, main_v348, main_v349, main_v350]

theorem keep15 (V : Valuation τ sig (Elt F)) {r : Ref sig .tc} (hr : r ∉ W15) :
    after ops15 V (Proc.devRef .tc r) = V (Proc.devRef .tc r) :=
  after_of_writes_sub (W := W15) ops15 V (forall_writes_sub_of_map rfl) hr

/-- The fold over the whole line, list by list. -/
theorem after_ops (V : Valuation τ sig (Elt F)) :
    after ops V = after ops15 (after ops14 (after ops13 (after ops12 (after ops11 (after ops10 (after ops9 (after ops8
      (after ops7 (after ops6 (after ops5 (after ops4 (after ops3 (after ops2 (after ops1 (after ops0 V))))))))))))))) := by
  simp only [ops, after_append]

/-- No operation writes an argument buffer. -/
theorem keep_all (V : Valuation τ sig (Elt F)) {r : Ref sig .tc}
    (hr : r ∉ W0 ++ W1 ++ W2 ++ W3 ++ W4 ++ W5 ++ W6 ++ W7 ++ W8 ++ W9 ++ W10 ++ W11 ++ W12 ++ W13 ++ W14 ++ W15) :
    after ops V (Proc.devRef .tc r) = V (Proc.devRef .tc r) := by
  simp only [List.mem_append, not_or] at hr
  obtain ⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩ := hr
  rw [after_ops, keep15 _ h15, keep14 _ h14, keep13 _ h13, keep12 _ h12, keep11 _ h11, keep10 _ h10, keep9 _ h9, keep8 _ h8,
    keep7 _ h7, keep6 _ h6, keep5 _ h5, keep4 _ h4, keep3 _ h3, keep2 _ h2, keep1 _ h1, keep0 _ h0]

/-- Nothing is scoped on this signature. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig := by
  simp only [ops, ops0, ops1, ops2, ops3, ops4, ops5, ops6, ops7, ops8, ops9, ops10, ops11, ops12, ops13, ops14, ops15,
    List.cons_append, List.nil_append, List.forall_cons, List.Forall, TRef.nullary, TRef.quaternary, nullary_bufs_sub, unary_bufs_sub,
    binary_bufs_sub, ternary_bufs_sub, quaternary_bufs_sub, reshape_bufs_sub, and_self]

/-- The reference's run: every buffer ends at the fold of the operations over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ
    (fun _ op h => List.forall_iff_forall_mem.mp (forall_fresh_of_map rfl) op h)

/-- An argument buffer keeps its launch contents. -/
theorem run_keep {m : (ℓ : Loc nD τ sig) → Buf (Elt F) ℓ} {c : Dev nD} {r : Ref sig .tc} {x : Buf (Elt F) ((c.tc : Thread nD τ).loc r)}
    (h : x = after ops (launchContents m c) (Proc.devRef .tc r))
    (hr : r ∉ W0 ++ W1 ++ W2 ++ W3 ++ W4 ++ W5 ++ W6 ++ W7 ++ W8 ++ W9 ++ W10 ++ W11 ++ W12 ++ W13 ++ W14 ++ W15) :
    x = m ((c.tc : Thread nD τ).loc r) :=
  h.trans (keep_all _ hr)

/-- The frame of the reference. -/
theorem frame : Cert.quiescent_ReferenceIdeal := by
  intro m ρ _
  refine (θ_run defs _ _).mono (fun r h => ⟨fun c => ?_, sem_eq_zero_of_no_sems (by decide) r.2⟩) (run (F := Ideal) m ρ)
  refine ⟨?_, ?_, ?_, ?_, ?_, ?_, ?_, ?_, ?_, ?_, ?_, ?_, ?_, ?_, ?_, ?_, ?_, ?_, ?_, ?_, ?_, ?_, ?_, ?_⟩
  all_goals exact run_keep (h c _) (by decide)

end Cert.Proof.Ref

end
-- ==== Proof.PreFacts.lean ====
/- The side conditions of the precondition's operations. -/
module

public import proofs.«01_k».proof.Pre_encoder_finite
public import Idealize.ShloMosaic.Lib.Affine
public import Idealize.ShloMosaic.Lib.Decide

@[expose] public section

namespace Cert.Pre_encoder_finite

open Idealize.ShloMosaic

/-- Every shape fact the precondition states, proved. -/
instance facts : Cert.Pre_encoder_finite.Facts := by
  constructor <;> decide

end Cert.Pre_encoder_finite

end
-- ==== Proof.Spec.lean ====
/- The mathematics of the network over the extended reals, one sample at a time: a signal is a function of a channel
   and a position. -/
module

public import Idealize.ShloMosaic.Lib.Pointwise
public import Idealize.ShloMosaic.PureOps.Ideal.Laws

@[expose] public section

noncomputable section

namespace Cert.Spec

open Idealize.ShloMosaic

variable {L : Nat}

/-- The signal one position to the left, zero at the first position. -/
def prv (a : Fin L → EReal) (i : Fin L) : EReal := if h : 0 < i.val then a ⟨i.val - 1, by omega⟩ else 0

/-- The signal one position to the right, zero at the last position. -/
def nxt (a : Fin L → EReal) (i : Fin L) : EReal := if h : i.val + 1 < L then a ⟨i.val + 1, h⟩ else 0

/-- A weighted sum of shifted signals is the shifted weighted sum. -/
theorem prv_sum {n : Nat} (w : Fin n → EReal) (a : Fin n → Fin L → EReal) (i : Fin L) :
    prv (fun i => ∑ c, w c * a c i) i = ∑ c, w c * prv (a c) i := by
  unfold prv
  split <;> simp

theorem nxt_sum {n : Nat} (w : Fin n → EReal) (a : Fin n → Fin L → EReal) (i : Fin L) :
    nxt (fun i => ∑ c, w c * a c i) i = ∑ c, w c * nxt (a c) i := by
  unfold nxt
  split <;> simp

/-- The values at the even and at the odd positions. -/
def ev {M : Nat} (h : M = 2 * L) (a : Fin M → EReal) (i : Fin L) : EReal := a ⟨2 * i.val, by omega⟩
def od {M : Nat} (h : M = 2 * L) (a : Fin M → EReal) (i : Fin L) : EReal := a ⟨2 * i.val + 1, by omega⟩

variable {n m k : Nat}

def relu {n L : Nat} (x : Fin n → Fin L → EReal) (c : Fin n) (i : Fin L) : EReal := max (x c i) 0

/-- A convolution with three taps, stride one, padding one, no bias. -/
def conv3 (w : Fin m → Fin n → Fin 3 → EReal) (x : Fin n → Fin L → EReal) (o : Fin m) (i : Fin L) : EReal :=
  (∑ c, w o c 0 * prv (x c) i) + (∑ c, w o c 1 * x c i) + (∑ c, w o c 2 * nxt (x c) i)

/-- A convolution with one tap. -/
def conv1 (w : Fin m → Fin n → EReal) (x : Fin n → Fin L → EReal) (o : Fin m) (i : Fin L) : EReal :=
  ∑ c, w o c * x c i

/-- A convolution with four taps, stride two, padding one, no bias, of a signal given at its even and odd positions. -/
def conv4 (w : Fin m → Fin n → Fin 4 → EReal) (e o : Fin n → Fin L → EReal) (u : Fin m) (i : Fin L) : EReal :=
  (∑ c, w u c 0 * prv (o c) i) + (∑ c, w u c 1 * e c i) + (∑ c, w u c 2 * o c i) + (∑ c, w u c 3 * nxt (e c) i)

/-- A residual block. -/
def resblock (w1 : Fin m → Fin n → Fin 3 → EReal) (w2 : Fin n → Fin m → EReal) (x : Fin n → Fin L → EReal)
    (c : Fin n) (i : Fin L) : EReal :=
  x c i + conv1 w2 (relu (conv3 w1 (relu x))) c i

/-- The even and the odd positions of a transposed convolution with four taps, stride two, padding one, no bias. -/
def tconvE (w : Fin n → Fin m → Fin 4 → EReal) (x : Fin n → Fin L → EReal) (o : Fin m) (i : Fin L) : EReal :=
  (∑ c, w c o 1 * x c i) + (∑ c, w c o 3 * prv (x c) i)
def tconvO (w : Fin n → Fin m → Fin 4 → EReal) (x : Fin n → Fin L → EReal) (o : Fin m) (i : Fin L) : EReal :=
  (∑ c, w c o 2 * x c i) + (∑ c, w c o 0 * nxt (x c) i)

/-- A bias, one number per channel. -/
def bias (x : Fin m → Fin L → EReal) (b : Fin m → EReal) (o : Fin m) (i : Fin L) : EReal := x o i + b o

/-- The number of positions, and the small number added to the variance, as the programs spell them. -/
def cLen : EReal := Ideal.ofBits .f32 0x45800000#32
def cEps : EReal := Ideal.ofBits .f32 0x3727C5AC#32

/-- The mean of a signal, its standard deviation, and the signal normalised by them. -/
def mean (x : Fin 4096 → EReal) : EReal := Ideal.div (∑ l, x l) cLen
def dev (x : Fin 4096 → EReal) : EReal := Ideal.sqrt (Ideal.div (∑ l, (x l - mean x) * (x l - mean x)) cLen + cEps)
def norm (x : Fin 4096 → EReal) (l : Fin 4096) : EReal := Ideal.div (x l - mean x) (dev x)

/-- The signal whose four phases are given, and the phases of a signal. -/
def join (p : Fin 4 → Fin 1024 → EReal) (l : Fin 4096) : EReal := p ⟨l.val % 4, by omega⟩ ⟨l.val / 4, by omega⟩
def phase (x : Fin 4096 → EReal) (r : Fin 4) (i : Fin 1024) : EReal := x ⟨4 * i.val + r.val, by omega⟩

theorem phase_join (p : Fin 4 → Fin 1024 → EReal) : phase (join p) = p := by
  funext r i
  have h1 : (⟨(4 * i.val + r.val) % 4, by omega⟩ : Fin 4) = r := Fin.ext (by show (4 * i.val + r.val) % 4 = r.val; omega)
  have h2 : (⟨(4 * i.val + r.val) / 4, by omega⟩ : Fin 1024) = i := Fin.ext (by show (4 * i.val + r.val) / 4 = i.val; omega)
  show p ⟨(4 * i.val + r.val) % 4, _⟩ ⟨(4 * i.val + r.val) / 4, _⟩ = p r i
  rw [h1, h2]

theorem join_phase (x : Fin 4096 → EReal) : join (phase x) = x := by
  funext l
  unfold phase join
  exact congrArg x (Fin.ext (by show 4 * (l.val / 4) + l.val % 4 = l.val; omega))

/-- A sum over the phases is the sum over the signal. -/
theorem sum_phase (f : Fin 4096 → EReal) : ∑ r : Fin 4, ∑ i : Fin 1024, phase f r i = ∑ l, f l := by
  rw [Fin.sum_univ_tiles 1024 4 (by norm_num) f, Finset.sum_comm]
  refine Finset.sum_congr rfl fun i _ => Finset.sum_congr rfl fun r _ => ?_
  exact congrArg f (Fin.ext (by show 4 * i.val + r.val = i.val * 4 + r.val; omega))

end Cert.Spec

end
-- ==== Proof.KShift.lean ====
/- The kernel keeps four samples side by side on 4096 lanes, 1024 lanes each. A shift of every sample by one position is
   printed as a concatenation of eight pieces; here it is read. -/
module

public import proofs.«01_k».proof.Proof.Spec

@[expose] public section

set_option maxRecDepth 16384

noncomputable section

namespace Cert.Proof

open Idealize.ShloMosaic Cert.Spec

/-- Position `i` of sample `g` on the lanes. -/
def lane (g : Fin 4) (i : Fin 1024) : Fin 4096 := ⟨1024 * g.val + i.val, by omega⟩

/-- Sample `g` of a lane matrix. -/
def smp {C : Nat} (A : FVec Ideal (⟨2, ![C, 4096]⟩ : Shape) .f32) (g : Fin 4) (c : Fin C) (i : Fin 1024) : EReal := A (ix2 c (lane g i))

abbrev M (C n : Nat) : Shape := ⟨2, ![C, n]⟩

/-- Every sample one position to the right: a zero, then the first 1023 lanes, four times. -/
def prevV {C : Nat} (A : FVec Ideal (M C 4096) .f32) (z : FVec Ideal (M C 1) .f32)
    (h0 : (M C 4096).Slices ![0, 0] (M C 1023)) (h1 : (M C 4096).Slices ![0, 1024] (M C 1023))
    (h2 : (M C 4096).Slices ![0, 2048] (M C 1023)) (h3 : (M C 4096).Slices ![0, 3072] (M C 1023))
    (hc : Shape.Concatenates [M C 1, M C 1023, M C 1, M C 1023, M C 1, M C 1023, M C 1, M C 1023] (M C 4096) 1) :
    FVec Ideal (M C 4096) .f32 :=
  concatenate (M C 4096) 1 [⟨M C 1, z⟩, ⟨M C 1023, extractStridedSlice (M C 1023) ![0, 0] A h0⟩,
    ⟨M C 1, z⟩, ⟨M C 1023, extractStridedSlice (M C 1023) ![0, 1024] A h1⟩,
    ⟨M C 1, z⟩, ⟨M C 1023, extractStridedSlice (M C 1023) ![0, 2048] A h2⟩,
    ⟨M C 1, z⟩, ⟨M C 1023, extractStridedSlice (M C 1023) ![0, 3072] A h3⟩] hc

/-- Every sample one position to the left: the last 1023 lanes, then a zero, four times. -/
def nextV {C : Nat} (A : FVec Ideal (M C 4096) .f32) (z : FVec Ideal (M C 1) .f32)
    (h0 : (M C 4096).Slices ![0, 1] (M C 1023)) (h1 : (M C 4096).Slices ![0, 1025] (M C 1023))
    (h2 : (M C 4096).Slices ![0, 2049] (M C 1023)) (h3 : (M C 4096).Slices ![0, 3073] (M C 1023))
    (hc : Shape.Concatenates [M C 1023, M C 1, M C 1023, M C 1, M C 1023, M C 1, M C 1023, M C 1] (M C 4096) 1) :
    FVec Ideal (M C 4096) .f32 :=
  concatenate (M C 4096) 1 [⟨M C 1023, extractStridedSlice (M C 1023) ![0, 1] A h0⟩, ⟨M C 1, z⟩,
    ⟨M C 1023, extractStridedSlice (M C 1023) ![0, 1025] A h1⟩, ⟨M C 1, z⟩,
    ⟨M C 1023, extractStridedSlice (M C 1023) ![0, 2049] A h2⟩, ⟨M C 1, z⟩,
    ⟨M C 1023, extractStridedSlice (M C 1023) ![0, 3073] A h3⟩, ⟨M C 1, z⟩] hc

theorem prevV_smp {C : Nat} (A : FVec Ideal (M C 4096) .f32) (z : FVec Ideal (M C 1) .f32) (hz : ∀ i, z i = 0)
    (h0 h1 h2 h3 hc) (g : Fin 4) (c : Fin C) (i : Fin 1024) :
    smp (prevV A z h0 h1 h2 h3 hc) g c i = prv (smp A g c) i := by
  unfold smp prevV
  pointwise [prv, lane]
  simp only [hz]
  split_ifs <;> first
    | rfl
    | (exfalso; omega)
    | (refine congrArg A (funext fun a => Fin.ext ?_); fin_cases a <;> simp [Shape.Idx.norm, ix2] <;> omega)

theorem nextV_smp {C : Nat} (A : FVec Ideal (M C 4096) .f32) (z : FVec Ideal (M C 1) .f32) (hz : ∀ i, z i = 0)
    (h0 h1 h2 h3 hc) (g : Fin 4) (c : Fin C) (i : Fin 1024) :
    smp (nextV A z h0 h1 h2 h3 hc) g c i = nxt (smp A g c) i := by
  unfold smp nextV
  pointwise [nxt, lane]
  simp only [hz]
  split_ifs <;> first
    | rfl
    | (exfalso; omega)
    | (refine congrArg A (funext fun a => Fin.ext ?_); fin_cases a <;> simp [Shape.Idx.norm, ix2] <;> omega)

end Cert.Proof

end
-- ==== Proof.KOps.lean ====
/- The vector operations of the kernel's body, read one sample at a time. -/
module

public import proofs.«01_k».proof.Proof.KShift

@[expose] public section

set_option maxRecDepth 16384

noncomputable section

namespace Cert.Proof

open Idealize.ShloMosaic Cert.Spec

variable {C m n : Nat}

theorem smp_addf (a b : FVec Ideal (M C 4096) .f32) (g : Fin 4) (c : Fin C) :
    smp (addf a b) g c = fun i => smp a g c i + smp b g c i := rfl

theorem smp_relu (a : FVec Ideal (M C 4096) .f32) (g : Fin 4) (c : Fin C) :
    smp (maximumf a (broadcast (M C 4096) (Scalar.ofBits (F := Ideal) .f32 0x00000000#32))) g c = fun i => max (smp a g c i) 0 := by
  funext i
  unfold smp
  pointwise

theorem smp_matmul (w : FVec Ideal (M m n) .f32) (B : FVec Ideal (M n 4096) .f32) (g : Fin 4) (o : Fin m) :
    smp (C := m) (matmul (F := Ideal) (DotDims.plain m n 4096) none w B (constant (M m 4096) .f32 0x00000000#32)) g o
      = fun i => ∑ c, w (ix2 o c) * smp B g c i := by
  funext i
  unfold smp
  refine (Ideal.matmul_apply₁_of (DotDims.plain m n 4096) (a := 1) rfl (K := n) rfl w B _ _ (fun c => ix2 o c) (fun c => ix2 c (lane g i))
    (fun c => ?_) (fun c => ?_)).trans ?_
  · funext a; fin_cases a <;> rfl
  · funext a; fin_cases a <;> rfl
  · pointwise

theorem smp_prev (A : FVec Ideal (M C 4096) .f32) (h0 h1 h2 h3 hc) (g : Fin 4) (c : Fin C) :
    smp (C := C) (concatenate (M C 4096) 1 [⟨M C 1, broadcast (M C 1) (Scalar.ofBits (F := Ideal) .f32 0x00000000#32)⟩, ⟨M C 1023, extractStridedSlice (M C 1023) ![0, 0] A h0⟩,
      ⟨M C 1, broadcast (M C 1) (Scalar.ofBits (F := Ideal) .f32 0x00000000#32)⟩, ⟨M C 1023, extractStridedSlice (M C 1023) ![0, 1024] A h1⟩,
      ⟨M C 1, broadcast (M C 1) (Scalar.ofBits (F := Ideal) .f32 0x00000000#32)⟩, ⟨M C 1023, extractStridedSlice (M C 1023) ![0, 2048] A h2⟩,
      ⟨M C 1, broadcast (M C 1) (Scalar.ofBits (F := Ideal) .f32 0x00000000#32)⟩, ⟨M C 1023, extractStridedSlice (M C 1023) ![0, 3072] A h3⟩] hc) g c
      = prv (smp A g c) :=
  funext fun i => prevV_smp A _ (fun j => by pointwise) h0 h1 h2 h3 hc g c i

theorem smp_next (A : FVec Ideal (M C 4096) .f32) (h0 h1 h2 h3 hc) (g : Fin 4) (c : Fin C) :
    smp (C := C) (concatenate (M C 4096) 1 [⟨M C 1023, extractStridedSlice (M C 1023) ![0, 1] A h0⟩, ⟨M C 1, broadcast (M C 1) (Scalar.ofBits (F := Ideal) .f32 0x00000000#32)⟩,
      ⟨M C 1023, extractStridedSlice (M C 1023) ![0, 1025] A h1⟩, ⟨M C 1, broadcast (M C 1) (Scalar.ofBits (F := Ideal) .f32 0x00000000#32)⟩,
      ⟨M C 1023, extractStridedSlice (M C 1023) ![0, 2049] A h2⟩, ⟨M C 1, broadcast (M C 1) (Scalar.ofBits (F := Ideal) .f32 0x00000000#32)⟩,
      ⟨M C 1023, extractStridedSlice (M C 1023) ![0, 3073] A h3⟩, ⟨M C 1, broadcast (M C 1) (Scalar.ofBits (F := Ideal) .f32 0x00000000#32)⟩] hc) g c
      = nxt (smp A g c) :=
  funext fun i => nextV_smp A _ (fun j => by pointwise) h0 h1 h2 h3 hc g c i

theorem smp_col (b : FVec Ideal (M C 1) .f32) (h) (g : Fin 4) (c : Fin C) :
    smp (C := C) (broadcastTo (M C 4096) b h) g c = fun _ => b (ix2 c 0) := by
  funext i
  unfold smp
  pointwise
  refine congrArg b (funext fun a => Fin.ext ?_)
  fin_cases a
  · by_cases hC : C = 1
    · subst hC; simp [Shape.Idx.norm, ix2]
    · simp [Shape.Idx.norm, ix2, hC]
  · simp [Shape.Idx.norm, ix2]

end Cert.Proof

end
-- ==== Proof.KEnc.lean ====
/- The kernel's convolutions, one sample at a time. -/
module

public import proofs.«01_k».proof.Proof.KOps
public import proofs.«01_k».proof.Proof.Gen.KernelIdeal.Skeleton

@[expose] public section

set_option maxRecDepth 16384
set_option maxHeartbeats 2000000

noncomputable section

namespace Cert.Proof

open Idealize.ShloMosaic Cert.Spec Cert.KernelIdeal Cert.KernelIdeal.Gen

/-- The contractions' dimension records are plain matrix products. -/
theorem plain1 : dot_S128x4_S4x4096_S128x4096_1_0_0_1_n_n = DotDims.plain 128 4 4096 := rfl
theorem plain2 : dot_S256x128_S128x4096_S256x4096_1_0_0_1_n_n = DotDims.plain 256 128 4096 := rfl
theorem plain3 : dot_S256x256_S256x4096_S256x4096_1_0_0_1_n_n = DotDims.plain 256 256 4096 := rfl
theorem plain4 : dot_S64x256_S256x4096_S64x4096_1_0_0_1_n_n = DotDims.plain 64 256 4096 := rfl
theorem plain5 : dot_S256x64_S64x4096_S256x4096_1_0_0_1_n_n = DotDims.plain 256 64 4096 := rfl
theorem plain6 : dot_S128x256_S256x4096_S128x4096_1_0_0_1_n_n = DotDims.plain 128 256 4096 := rfl
theorem plain7 : dot_S4x128_S128x4096_S4x4096_1_0_0_1_n_n = DotDims.plain 4 128 4096 := rfl

/-- A tap of a stacked weight as a matrix function. -/
abbrev w3 {k a b : Nat} (W : FVec Ideal (⟨3, ![k, a, b]⟩ : Shape) .f32) (o : Fin a) (c : Fin b) (t : Fin k) : EReal := W (ix3 t o c)
abbrev w2 {a b : Nat} (W : FVec Ideal (⟨2, ![a, b]⟩ : Shape) .f32) (o : Fin a) (c : Fin b) : EReal := W (ix2 o c)
abbrev w1 {a : Nat} (W : FVec Ideal (⟨2, ![a, 1]⟩ : Shape) .f32) (o : Fin a) : EReal := W (ix2 o 0)

variable (g : Fin 4)

/-- The lane matrix of the normalised signal: the last phase one position earlier, and the other three. -/
theorem pay19_smp (v1 : FVec Ideal S4x4x1024 .f32) (v22 v43 v45 : FVec Ideal S4x1024 .f32) (c : Fin 1) :
    smp (C := 1) (k0_pay19 v1 v22 v43 v45) g c = prv (smp (C := 4) (k0_pay18 v1 v22 v43 v45) g 3) := by
  simp only [k0_pay19, smp_prev]
  congr 1
  funext i
  unfold smp
  fin_cases c
  pointwise

theorem pay20_smp (v1 : FVec Ideal S4x4x1024 .f32) (v22 v43 v45 : FVec Ideal S4x1024 .f32) (c : Fin 3) :
    smp (C := 3) (k0_pay20 v1 v22 v43 v45) g c = smp (C := 4) (k0_pay18 v1 v22 v43 v45) g c.castSucc := by
  funext i
  unfold smp k0_pay20
  pointwise
  rfl

/-- The first convolution at the even positions. -/
theorem pay22_smp (v93 : FVec Ideal S1x4096 .f32) (v94 : FVec Ideal S3x4096 .f32) (v105 : FVec Ideal S128x1 .f32) (v107 : FVec Ideal S128x4 .f32) :
    smp (C := 128) (k0_pay22 v93 v94 v105 v107) g
      = fun o i => max ((w2 v107 o 0 * smp (C := 1) v93 g 0 i + w2 v107 o 1 * smp (C := 3) v94 g 0 i
          + w2 v107 o 2 * smp (C := 3) v94 g 1 i + w2 v107 o 3 * smp (C := 3) v94 g 2 i) + w1 v105 o) 0 := by
  funext o i
  simp only [k0_pay22, k0_pay21, plain1, smp_addf, smp_relu, smp_matmul, smp_col, Fin.sum_univ_four]
  unfold smp
  pointwise

/-- The first convolution at the odd positions. -/
theorem pay23_smp (v86 : FVec Ideal S4x4096 .f32) (v105 : FVec Ideal S128x1 .f32) (v114 : FVec Ideal S128x4 .f32) :
    smp (C := 128) (k0_pay23 v86 v105 v114) g
      = fun o i => max ((w2 v114 o 0 * smp (C := 4) v86 g 1 i + w2 v114 o 1 * smp (C := 4) v86 g 2 i
          + w2 v114 o 2 * smp (C := 4) v86 g 3 i + w2 v114 o 3 * nxt (smp (C := 4) v86 g 0) i) + w1 v105 o) 0 := by
  have row (A : FVec Ideal S3x4096 .f32) (B : FVec Ideal S1x4096 .f32) (h) :
      smp (C := 4) (concatenate S4x4096 0 [⟨S3x4096, A⟩, ⟨S1x4096, B⟩] h) g 3 = smp (C := 1) B g 0 := by
    funext i
    unfold smp
    pointwise
  funext o i
  simp only [k0_pay23, k0_pay21, plain1, smp_addf, smp_relu, smp_matmul, smp_col, Fin.sum_univ_four, row, smp_next]
  have top : smp (C := 1) (extractStridedSlice S1x4096 ![0, 0] v86 (by decide)) g 0 = smp (C := 4) v86 g 0 := by
    funext i
    unfold smp
    pointwise
  rw [top]
  unfold smp
  pointwise

/-- The second convolution's first two taps. -/
theorem pay25_smp (v86 : FVec Ideal S4x4096 .f32) (v93 : FVec Ideal S1x4096 .f32) (v94 : FVec Ideal S3x4096 .f32) (v105 : FVec Ideal S128x1 .f32)
    (v107 v114 : FVec Ideal S128x4 .f32) (v121 : FVec Ideal S4x256x128 .f32) :
    smp (C := 256) (k0_pay25 v86 v93 v94 v105 v107 v114 v121) g
      = fun o i => (∑ c, w3 v121 o c 0 * prv (smp (C := 128) (k0_pay23 v86 v105 v114) g c) i)
          + ∑ c, w3 v121 o c 1 * smp (C := 128) (k0_pay22 v93 v94 v105 v107) g c i := by
  funext o i
  simp only [k0_pay25, k0_pay24, plain2, smp_addf, smp_matmul, smp_prev]
  pointwise

/-- The rest of the second convolution, and the third without its bias. -/
theorem pay27_smp (v113 v120 : FVec Ideal S128x4096 .f32) (v121 : FVec Ideal S4x256x128 .f32) (v135 : FVec Ideal S256x4096 .f32)
    (v150 : FVec Ideal S256x1 .f32) (v156 : FVec Ideal S3x256x256 .f32) :
    smp (C := 256) (k0_pay27 v113 v120 (k0_pay24 v121) v135 (k0_pay26 v121) v150 v156) g
      = conv3 (w3 v156) (relu (bias (fun o i => smp (C := 256) v135 g o i + (∑ c, w3 v121 o c 2 * smp (C := 128) v120 g c i)
          + ∑ c, w3 v121 o c 3 * nxt (smp (C := 128) v113 g c) i) (w1 v150))) := by
  funext o i
  simp only [k0_pay27, k0_pay26, k0_pay24, plain2, plain3, smp_addf, smp_relu, smp_matmul, smp_prev, smp_next, smp_col]
  pointwise
  rfl

/-- The first residual block of the encoder, with the third convolution's bias before it. -/
theorem pay28_smp (v180 : FVec Ideal S256x4096 .f32) (v181 : FVec Ideal S256x1 .f32) (v185 : FVec Ideal S3x64x256 .f32)
    (v187 : FVec Ideal S256x64 .f32) :
    smp (C := 256) (k0_pay28 v180 v181 v185 v187) g
      = resblock (w3 v185) (w2 v187) (bias (smp (C := 256) v180 g) (w1 v181)) := by
  funext o i
  simp only [k0_pay28, plain4, plain5, smp_addf, smp_relu, smp_matmul, smp_prev, smp_next, smp_col]
  pointwise
  simp only [prv_sum, nxt_sum]
  rfl

/-- The second residual block, the last relu and the projection. -/
theorem pay32_smp (v217 : FVec Ideal S256x4096 .f32) (v218 : FVec Ideal S3x64x256 .f32) (v220 : FVec Ideal S256x64 .f32)
    (v253 : FVec Ideal S64x256 .f32) (v256 : FVec Ideal S64x1 .f32) :
    smp (C := 64) (k0_pay32 v217 (k0_pay29 v218) (k0_pay30 v220) (k0_pay31 (F := Ideal)) v253 v256) g
      = bias (conv1 (w2 v253) (relu (resblock (w3 v218) (w2 v220) (smp (C := 256) v217 g)))) (w1 v256) := by
  funext o i
  simp only [k0_pay32, k0_pay29, k0_pay30, k0_pay31, plain4, plain5, smp_addf, smp_relu, smp_matmul, smp_prev, smp_next, smp_col]
  pointwise
  simp only [prv_sum, nxt_sum]
  rfl

/-- The decoder's first convolution: two taps, then the third and the bias. -/
theorem pay43_smp (v259 : FVec Ideal S64x4096 .f32) (v260 : FVec Ideal S1024x64 .f32) (v263 : FVec Ideal S1024x1 .f32) (v265 : FVec Ideal S4096 .f32)
    (v296 : FVec Ideal S3x256x64 .f32) (v321 : FVec Ideal S256x1 .f32) :
    smp (C := 256) (k0_pay43 (k0_pay37 v259 v260 v263 v265) (k0_pay41 v259 v260 v263 v265 v296) (k0_pay42 v296) v321) g
      = bias (conv3 (w3 v296) (smp (C := 64) (k0_pay37 v259 v260 v263 v265) g)) (w1 v321) := by
  generalize hq : k0_pay37 v259 v260 v263 v265 = q
  funext o i
  simp only [k0_pay43, k0_pay41, k0_pay40, k0_pay42, hq, plain5, smp_addf, smp_matmul, smp_prev, smp_next, smp_col]
  pointwise
  rfl

/-- The decoder's two residual blocks and the relu after them. -/
theorem pay46_smp (v287 : FVec Ideal S64x4096 .f32) (v310 : FVec Ideal S256x4096 .f32) (v311 : FVec Ideal S1x256x64 .f32) (v321 : FVec Ideal S256x1 .f32)
    (v325 : FVec Ideal S3x64x256 .f32) (v327 : FVec Ideal S256x64 .f32) (v358 : FVec Ideal S3x64x256 .f32) (v360 : FVec Ideal S256x64 .f32) :
    smp (C := 256) (k0_pay46 (k0_pay43 v287 v310 v311 v321) (k0_pay44 v327) (k0_pay45 v287 v310 v311 v321 v325) v358 v360) g
      = relu (resblock (w3 v358) (w2 v360) (resblock (w3 v325) (w2 v327) (smp (C := 256) (k0_pay43 v287 v310 v311 v321) g))) := by
  funext o i
  simp only [k0_pay46, k0_pay45, k0_pay44, plain4, plain5, smp_addf, smp_relu, smp_matmul, smp_prev, smp_next, smp_col]
  pointwise
  simp only [prv_sum, nxt_sum]
  rfl

/-- The first transposed convolution at the even positions, through the second one's matrix. -/
theorem pay50_smp (v392 : FVec Ideal S256x4096 .f32) (v393 : FVec Ideal S4x128x256 .f32) (v395 : FVec Ideal S128x1 .f32) (v431 : FVec Ideal S4x128 .f32) :
    smp (C := 4) (k0_pay50 v392 (k0_pay47 v393) v395 v431) g
      = conv1 (w2 v431) (relu (bias (tconvE (fun c o t => v393 (ix3 t o c)) (smp (C := 256) v392 g)) (w1 v395))) := by
  funext o i
  simp only [k0_pay50, k0_pay47, k0_pay48, k0_pay49, plain6, plain7, smp_addf, smp_relu, smp_matmul, smp_prev, smp_next, smp_col]
  pointwise
  simp only [prv_sum, nxt_sum]
  rfl

theorem pay51_smp (v392 : FVec Ideal S256x4096 .f32) (v393 : FVec Ideal S4x128x256 .f32) (v395 : FVec Ideal S128x1 .f32) (v431 : FVec Ideal S4x128 .f32) :
    smp (C := 4) (k0_pay51 v392 (k0_pay47 v393) v395 v431) g
      = conv1 (w2 v431) (relu (bias (tconvO (fun c o t => v393 (ix3 t o c)) (smp (C := 256) v392 g)) (w1 v395))) := by
  funext o i
  simp only [k0_pay51, k0_pay47, k0_pay48, k0_pay49, plain6, plain7, smp_addf, smp_relu, smp_matmul, smp_prev, smp_next, smp_col]
  pointwise
  simp only [prv_sum, nxt_sum]
  rfl

end Cert.Proof

end
-- ==== Proof.KStat.lean ====
/- The kernel's statistics of a sample and its normalised signal. -/
module

public import proofs.«01_k».proof.Proof.KEnc

@[expose] public section

set_option maxRecDepth 16384

noncomputable section

namespace Cert.Proof

open Idealize.ShloMosaic Cert.Spec Cert.KernelIdeal Cert.KernelIdeal.Gen

variable (X : FVec Ideal S4x4x1024 .f32)

/-- The signal of one sample of a block, which stores it by phases. -/
def sig (g : Fin 4) : Fin 4096 → EReal := join fun r i => X (ix3 g r i)

theorem phase_sig (g : Fin 4) : phase (sig X g) = fun r i => X (ix3 g r i) := phase_join _

/-- The mean and the deviation of a sample from sums over its phases. -/
theorem mean_sig (g : Fin 4) : Ideal.div (∑ r : Fin 4, ∑ i : Fin 1024, X (ix3 g r i)) cLen = mean (sig X g) := by
  unfold mean
  rw [← sum_phase, phase_sig]

theorem dev_sig (g : Fin 4) (m : EReal) (hm : m = mean (sig X g)) :
    Ideal.sqrt (Ideal.div (∑ r : Fin 4, ∑ i : Fin 1024, (X (ix3 g r i) - m) * (X (ix3 g r i) - m)) cLen + cEps) = dev (sig X g) := by
  unfold dev
  rw [← sum_phase, hm]
  have h (r : Fin 4) (i : Fin 1024) : X (ix3 g r i) = phase (sig X g) r i := (congrFun (congrFun (phase_sig X g) r) i).symm
  simp only [h]
  rfl

theorem mean0_eq : k0_pay5 (F := Ideal) X = mean (sig X 0) := by
  rw [← mean_sig]
  simp only [k0_pay5, k0_pay4, k0_pay3]
  pointwise
  rfl

theorem dev0_eq : k0_pay6 (F := Ideal) X = dev (sig X 0) := by
  rw [← dev_sig X 0 _ (mean0_eq X)]
  simp only [k0_pay6, k0_pay4, k0_pay3]
  generalize k0_pay5 (F := Ideal) _ = m
  pointwise
  rfl

theorem mean1_eq : k0_pay9 (F := Ideal) X = mean (sig X 1) := by
  rw [← mean_sig]
  simp only [k0_pay9, k0_pay8, k0_pay3]
  pointwise
  rfl

theorem dev1_eq : k0_pay10 (F := Ideal) X = dev (sig X 1) := by
  rw [← dev_sig X 1 _ (mean1_eq X)]
  simp only [k0_pay10, k0_pay8, k0_pay3]
  generalize k0_pay9 (F := Ideal) _ = m
  pointwise
  rfl

theorem mean2_eq : k0_pay13 (k0_pay12 (F := Ideal) X) = mean (sig X 2) := by
  rw [← mean_sig]
  simp only [k0_pay13, k0_pay12, k0_pay3]
  pointwise
  rfl

theorem dev2_eq : k0_pay14 (k0_pay12 (F := Ideal) X) = dev (sig X 2) := by
  rw [← dev_sig X 2 _ (mean2_eq X)]
  simp only [k0_pay14, k0_pay12, k0_pay3]
  generalize k0_pay13 (F := Ideal) _ = m
  pointwise
  rfl

theorem mean3_eq : k0_pay16 (F := Ideal) (k0_pay3 X) = mean (sig X 3) := by
  rw [← mean_sig]
  simp only [k0_pay16, k0_pay15, k0_pay3]
  pointwise
  rfl

theorem dev3_eq : k0_pay17 (F := Ideal) (k0_pay3 X) = dev (sig X 3) := by
  rw [← dev_sig X 3 _ (mean3_eq X)]
  simp only [k0_pay17, k0_pay15, k0_pay3]
  generalize k0_pay16 (F := Ideal) _ = m
  pointwise
  rfl

/-- The lane matrix of the normalised block: row `r` is the phase `r`. -/
theorem pay18_smp (g : Fin 4) (r : Fin 4) :
    smp (C := 4) (k0_pay18 (F := Ideal) (k0_pay3 X) (k0_pay7 X) (k0_pay11 X) (k0_pay12 X)) g r = phase (norm (sig X g)) r := by
  funext i
  have h (g : Fin 4) : phase (norm (sig X g)) r i = Ideal.div (X (ix3 g r i) - mean (sig X g)) (dev (sig X g)) := by
    rw [← congrFun (congrFun (phase_sig X g) r) i]; rfl
  rw [h]
  have hi := i.isLt
  unfold smp lane
  fin_cases g
  · simp only [k0_pay18, k0_pay7, k0_pay4, k0_pay3]
    pointwise
    rw [mean0_eq, dev0_eq]
  · simp only [k0_pay18, k0_pay11, k0_pay8, k0_pay3]
    pointwise
    rw [mean1_eq, dev1_eq]
  · simp only [k0_pay18, mean2_eq, dev2_eq, mean3_eq, dev3_eq]
    simp only [k0_pay12, k0_pay3]
    pointwise
    rw [dif_neg (show ¬ 2048 + i.val < 1024 by omega), dif_neg (show ¬ 2048 + i.val - 1024 < 1024 by omega),
      dif_pos (show 2048 + i.val - 1024 - 1024 < 1024 by omega)]
    have e : 2048 + i.val - 1024 - 1024 = i.val := by omega
    simp only [e]
  · simp only [k0_pay18, mean2_eq, dev2_eq, mean3_eq, dev3_eq]
    simp only [k0_pay15, k0_pay3]
    pointwise
    rw [dif_neg (show ¬ 3072 + i.val < 1024 by omega), dif_neg (show ¬ 3072 + i.val - 1024 < 1024 by omega),
      dif_neg (show ¬ 3072 + i.val - 1024 - 1024 < 1024 by omega)]
    have e : 3072 + i.val - 1024 - 1024 - 1024 = i.val := by omega
    simp only [e]

end Cert.Proof

end
-- ==== Proof.Near.lean ====
/- The nearest code: the lowest index of the least distance, as the kernel finds it (a minimum, then the least of the
   indices that attain it) and as the reference does (a fold over the pairs of value and index). -/
module

public import proofs.«01_k».proof.Proof.Spec
public import proofs.«01_k».proof.ReferenceIdeal

@[expose] public section

set_option maxRecDepth 16384

noncomputable section

namespace Cert.Spec

open Idealize.ShloMosaic

/-- `k` is the lowest index of the least value of `d`. -/
def IsNear (d : Fin 1024 → EReal) (k : Fin 1024) : Prop := (∀ j, d k ≤ d j) ∧ ∀ j, j < k → d k < d j

theorem isNear_unique {d : Fin 1024 → EReal} {k l : Fin 1024} (hk : IsNear d k) (hl : IsNear d l) : k = l := by
  rcases lt_trichotomy k l with h | h | h
  · exact absurd (hl.2 k h) (not_lt.2 (hk.1 l))
  · exact h
  · exact absurd (hk.2 l h) (not_lt.2 (hl.1 k))

theorem exists_isNear (d : Fin 1024 → EReal) : ∃ k, IsNear d k := by
  obtain ⟨m, -, hm⟩ := Finset.exists_min_image Finset.univ d ⟨0, Finset.mem_univ _⟩
  have hne : (Finset.univ.filter fun k => d k = d m).Nonempty := ⟨m, by simp⟩
  refine ⟨(Finset.univ.filter fun k => d k = d m).min' hne, ?_, ?_⟩
  · intro j
    have h := (Finset.mem_filter.1 (Finset.min'_mem _ hne)).2
    rw [h]
    exact hm j (Finset.mem_univ _)
  · intro j hj
    have h := (Finset.mem_filter.1 (Finset.min'_mem _ hne)).2
    rw [h]
    refine lt_of_le_of_ne (hm j (Finset.mem_univ _)) fun he => ?_
    exact absurd (Finset.min'_le _ j (Finset.mem_filter.2 ⟨Finset.mem_univ _, he.symm⟩)) (not_le.2 hj)

/-- The lowest index of the least value. -/
def near (d : Fin 1024 → EReal) : Fin 1024 := (exists_isNear d).choose
theorem near_spec (d : Fin 1024 → EReal) : IsNear d (near d) := (exists_isNear d).choose_spec

theorem toInt_ofNat_fin (k : Fin 1024) : (BitVec.ofNat 32 k.val).toInt = k.val := by
  have := k.isLt
  rw [BitVec.toInt_eq_toNat_of_lt] <;> simp <;> omega

theorem toInt_inj {a b : BitVec 32} (h : a.toInt = b.toInt) : a = b := BitVec.eq_of_toInt_eq h

/-- A fold of signed minima is below every entry, and is the start or an entry. -/
theorem fold_minsi (b : BitVec 32) (f : Fin 1024 → BitVec 32) (s : Finset (Fin 1024)) :
    (∀ x ∈ s, (Finset.fold IntOp.minsi b f s).toInt ≤ (f x).toInt) ∧
      (Finset.fold IntOp.minsi b f s = b ∨ ∃ x ∈ s, Finset.fold IntOp.minsi b f s = f x) := by
  have hmin (a c : BitVec 32) : IntOp.minsi a c = if a.toInt < c.toInt then a else c := by
    unfold IntOp.minsi
    simp [BitVec.sle, BitVec.slt]
  induction s using Finset.induction_on with
  | empty => simp
  | insert a s ha ih =>
    rw [Finset.fold_insert ha, hmin]
    obtain ⟨h1, h2⟩ := ih
    constructor
    · intro x hx
      rcases Finset.mem_insert.1 hx with rfl | hx
      · split <;> omega
      · have := h1 x hx
        split <;> omega
    · split
      · exact .inr ⟨a, Finset.mem_insert_self _ _, rfl⟩
      · rcases h2 with h2 | ⟨x, hx, h2⟩
        · exact .inl h2
        · exact .inr ⟨x, Finset.mem_insert_of_mem hx, h2⟩

/-- The kernel's way to the nearest code. -/
theorem fold_near (d : Fin 1024 → EReal) (m : EReal) (hm : m = Finset.fold min ⊤ d Finset.univ) :
    Finset.fold IntOp.minsi (2147483647#32) (fun x : Fin 1024 => if d x = m then BitVec.ofNat 32 x.val else 1024#32) Finset.univ
      = BitVec.ofNat 32 (near d).val := by
  have hk := near_spec d
  generalize near d = k at hk
  have hm' : m = d k := by
    rw [hm]
    apply le_antisymm
    · exact Finset.fold_min_le _ |>.2 (.inr ⟨k, Finset.mem_univ _, le_refl _⟩)
    · exact Finset.le_fold_min _ |>.2 ⟨le_top, fun x _ => hk.1 x⟩
  obtain ⟨h1, h2⟩ := fold_minsi (2147483647#32) (fun x : Fin 1024 => if d x = m then BitVec.ofNat 32 x.val else 1024#32) Finset.univ
  generalize Finset.fold IntOp.minsi (2147483647#32) (fun x : Fin 1024 => if d x = m then BitVec.ofNat 32 x.val else 1024#32) Finset.univ = r at h1 h2 ⊢
  have hkk := h1 k (Finset.mem_univ _)
  rw [if_pos hm'.symm, toInt_ofNat_fin] at hkk
  have hk' := k.isLt
  rcases h2 with h2 | ⟨x, -, h2⟩
  · exfalso
    rw [h2] at hkk
    have : (2147483647#32 : BitVec 32).toInt = 2147483647 := by decide
    omega
  · by_cases hx : d x = m
    · rw [if_pos hx] at h2
      rw [h2, toInt_ofNat_fin] at hkk
      rcases lt_or_ge x k with hlt | hge
      · exact absurd (hk.2 x hlt) (by rw [hx, hm']; exact lt_irrefl _)
      · have : x.val = k.val := le_antisymm (by exact_mod_cast hkk) hge
        rw [h2, this]
    · exfalso
      rw [if_neg hx] at h2
      rw [h2] at hkk
      have : (1024#32 : BitVec 32).toInt = 1024 := by decide
      omega

/-- The order of the pairs of value and index. -/
def Below (a b : EReal × BitVec 32) : Prop := a.1 < b.1 ∨ (a.1 = b.1 ∧ a.2.toInt ≤ b.2.toInt)

theorem Below.refl (a : EReal × BitVec 32) : Below a a := .inr ⟨rfl, le_refl _⟩
theorem Below.trans {a b c : EReal × BitVec 32} (h : Below a b) (h' : Below b c) : Below a c := by
  rcases h with h | ⟨h, hi⟩ <;> rcases h' with h' | ⟨h', hi'⟩
  · exact .inl (h.trans h')
  · exact .inl (h' ▸ h)
  · exact .inl (h ▸ h')
  · exact .inr ⟨h.trans h', hi.trans hi'⟩

/-- The reference's step takes the lower of the two pairs. -/
theorem reducer_cases (a b : EReal × BitVec 32) :
    let r := ReferenceIdeal.reducer_argmin_f32_i32 (F := Ideal) a b
    (r = a ∨ r = b) ∧ Below r a ∧ Below r b := by
  obtain ⟨a1, a2⟩ := a
  obtain ⟨b1, b2⟩ := b
  have hslt : a2.slt b2 = decide (a2.toInt < b2.toInt) := by simp [BitVec.slt]
  rcases lt_trichotomy a1 b1 with h | h | h
  · have e : ReferenceIdeal.reducer_argmin_f32_i32 (F := Ideal) (a1, a2) (b1, b2) = (a1, a2) := by
      simp [ReferenceIdeal.reducer_argmin_f32_i32, Ideal.cmpf_def, Ideal.cmp, IntOp.ori, IntOp.andi, IntOp.cmpi, Scalar.select, h, h.ne]
    simp only [e]
    exact ⟨.inl trivial, Below.refl _, .inl h⟩
  · subst h
    by_cases hi : a2.toInt < b2.toInt
    · have e : ReferenceIdeal.reducer_argmin_f32_i32 (F := Ideal) (a1, a2) (a1, b2) = (a1, a2) := by
        simp [ReferenceIdeal.reducer_argmin_f32_i32, Ideal.cmpf_def, Ideal.cmp, IntOp.ori, IntOp.andi, IntOp.cmpi, Scalar.select, hslt, hi]
      simp only [e]
      exact ⟨.inl trivial, Below.refl _, .inr ⟨rfl, hi.le⟩⟩
    · have e : ReferenceIdeal.reducer_argmin_f32_i32 (F := Ideal) (a1, a2) (a1, b2) = (a1, b2) := by
        simp [ReferenceIdeal.reducer_argmin_f32_i32, Ideal.cmpf_def, Ideal.cmp, IntOp.ori, IntOp.andi, IntOp.cmpi, Scalar.select, hslt, hi]
      simp only [e]
      exact ⟨.inr trivial, .inr ⟨rfl, not_lt.1 hi⟩, Below.refl _⟩
  · have e : ReferenceIdeal.reducer_argmin_f32_i32 (F := Ideal) (a1, a2) (b1, b2) = (b1, b2) := by
      simp [ReferenceIdeal.reducer_argmin_f32_i32, Ideal.cmpf_def, Ideal.cmp, IntOp.ori, IntOp.andi, IntOp.cmpi, Scalar.select, not_lt.2 h.le, h.ne']
    simp only [e]
    exact ⟨.inr trivial, .inl h, Below.refl _⟩

theorem foldl_reducer (l : List (EReal × BitVec 32)) (p : EReal × BitVec 32) :
    let r := l.foldl (ReferenceIdeal.reducer_argmin_f32_i32 (F := Ideal)) p
    (r = p ∨ r ∈ l) ∧ Below r p ∧ ∀ q ∈ l, Below r q := by
  induction l generalizing p with
  | nil => exact ⟨.inl rfl, Below.refl _, by simp⟩
  | cons a l ih =>
    obtain ⟨h1, h2, h3⟩ := ih (ReferenceIdeal.reducer_argmin_f32_i32 (F := Ideal) p a)
    obtain ⟨g1, g2, g3⟩ := reducer_cases p a
    refine ⟨?_, h2.trans g2, ?_⟩
    · rcases h1 with h1 | h1
      · rcases g1 with g1 | g1
        · exact .inl (h1.trans g1)
        · exact .inr (by rw [List.foldl_cons, h1, g1]; exact List.mem_cons_self ..)
      · exact .inr (List.mem_cons_of_mem _ h1)
    · intro q hq
      rcases List.mem_cons.1 hq with rfl | hq
      · exact h2.trans g3
      · exact h3 q hq

/-- The reference's way to the nearest code: the fold over a list holding exactly the pairs of a row. -/
theorem foldl_near (d : Fin 1024 → EReal) (l : List (EReal × BitVec 32))
    (hl : ∀ q, q ∈ l ↔ ∃ k : Fin 1024, q = (d k, BitVec.ofNat 32 k.val)) :
    (l.foldl (ReferenceIdeal.reducer_argmin_f32_i32 (F := Ideal)) ((⊤ : EReal), 0#32)).2 = BitVec.ofNat 32 (near d).val := by
  have hk := near_spec d
  obtain ⟨h1, h2, h3⟩ := foldl_reducer l ((⊤ : EReal), 0#32)
  have hb (k : Fin 1024) := h3 _ ((hl _).2 ⟨k, rfl⟩)
  rcases h1 with h1 | h1
  · rw [h1] at hb ⊢
    have ht : ∀ k, d k = ⊤ := fun k => by
      rcases hb k with h | h
      · exact absurd h (not_lt.2 le_top)
      · exact h.1.symm
    have : near d = 0 := isNear_unique hk ⟨fun j => by rw [ht, ht], fun j hj => absurd hj (by simp)⟩
    rw [this]
    rfl
  · obtain ⟨k, e⟩ := (hl _).1 h1
    rw [e] at hb ⊢
    have : near d = k := isNear_unique hk ⟨fun j => ?_, fun j hj => ?_⟩
    · rw [this]
    · rcases hb j with h | h
      · exact h.le
      · exact h.1.le
    · rcases hb j with h | ⟨h, hi⟩
      · exact h
      · exfalso
        simp only [toInt_ofNat_fin] at hi
        have : k.val ≤ j.val := by exact_mod_cast hi
        exact absurd hj (not_lt.2 this)

/-- The squared distances of a vector to the codes, as both programs expand them. -/
def c2 : EReal := Ideal.ofBits .f32 0x40000000#32
def dist (E : Fin 1024 → Fin 64 → EReal) (z : Fin 64 → EReal) (k : Fin 1024) : EReal :=
  (∑ d, z d * z d) - c2 * (∑ d, z d * E k d) + ∑ d, E k d * E k d

/-- The one-hot row of a code. -/
def hot (k : Fin 1024) (j : Fin 1024) : EReal := if j = k then 1 else 0

theorem sum_hot (k : Fin 1024) (f : Fin 1024 → EReal) : ∑ j, f j * hot k j = f k := by
  unfold hot
  simp

theorem sum_hot' (k : Fin 1024) (f : Fin 1024 → EReal) : ∑ j, hot k j * f j = f k := by
  unfold hot
  simp

end Cert.Spec

end
-- ==== Proof.KVq.lean ====
/- The kernel's vector quantisation. -/
module

public import proofs.«01_k».proof.Proof.KEnc
public import proofs.«01_k».proof.Proof.Near

@[expose] public section

set_option maxRecDepth 16384

noncomputable section

namespace Cert.Proof

open Idealize.ShloMosaic Cert.Spec Cert.KernelIdeal Cert.KernelIdeal.Gen

variable (Z : FVec Ideal S64x4096 .f32) (E : FVec Ideal S1024x64 .f32) (e2 : FVec Ideal S1024x1 .f32) (z2 : FVec Ideal S4096 .f32)

theorem bit1 : FloatOps.sitofp (F := Ideal) FTy.f32 (BitVec.setWidth 32 (BitVec.ofBool true)) = 1 := by
  show ((((BitVec.setWidth 32 (BitVec.ofBool true)).toInt : ℝ) : EReal)) = 1
  have : (BitVec.setWidth 32 (BitVec.ofBool true)).toInt = 1 := by decide
  rw [this]; simp

theorem bit0 : FloatOps.sitofp (F := Ideal) FTy.f32 (BitVec.setWidth 32 (BitVec.ofBool false)) = 0 := by
  show ((((BitVec.setWidth 32 (BitVec.ofBool false)).toInt : ℝ) : EReal)) = 0
  have : (BitVec.setWidth 32 (BitVec.ofBool false)).toInt = 0 := by decide
  rw [this]; simp

/-- The code table as a function, and one lane of the encoder's output. -/
def codes (k : Fin 1024) (d : Fin 64) : EReal := E (ix2 k d)
def lanez (l : Fin 4096) (d : Fin 64) : EReal := Z (ix2 d l)

theorem pay33_at (k : Fin 1024) : k0_pay33 (F := Ideal) E (ix2 k 0) = ∑ d, codes E k d * codes E k d := by
  simp only [k0_pay33]
  pointwise
  rfl

theorem pay34_at (v217 : FVec Ideal S256x4096 .f32) (v219 : FVec Ideal S3x64x256 .f32) (v221 : FVec Ideal S256x64 .f32)
    (v222 : FVec Ideal S256x4096 .f32) (v253 : FVec Ideal S64x256 .f32) (v256 : FVec Ideal S64x1 .f32) (l : Fin 4096) :
    k0_pay34 v217 v219 v221 v222 v253 v256 (ix1 l)
      = ∑ d, lanez (k0_pay32 v217 v219 v221 v222 v253 v256) l d * lanez (k0_pay32 v217 v219 v221 v222 v253 v256) l d := by
  simp only [k0_pay34]
  pointwise
  rfl

/-- The code chosen at a lane. -/
abbrev pick (l : Fin 4096) : Fin 1024 := near (Spec.dist (codes E) (lanez Z l))

variable (he : ∀ k, e2 (ix2 k 0) = ∑ d, codes E k d * codes E k d) (hz : ∀ l, z2 (ix1 l) = ∑ d, lanez Z l d * lanez Z l d)
include he hz

theorem pay35_at (l : Fin 4096) : k0_pay35 Z E e2 z2 (ix1 l) = BitVec.ofNat 32 (pick Z E l).val := by
  have ht : Ideal.ofBits FTy.f32 2139095040#32 = ⊤ := by simp [Ideal.ofBits, Ideal.ieee]
  have hd (k : Fin 1024) : z2 (ix1 l) - Ideal.ofBits FTy.f32 1073741824#32 * ∑ d, E (ix2 k d) * Z (ix2 d l) + e2 (ix2 k 0)
      = Spec.dist (codes E) (lanez Z l) k := by
    rw [he, hz]
    unfold Spec.dist
    rw [Finset.sum_congr rfl fun d _ => mul_comm (E (ix2 k d)) (Z (ix2 d l))]
    rfl
  refine Eq.trans ?_ (fold_near (Spec.dist (codes E) (lanez Z l)) _ rfl)
  simp only [k0_pay35]
  pointwise
  simp only [hd, ht]

theorem pay36_at (k : Fin 1024) (l : Fin 4096) : k0_pay36 Z E e2 z2 (ix2 k l) = hot (pick Z E l) k := by
  simp only [k0_pay36]
  pointwise
  rw [pay35_at Z E e2 z2 he hz]
  generalize pick Z E l = n
  unfold hot
  by_cases h : k = n
  · subst h
    simp only [IntOp.cmpi, beq_self_eq_true, if_true]
    exact bit1
  · have h' : BitVec.ofNat 32 k.val ≠ BitVec.ofNat 32 n.val := fun e => h (by
      have := congrArg BitVec.toInt e
      rw [toInt_ofNat_fin, toInt_ofNat_fin] at this
      exact Fin.ext (by exact_mod_cast this))
    simp only [IntOp.cmpi, beq_eq_false_iff_ne.2 h', if_neg h]
    exact bit0

theorem pay37_at (d : Fin 64) (l : Fin 4096) : k0_pay37 Z E e2 z2 (ix2 d l) = codes E (pick Z E l) d := by
  rw [← sum_hot (pick Z E l) fun j => codes E j d]
  simp only [← pay36_at Z E e2 z2 he hz]
  simp only [k0_pay37]
  generalize k0_pay36 Z E e2 z2 = oh
  pointwise
  rfl

theorem pay38_at (k : Fin 1024) : k0_pay38 Z E e2 z2 (ix2 k 0) = ∑ l, hot (pick Z E l) k := by
  simp only [← pay36_at Z E e2 z2 he hz]
  simp only [k0_pay38]
  generalize k0_pay36 Z E e2 z2 = oh
  pointwise

theorem pay39_at : k0_pay39 Z E e2 z2
    = ∑ d, ∑ l, (codes E (pick Z E l) d - lanez Z l d) * (codes E (pick Z E l) d - lanez Z l d) := by
  simp only [← pay37_at Z E e2 z2 he hz]
  simp only [k0_pay39]
  generalize k0_pay37 Z E e2 z2 = oh
  pointwise
  rfl

end Cert.Proof

end
-- ==== Proof.Net.lean ====
/- The network of the problem, one sample at a time, from its weights and the sample's signal. -/
module

public import proofs.«01_k».proof.Proof.Near

@[expose] public section

noncomputable section

namespace Cert.Spec

open Idealize.ShloMosaic

/-- The network's weights and biases. -/
structure Net where
  c1w : Fin 128 → Fin 4 → EReal
  c1b : Fin 128 → EReal
  c2w : Fin 256 → Fin 128 → Fin 4 → EReal
  c2b : Fin 256 → EReal
  c3w : Fin 256 → Fin 256 → Fin 3 → EReal
  c3b : Fin 256 → EReal
  ea1 : Fin 64 → Fin 256 → Fin 3 → EReal
  ea2 : Fin 256 → Fin 64 → EReal
  eb1 : Fin 64 → Fin 256 → Fin 3 → EReal
  eb2 : Fin 256 → Fin 64 → EReal
  pw : Fin 64 → Fin 256 → EReal
  pb : Fin 64 → EReal
  emb : Fin 1024 → Fin 64 → EReal
  d1w : Fin 256 → Fin 64 → Fin 3 → EReal
  d1b : Fin 256 → EReal
  da1 : Fin 64 → Fin 256 → Fin 3 → EReal
  da2 : Fin 256 → Fin 64 → EReal
  db1 : Fin 64 → Fin 256 → Fin 3 → EReal
  db2 : Fin 256 → Fin 64 → EReal
  t1w : Fin 256 → Fin 128 → Fin 4 → EReal
  t1b : Fin 128 → EReal
  t2w : Fin 128 → Fin 4 → EReal
  t2b : EReal

namespace Net

variable (N : Net) (x : Fin 4096 → EReal)

/-- The first convolution (four taps, stride two, padding one) with its relu, at the even and the odd positions, from
    the signal's four phases. -/
def h1e (p : Fin 4 → Fin 1024 → EReal) (o : Fin 128) (i : Fin 1024) : EReal :=
  max ((N.c1w o 0 * prv (p 3) i + N.c1w o 1 * p 0 i + N.c1w o 2 * p 1 i + N.c1w o 3 * p 2 i) + N.c1b o) 0
def h1o (p : Fin 4 → Fin 1024 → EReal) (o : Fin 128) (i : Fin 1024) : EReal :=
  max ((N.c1w o 0 * p 1 i + N.c1w o 1 * p 2 i + N.c1w o 2 * p 3 i + N.c1w o 3 * nxt (p 0) i) + N.c1b o) 0

/-- The second convolution and its relu; the third; the encoder's output. -/
def h2 : Fin 256 → Fin 1024 → EReal :=
  relu (bias (conv4 N.c2w (N.h1e (phase (norm x))) (N.h1o (phase (norm x)))) N.c2b)
def h3 : Fin 256 → Fin 1024 → EReal := bias (conv3 N.c3w (N.h2 x)) N.c3b
def z : Fin 64 → Fin 1024 → EReal :=
  bias (conv1 N.pw (relu (resblock N.eb1 N.eb2 (resblock N.ea1 N.ea2 (N.h3 x))))) N.pb

/-- The code chosen at a position, and the chosen codes. -/
def pick (i : Fin 1024) : Fin 1024 := near (dist N.emb fun d => N.z x d i)
def q (d : Fin 64) (i : Fin 1024) : EReal := N.emb (N.pick x i) d

/-- The decoder: its first convolution, its residual blocks, the two transposed convolutions. -/
def g1 : Fin 256 → Fin 1024 → EReal := bias (conv3 N.d1w (N.q x)) N.d1b
def g2 : Fin 256 → Fin 1024 → EReal := relu (resblock N.db1 N.db2 (resblock N.da1 N.da2 (N.g1 x)))
def ue : Fin 128 → Fin 1024 → EReal := relu (bias (tconvE N.t1w (N.g2 x)) N.t1b)
def uo : Fin 128 → Fin 1024 → EReal := relu (bias (tconvO N.t1w (N.g2 x)) N.t1b)

end Net

/-- The second transposed convolution at the four phases, from its taps' products with the first one's even and odd
    positions. -/
def weave (E O : Fin 4 → Fin 1024 → EReal) : Fin 4 → Fin 1024 → EReal
  | 0, i => E 1 i + prv (O 3) i
  | 1, i => E 2 i + O 0 i
  | 2, i => O 1 i + E 3 i
  | 3, i => O 2 i + nxt (E 0) i

namespace Net

variable (N : Net) (x : Fin 4096 → EReal)

def y : Fin 4 → Fin 1024 → EReal := weave (conv1 (fun t c => N.t2w c t) (N.ue x)) (conv1 (fun t c => N.t2w c t) (N.uo x))

/-- The reconstruction, by phases. -/
def recon (r : Fin 4) (i : Fin 1024) : EReal := (N.y x r i + N.t2b) * dev x + mean x

end Net

end Cert.Spec

end
-- ==== Proof.KDec.lean ====
/- The kernel's decoder tail: the second transposed convolution, its bias, and the sample's deviation and mean. -/
module

public import proofs.«01_k».proof.Proof.KEnc
public import proofs.«01_k».proof.Proof.Net

@[expose] public section

set_option maxRecDepth 16384

noncomputable section

namespace Cert.Proof

open Idealize.ShloMosaic Cert.Spec Cert.KernelIdeal Cert.KernelIdeal.Gen

variable (g : Fin 4)

/-- One row of a four-row lane matrix, as a one-row matrix. -/
theorem row_smp (A : FVec Ideal S4x4096 .f32) (r : Fin 4) (o : Fin S4x4096.rank → Nat) (h) (ho : o = ![r.val, 0]) (c : Fin 1) :
    smp (C := 1) (extractStridedSlice S1x4096 o A h) g c = smp (C := 4) A g r := by
  subst ho
  funext i
  unfold smp
  fin_cases c
  fin_cases r <;> pointwise <;> rfl

theorem pay52_smp (v392 : FVec Ideal S256x4096 .f32) (v394 : FVec Ideal S4x128x256 .f32) (v395 : FVec Ideal S128x1 .f32) (v431 : FVec Ideal S4x128 .f32) (c : Fin 1) :
    smp (C := 1) (k0_pay52 v392 v394 v395 v431) g c = smp (C := 4) (k0_pay50 v392 v394 v395 v431) g 1 :=
  row_smp g _ 1 ![1, 0] slices_S4x4096_o1_0_S1x4096 rfl c

theorem pay53_smp (v392 : FVec Ideal S256x4096 .f32) (v394 : FVec Ideal S4x128x256 .f32) (v395 : FVec Ideal S128x1 .f32) (v431 : FVec Ideal S4x128 .f32) (c : Fin 1) :
    smp (C := 1) (k0_pay53 v392 v394 v395 v431) g c = prv (smp (C := 4) (k0_pay51 v392 v394 v395 v431) g 3) := by
  simp only [k0_pay53, smp_prev]
  rw [row_smp g _ 3 ![3, 0] _ rfl]

/-- The four rows stacked. -/
theorem stack_smp (a b c d : FVec Ideal S1x4096 .f32) (h) (r : Fin 4) :
    smp (C := 4) (concatenate S4x4096 0 [⟨S1x4096, a⟩, ⟨S1x4096, b⟩, ⟨S1x4096, c⟩, ⟨S1x4096, d⟩] h) g r
      = smp (C := 1) (![a, b, c, d] r) g 0 := by
  funext i
  unfold smp
  fin_cases r <;> pointwise <;> rfl

/-- The reconstruction of a sample: its lanes, times its deviation, plus its mean. -/
theorem pay54_at (m s : Fin 4 → EReal) (P Q : FVec Ideal S4x4096 .f32) (v435 v442 : FVec Ideal S1x4096 .f32) (v460 : FVec Ideal S1x1 .f32)
    (h1 : ∀ g, smp (C := 1) v435 g 0 = smp (C := 4) P g 1) (h2 : ∀ g, smp (C := 1) v442 g 0 = prv (smp (C := 4) Q g 3))
    (r : Fin 4) (i : Fin 1024) :
    k0_pay54 (m 0) (s 0) (m 1) (s 1) (m 2) (s 2) (m 3) (s 3) P Q v435 v442 v460 (ix3 g r i)
      = (weave (smp (C := 4) P g) (smp (C := 4) Q g) r i + v460 (ix2 0 0)) * s g + m g := by
  simp only [k0_pay54]
  generalize hV : addf (F := Ideal) (φ := .f32) (concatenate S4x4096 0 _ _) (broadcastTo S4x4096 _ _) = V
  have hs : smp (C := 4) V g r i = weave (smp (C := 4) P g) (smp (C := 4) Q g) r i + v460 (ix2 0 0) := by
    rw [← hV]
    simp only [smp_addf]
    congr 1
    · rw [stack_smp]
      fin_cases r
      · show smp (C := 1) (addf v435 v442) g 0 i = _
        rw [smp_addf, h1, h2]
        rfl
      · show smp (C := 1) (addf (extractStridedSlice S1x4096 ![2, 0] P _) (extractStridedSlice S1x4096 ![0, 0] Q _)) g 0 i = _
        rw [smp_addf, row_smp g _ 2 ![2, 0] _ rfl, row_smp g _ 0 ![0, 0] _ rfl]
        rfl
      · show smp (C := 1) (addf (extractStridedSlice S1x4096 ![1, 0] Q _) (extractStridedSlice S1x4096 ![3, 0] P _)) g 0 i = _
        rw [smp_addf, row_smp g _ 1 ![1, 0] _ rfl, row_smp g _ 3 ![3, 0] _ rfl]
        rfl
      · show smp (C := 1) (addf (extractStridedSlice S1x4096 ![2, 0] Q _) (concatenate S1x4096 1 _ _)) g 0 i = _
        rw [smp_addf, smp_next, row_smp g _ 2 ![2, 0] _ rfl, row_smp g _ 0 ![0, 0] _ rfl]
        rfl
    · unfold smp
      pointwise
  rw [← hs]
  clear hs hV
  unfold smp lane
  fin_cases g <;> pointwise

end Cert.Proof

end
-- ==== Proof.KBlock.lean ====
/- What one block of the kernel computes: for each of its four samples, the network's values. -/
module

public import proofs.«01_k».proof.Proof.KernelIdealRun
public import proofs.«01_k».proof.Proof.KStat
public import proofs.«01_k».proof.Proof.KVq
public import proofs.«01_k».proof.Proof.KDec

@[expose] public section

set_option maxRecDepth 16384

noncomputable section

namespace Cert.Proof

open Idealize.ShloMosaic Cert.Spec Cert.KernelIdeal Cert.KernelIdeal.Gen

theorem off2 : (![0, 0] : Fin 2 → Nat) = fun _ => 0 := by funext a; fin_cases a <;> rfl
theorem off3 : (![0, 0, 0] : Fin 3 → Nat) = fun _ => 0 := by funext a; fin_cases a <;> rfl

variable (x0 : FVec Ideal S4x4x1024 .f32) (x1 : FVec Ideal S128x4 .f32) (x2 : FVec Ideal S128x1 .f32) (x3 : FVec Ideal S4x256x128 .f32)
  (x4 : FVec Ideal S256x1 .f32) (x5 : FVec Ideal S3x256x256 .f32) (x6 : FVec Ideal S256x1 .f32) (x7 : FVec Ideal S3x64x256 .f32)
  (x8 : FVec Ideal S256x64 .f32) (x9 : FVec Ideal S3x64x256 .f32) (x10 : FVec Ideal S256x64 .f32) (x11 : FVec Ideal S64x256 .f32)
  (x12 : FVec Ideal S64x1 .f32) (x13 : FVec Ideal S1024x64 .f32) (x14 : FVec Ideal S3x256x64 .f32) (x15 : FVec Ideal S256x1 .f32)
  (x16 : FVec Ideal S3x64x256 .f32) (x17 : FVec Ideal S256x64 .f32) (x18 : FVec Ideal S3x64x256 .f32) (x19 : FVec Ideal S256x64 .f32)
  (x20 : FVec Ideal S4x128x256 .f32) (x21 : FVec Ideal S128x1 .f32) (x22 : FVec Ideal S4x128 .f32) (x23 : FVec Ideal S1x1 .f32)

/-- The network whose weights the blocks hold: the kernel stacks the taps first. -/
def netOf : Net where
  c1w := w2 x1
  c1b := w1 x2
  c2w := w3 x3
  c2b := w1 x4
  c3w := w3 x5
  c3b := w1 x6
  ea1 := w3 x7
  ea2 := w2 x8
  eb1 := w3 x9
  eb2 := w2 x10
  pw := w2 x11
  pb := w1 x12
  emb := codes x13
  d1w := w3 x14
  d1b := w1 x15
  da1 := w3 x16
  da2 := w2 x17
  db1 := w3 x18
  db2 := w2 x19
  t1w := fun c o t => x20 (ix3 t o c)
  t1b := w1 x21
  t2w := fun c t => x22 (ix2 t c)
  t2b := x23 (ix2 0 0)

theorem b60 (g : Fin 4) : smp (C := 4) (k0_pay60 (F := Ideal) x0 x1 x2 x3 x4 x5 x6 x7 x8 x9 x10 x11 x12 x13 x14 x15 x16 x17 x18 x19 x20 x21 x22 x23) g = phase (norm (sig x0 g)) := by
  funext r
  simp only [k0_pay60, k0_pay56, k0_pay57, k0_pay58, k0_pay59, View.ld_unit_zero (S := S4x4x1024) off3]
  exact pay18_smp x0 g r

theorem b61 (g : Fin 4) (c : Fin 1) : smp (C := 1) (k0_pay61 (F := Ideal) x0 x1 x2 x3 x4 x5 x6 x7 x8 x9 x10 x11 x12 x13 x14 x15 x16 x17 x18 x19 x20 x21 x22 x23) g c = prv (phase (norm (sig x0 g)) 3) := by
  rw [← b60 x0 x1 x2 x3 x4 x5 x6 x7 x8 x9 x10 x11 x12 x13 x14 x15 x16 x17 x18 x19 x20 x21 x22 x23]
  exact pay19_smp ..

theorem b62 (g : Fin 4) (c : Fin 3) : smp (C := 3) (k0_pay62 (F := Ideal) x0 x1 x2 x3 x4 x5 x6 x7 x8 x9 x10 x11 x12 x13 x14 x15 x16 x17 x18 x19 x20 x21 x22 x23) g c = phase (norm (sig x0 g)) c.castSucc := by
  rw [← b60 x0 x1 x2 x3 x4 x5 x6 x7 x8 x9 x10 x11 x12 x13 x14 x15 x16 x17 x18 x19 x20 x21 x22 x23]
  exact pay20_smp ..

theorem b22 (g : Fin 4) : smp (C := 128) (k0_pay22 (k0_pay61 (F := Ideal) x0 x1 x2 x3 x4 x5 x6 x7 x8 x9 x10 x11 x12 x13 x14 x15 x16 x17 x18 x19 x20 x21 x22 x23) (k0_pay62 (F := Ideal) x0 x1 x2 x3 x4 x5 x6 x7 x8 x9 x10 x11 x12 x13 x14 x15 x16 x17 x18 x19 x20 x21 x22 x23) x2 x1) g
    = (netOf x1 x2 x3 x4 x5 x6 x7 x8 x9 x10 x11 x12 x13 x14 x15 x16 x17 x18 x19 x20 x21 x22 x23).h1e (phase (norm (sig x0 g))) := by
  rw [pay22_smp, b61, b62, b62, b62]
  rfl

theorem b23 (g : Fin 4) : smp (C := 128) (k0_pay23 (k0_pay60 (F := Ideal) x0 x1 x2 x3 x4 x5 x6 x7 x8 x9 x10 x11 x12 x13 x14 x15 x16 x17 x18 x19 x20 x21 x22 x23) x2 x1) g
    = (netOf x1 x2 x3 x4 x5 x6 x7 x8 x9 x10 x11 x12 x13 x14 x15 x16 x17 x18 x19 x20 x21 x22 x23).h1o (phase (norm (sig x0 g))) := by
  rw [pay23_smp, b60]
  rfl

/-- The residual stack's input and first block. -/
theorem b63 (g : Fin 4) : smp (C := 256) (k0_pay63 (F := Ideal) x0 x1 x2 x3 x4 x5 x6 x7 x8 x9 x10 x11 x12 x13 x14 x15 x16 x17 x18 x19 x20 x21 x22 x23) g
    = resblock (netOf x1 x2 x3 x4 x5 x6 x7 x8 x9 x10 x11 x12 x13 x14 x15 x16 x17 x18 x19 x20 x21 x22 x23).ea1 (netOf x1 x2 x3 x4 x5 x6 x7 x8 x9 x10 x11 x12 x13 x14 x15 x16 x17 x18 x19 x20 x21 x22 x23).ea2 ((netOf x1 x2 x3 x4 x5 x6 x7 x8 x9 x10 x11 x12 x13 x14 x15 x16 x17 x18 x19 x20 x21 x22 x23).h3 (sig x0 g)) := by
  simp only [k0_pay63, View.ld_unit_zero (S := S128x1) off2, View.ld_unit_zero (S := S128x4) off2, View.ld_unit_zero (S := S256x1) off2, View.ld_unit_zero (S := S256x64) off2, View.ld_unit_zero (S := S4x256x128) off3, View.ld_unit_zero (S := S3x256x256) off3, View.ld_unit_zero (S := S3x64x256) off3]
  rw [pay28_smp, pay27_smp, pay25_smp, b22, b23]
  rfl

/-- The encoder's output. -/
theorem b67 (g : Fin 4) : smp (C := 64) (k0_pay67 (F := Ideal) x0 x1 x2 x3 x4 x5 x6 x7 x8 x9 x10 x11 x12 x13 x14 x15 x16 x17 x18 x19 x20 x21 x22 x23) g = (netOf x1 x2 x3 x4 x5 x6 x7 x8 x9 x10 x11 x12 x13 x14 x15 x16 x17 x18 x19 x20 x21 x22 x23).z (sig x0 g) := by
  simp only [k0_pay67, k0_pay64, k0_pay65, k0_pay66, View.ld_unit_zero (S := S3x64x256) off3, View.ld_unit_zero (S := S256x64) off2, View.ld_unit_zero (S := S64x256) off2, View.ld_unit_zero (S := S64x1) off2]
  rw [pay32_smp, b63]
  rfl

theorem b67_lane (g : Fin 4) (i : Fin 1024) :
    lanez (k0_pay67 (F := Ideal) x0 x1 x2 x3 x4 x5 x6 x7 x8 x9 x10 x11 x12 x13 x14 x15 x16 x17 x18 x19 x20 x21 x22 x23) (lane g i) = fun d => (netOf x1 x2 x3 x4 x5 x6 x7 x8 x9 x10 x11 x12 x13 x14 x15 x16 x17 x18 x19 x20 x21 x22 x23).z (sig x0 g) d i := by
  funext d
  exact congrFun (congrFun (b67 x0 x1 x2 x3 x4 x5 x6 x7 x8 x9 x10 x11 x12 x13 x14 x15 x16 x17 x18 x19 x20 x21 x22 x23 g) d) i

theorem b_pick (g : Fin 4) (i : Fin 1024) :
    pick (k0_pay67 (F := Ideal) x0 x1 x2 x3 x4 x5 x6 x7 x8 x9 x10 x11 x12 x13 x14 x15 x16 x17 x18 x19 x20 x21 x22 x23) x13 (lane g i) = (netOf x1 x2 x3 x4 x5 x6 x7 x8 x9 x10 x11 x12 x13 x14 x15 x16 x17 x18 x19 x20 x21 x22 x23).pick (sig x0 g) i := by
  unfold pick Net.pick
  rw [b67_lane]
  rfl

theorem b68 (k : Fin 1024) : k0_pay68 (F := Ideal) x0 x1 x2 x3 x4 x5 x6 x7 x8 x9 x10 x11 x12 x13 x14 x15 x16 x17 x18 x19 x20 x21 x22 x23 (ix2 k 0) = ∑ d, codes x13 k d * codes x13 k d := by
  simp only [k0_pay68, View.ld_unit_zero (S := S1024x64) off2]
  exact pay33_at x13 k

theorem b69 (l : Fin 4096) : k0_pay69 (F := Ideal) x0 x1 x2 x3 x4 x5 x6 x7 x8 x9 x10 x11 x12 x13 x14 x15 x16 x17 x18 x19 x20 x21 x22 x23 (ix1 l) = ∑ d, lanez (k0_pay67 (F := Ideal) x0 x1 x2 x3 x4 x5 x6 x7 x8 x9 x10 x11 x12 x13 x14 x15 x16 x17 x18 x19 x20 x21 x22 x23) l d * lanez (k0_pay67 (F := Ideal) x0 x1 x2 x3 x4 x5 x6 x7 x8 x9 x10 x11 x12 x13 x14 x15 x16 x17 x18 x19 x20 x21 x22 x23) l d := by
  simp only [k0_pay69, k0_pay67]
  exact pay34_at ..

/-- The chosen codes. -/
theorem b70 (g : Fin 4) : smp (C := 64) (k0_pay70 (F := Ideal) x0 x1 x2 x3 x4 x5 x6 x7 x8 x9 x10 x11 x12 x13 x14 x15 x16 x17 x18 x19 x20 x21 x22 x23) g = (netOf x1 x2 x3 x4 x5 x6 x7 x8 x9 x10 x11 x12 x13 x14 x15 x16 x17 x18 x19 x20 x21 x22 x23).q (sig x0 g) := by
  funext d i
  unfold smp
  simp only [k0_pay70, View.ld_unit_zero (S := S1024x64) off2]
  rw [pay37_at _ _ _ _ (b68 x0 x1 x2 x3 x4 x5 x6 x7 x8 x9 x10 x11 x12 x13 x14 x15 x16 x17 x18 x19 x20 x21 x22 x23) (b69 x0 x1 x2 x3 x4 x5 x6 x7 x8 x9 x10 x11 x12 x13 x14 x15 x16 x17 x18 x19 x20 x21 x22 x23), b_pick]
  rfl

/-- The decoder before its transposed convolutions. -/
theorem b73 (g : Fin 4) : smp (C := 256) (k0_pay73 (F := Ideal) x0 x1 x2 x3 x4 x5 x6 x7 x8 x9 x10 x11 x12 x13 x14 x15 x16 x17 x18 x19 x20 x21 x22 x23) g = (netOf x1 x2 x3 x4 x5 x6 x7 x8 x9 x10 x11 x12 x13 x14 x15 x16 x17 x18 x19 x20 x21 x22 x23).g2 (sig x0 g) := by
  have h := b70 x0 x1 x2 x3 x4 x5 x6 x7 x8 x9 x10 x11 x12 x13 x14 x15 x16 x17 x18 x19 x20 x21 x22 x23 g
  simp only [k0_pay70, View.ld_unit_zero (S := S1024x64) off2] at h
  simp only [k0_pay73, k0_pay70, k0_pay71, k0_pay72, View.ld_unit_zero (S := S1024x64) off2, View.ld_unit_zero (S := S3x256x64) off3, View.ld_unit_zero (S := S256x1) off2, View.ld_unit_zero (S := S3x64x256) off3, View.ld_unit_zero (S := S256x64) off2]
  rw [pay46_smp, pay43_smp, h]
  rfl

theorem b50 (g : Fin 4) : smp (C := 4) (k0_pay50 (k0_pay73 (F := Ideal) x0 x1 x2 x3 x4 x5 x6 x7 x8 x9 x10 x11 x12 x13 x14 x15 x16 x17 x18 x19 x20 x21 x22 x23) (k0_pay74 (F := Ideal) x0 x1 x2 x3 x4 x5 x6 x7 x8 x9 x10 x11 x12 x13 x14 x15 x16 x17 x18 x19 x20 x21 x22 x23) x21 x22) g
    = conv1 (fun t c => (netOf x1 x2 x3 x4 x5 x6 x7 x8 x9 x10 x11 x12 x13 x14 x15 x16 x17 x18 x19 x20 x21 x22 x23).t2w c t) ((netOf x1 x2 x3 x4 x5 x6 x7 x8 x9 x10 x11 x12 x13 x14 x15 x16 x17 x18 x19 x20 x21 x22 x23).ue (sig x0 g)) := by
  simp only [k0_pay74, View.ld_unit_zero (S := S4x128x256) off3]
  rw [pay50_smp, b73]
  rfl

theorem b51 (g : Fin 4) : smp (C := 4) (k0_pay51 (k0_pay73 (F := Ideal) x0 x1 x2 x3 x4 x5 x6 x7 x8 x9 x10 x11 x12 x13 x14 x15 x16 x17 x18 x19 x20 x21 x22 x23) (k0_pay74 (F := Ideal) x0 x1 x2 x3 x4 x5 x6 x7 x8 x9 x10 x11 x12 x13 x14 x15 x16 x17 x18 x19 x20 x21 x22 x23) x21 x22) g
    = conv1 (fun t c => (netOf x1 x2 x3 x4 x5 x6 x7 x8 x9 x10 x11 x12 x13 x14 x15 x16 x17 x18 x19 x20 x21 x22 x23).t2w c t) ((netOf x1 x2 x3 x4 x5 x6 x7 x8 x9 x10 x11 x12 x13 x14 x15 x16 x17 x18 x19 x20 x21 x22 x23).uo (sig x0 g)) := by
  simp only [k0_pay74, View.ld_unit_zero (S := S4x128x256) off3]
  rw [pay51_smp, b73]
  rfl

/-- The block's first result: the reconstructions. -/
theorem out24_at (g r : Fin 4) (i : Fin 1024) : out0_24 (F := Ideal) x0 x1 x2 x3 x4 x5 x6 x7 x8 x9 x10 x11 x12 x13 x14 x15 x16 x17 x18 x19 x20 x21 x22 x23 (ix3 g r i) = (netOf x1 x2 x3 x4 x5 x6 x7 x8 x9 x10 x11 x12 x13 x14 x15 x16 x17 x18 x19 x20 x21 x22 x23).recon (sig x0 g) r i := by
  unfold out0_24
  rw [View.canon_unit_zero off3]
  simp only [View.ld_unit_zero (S := S4x4x1024) off3, View.ld_unit_zero (S := S128x1) off2, View.ld_unit_zero (S := S4x128) off2, View.ld_unit_zero (S := S1x1) off2]
  rw [show k0_pay59 (F := Ideal) x0 x1 x2 x3 x4 x5 x6 x7 x8 x9 x10 x11 x12 x13 x14 x15 x16 x17 x18 x19 x20 x21 x22 x23 = k0_pay12 x0 by simp only [k0_pay59, View.ld_unit_zero (S := S4x4x1024) off3], show k0_pay56 (F := Ideal) x0 x1 x2 x3 x4 x5 x6 x7 x8 x9 x10 x11 x12 x13 x14 x15 x16 x17 x18 x19 x20 x21 x22 x23 = k0_pay3 x0 by simp only [k0_pay56, View.ld_unit_zero (S := S4x4x1024) off3],
    mean0_eq, dev0_eq, mean1_eq, dev1_eq, mean2_eq, dev2_eq, mean3_eq, dev3_eq]
  refine (pay54_at g (fun g => mean (sig x0 g)) (fun g => dev (sig x0 g)) _ _ _ _ x23 (fun g => pay52_smp ..) (fun g => pay53_smp ..) r i).trans ?_
  rw [b50, b51]
  rfl

/-- The second: the chosen codes' numbers. -/
theorem out25_at (g : Fin 4) (i : Fin 1024) :
    out0_25 (F := Ideal) x0 x1 x2 x3 x4 x5 x6 x7 x8 x9 x10 x11 x12 x13 x14 x15 x16 x17 x18 x19 x20 x21 x22 x23 (ix3 0 0 (lane g i)) = BitVec.ofNat 32 ((netOf x1 x2 x3 x4 x5 x6 x7 x8 x9 x10 x11 x12 x13 x14 x15 x16 x17 x18 x19 x20 x21 x22 x23).pick (sig x0 g) i).val := by
  unfold out0_25
  rw [View.canon_unit_zero off3, ← b_pick x0 x1 x2 x3 x4 x5 x6 x7 x8 x9 x10 x11 x12 x13 x14 x15 x16 x17 x18 x19 x20 x21 x22 x23, ← pay35_at _ _ _ _ (b68 x0 x1 x2 x3 x4 x5 x6 x7 x8 x9 x10 x11 x12 x13 x14 x15 x16 x17 x18 x19 x20 x21 x22 x23) (b69 x0 x1 x2 x3 x4 x5 x6 x7 x8 x9 x10 x11 x12 x13 x14 x15 x16 x17 x18 x19 x20 x21 x22 x23)]
  simp only [View.ld_unit_zero (S := S1024x64) off2, k0_pay55]
  pointwise

/-- A sum over the lanes is a sum over the samples and the positions. -/
theorem sum_lane (f : Fin 4096 → EReal) : ∑ l, f l = ∑ g : Fin 4, ∑ i : Fin 1024, f (lane g i) := by
  rw [Fin.sum_univ_tiles 4 1024 (by norm_num) f]
  refine Finset.sum_congr rfl fun g _ => Finset.sum_congr rfl fun i _ => ?_
  exact congrArg f (Fin.ext (by show g.val * 1024 + i.val = 1024 * g.val + i.val; omega))

/-- The third: how often each code is chosen in the block. -/
theorem out26_at (k : Fin 1024) :
    out0_26 (F := Ideal) x0 x1 x2 x3 x4 x5 x6 x7 x8 x9 x10 x11 x12 x13 x14 x15 x16 x17 x18 x19 x20 x21 x22 x23 (ix3 0 k 0) = ∑ g : Fin 4, ∑ i : Fin 1024, hot ((netOf x1 x2 x3 x4 x5 x6 x7 x8 x9 x10 x11 x12 x13 x14 x15 x16 x17 x18 x19 x20 x21 x22 x23).pick (sig x0 g) i) k := by
  unfold out0_26
  rw [View.canon_unit_zero off3]
  simp only [← b_pick x0 x1 x2 x3 x4 x5 x6 x7 x8 x9 x10 x11 x12 x13 x14 x15 x16 x17 x18 x19 x20 x21 x22 x23]
  rw [← sum_lane fun l => hot (pick (k0_pay67 (F := Ideal) x0 x1 x2 x3 x4 x5 x6 x7 x8 x9 x10 x11 x12 x13 x14 x15 x16 x17 x18 x19 x20 x21 x22 x23) x13 l) k, ← pay38_at _ _ _ _ (b68 x0 x1 x2 x3 x4 x5 x6 x7 x8 x9 x10 x11 x12 x13 x14 x15 x16 x17 x18 x19 x20 x21 x22 x23) (b69 x0 x1 x2 x3 x4 x5 x6 x7 x8 x9 x10 x11 x12 x13 x14 x15 x16 x17 x18 x19 x20 x21 x22 x23)]
  simp only [View.ld_unit_zero (S := S1024x64) off2, k0_pay1]
  pointwise

/-- The fourth: the block's squared quantisation error. -/
theorem out27_at (j : Fin 128) :
    out0_27 (F := Ideal) x0 x1 x2 x3 x4 x5 x6 x7 x8 x9 x10 x11 x12 x13 x14 x15 x16 x17 x18 x19 x20 x21 x22 x23 (ix3 0 0 j) = ∑ g : Fin 4, ∑ i : Fin 1024, ∑ d : Fin 64, ((netOf x1 x2 x3 x4 x5 x6 x7 x8 x9 x10 x11 x12 x13 x14 x15 x16 x17 x18 x19 x20 x21 x22 x23).q (sig x0 g) d i - (netOf x1 x2 x3 x4 x5 x6 x7 x8 x9 x10 x11 x12 x13 x14 x15 x16 x17 x18 x19 x20 x21 x22 x23).z (sig x0 g) d i)
      * ((netOf x1 x2 x3 x4 x5 x6 x7 x8 x9 x10 x11 x12 x13 x14 x15 x16 x17 x18 x19 x20 x21 x22 x23).q (sig x0 g) d i - (netOf x1 x2 x3 x4 x5 x6 x7 x8 x9 x10 x11 x12 x13 x14 x15 x16 x17 x18 x19 x20 x21 x22 x23).z (sig x0 g) d i) := by
  unfold out0_27
  rw [View.canon_unit_zero off3]
  have h (g : Fin 4) (i : Fin 1024) (d : Fin 64) : (netOf x1 x2 x3 x4 x5 x6 x7 x8 x9 x10 x11 x12 x13 x14 x15 x16 x17 x18 x19 x20 x21 x22 x23).q (sig x0 g) d i - (netOf x1 x2 x3 x4 x5 x6 x7 x8 x9 x10 x11 x12 x13 x14 x15 x16 x17 x18 x19 x20 x21 x22 x23).z (sig x0 g) d i
      = codes x13 (pick (k0_pay67 (F := Ideal) x0 x1 x2 x3 x4 x5 x6 x7 x8 x9 x10 x11 x12 x13 x14 x15 x16 x17 x18 x19 x20 x21 x22 x23) x13 (lane g i)) d - lanez (k0_pay67 (F := Ideal) x0 x1 x2 x3 x4 x5 x6 x7 x8 x9 x10 x11 x12 x13 x14 x15 x16 x17 x18 x19 x20 x21 x22 x23) (lane g i) d := by
    rw [b_pick, b67_lane]
    rfl
  simp only [h]
  rw [← sum_lane fun l => ∑ d, (codes x13 (pick (k0_pay67 (F := Ideal) x0 x1 x2 x3 x4 x5 x6 x7 x8 x9 x10 x11 x12 x13 x14 x15 x16 x17 x18 x19 x20 x21 x22 x23) x13 l) d - lanez (k0_pay67 (F := Ideal) x0 x1 x2 x3 x4 x5 x6 x7 x8 x9 x10 x11 x12 x13 x14 x15 x16 x17 x18 x19 x20 x21 x22 x23) l d)
      * (codes x13 (pick (k0_pay67 (F := Ideal) x0 x1 x2 x3 x4 x5 x6 x7 x8 x9 x10 x11 x12 x13 x14 x15 x16 x17 x18 x19 x20 x21 x22 x23) x13 l) d - lanez (k0_pay67 (F := Ideal) x0 x1 x2 x3 x4 x5 x6 x7 x8 x9 x10 x11 x12 x13 x14 x15 x16 x17 x18 x19 x20 x21 x22 x23) l d), Finset.sum_comm,
    ← pay39_at _ _ _ _ (b68 x0 x1 x2 x3 x4 x5 x6 x7 x8 x9 x10 x11 x12 x13 x14 x15 x16 x17 x18 x19 x20 x21 x22 x23) (b69 x0 x1 x2 x3 x4 x5 x6 x7 x8 x9 x10 x11 x12 x13 x14 x15 x16 x17 x18 x19 x20 x21 x22 x23)]
  simp only [View.ld_unit_zero (S := S1024x64) off2, k0_pay2]
  pointwise

end Cert.Proof

end
-- ==== Proof.KWin.lean ====
/- The windows of the first call: block t of the signal is four samples, every other input its whole array. -/
module

public import proofs.«01_k».proof.Proof.KBlock
public import Idealize.ShloMosaic.Lib.Pipeline.ValueKit.Geometry
public import Idealize.ShloMosaic.Lib.Pipeline.ValueKit.Acc

@[expose] public section

set_option maxRecDepth 16384
set_option maxHeartbeats 2000000

noncomputable section

namespace Cert.Proof

open Idealize.ShloMosaic Idealize.ShloMosaic.TcCoe Cert.Spec Cert.KernelIdeal Cert.KernelIdeal.Gen
open Idealize.ShloMosaic.Pipeline (Dat Cfg Window)

theorem idx0_0 : ∀ t : Fin cfg0.N, win0_0.index t = ![t.val, 0, 0] := (by decide +kernel : ∀ t : Fin grid0.N, _)

variable (V : (c : Dev nD) → (b : Ref KernelIdeal.sig .tc) → Buf (Elt Ideal) ((c : Thread nD τ).loc b)) (c : Dev nD) (t : Fin cfg0.N)

theorem smp_lt (t : Fin cfg0.N) (g : Fin 4) : 4 * t.val + g.val < 32 := by
  have h : t.val < 8 := t.isLt
  omega

/-- The first window's block is four samples of the signal. -/
theorem blk0 (g r : Fin 4) (i : Fin 1024) : iblk0 V c 0 t (ix3 g r i) = V c main_v1 (ix3 ⟨4 * t.val + g.val, smp_lt t g⟩ r i) := by
  blk_simp [iblk0]
  refine congrArg (V c main_v1) ?_
  blk_ext [idx0_0]

/-- Every other input window is its whole array at every point. -/
theorem blk1 : iblk0 V c 1 t = V c main_v2 := by
  have e : ∀ t : Fin cfg0.N, win0_1.index t = ![0, 0] := (by decide +kernel : ∀ t : Fin grid0.N, _)
  funext x; blk_simp [iblk0]; refine congrArg (V c main_v2) ?_; blk_ext [e]
theorem blk2 : iblk0 V c 2 t = V c main_v18 := by
  have e : ∀ t : Fin cfg0.N, win0_2.index t = ![0, 0] := (by decide +kernel : ∀ t : Fin grid0.N, _)
  funext x; blk_simp [iblk0]; refine congrArg (V c main_v18) ?_; blk_ext [e]
theorem blk3 : iblk0 V c 3 t = V c main_v3 := by
  have e : ∀ t : Fin cfg0.N, win0_3.index t = ![0, 0, 0] := (by decide +kernel : ∀ t : Fin grid0.N, _)
  funext x; blk_simp [iblk0]; refine congrArg (V c main_v3) ?_; blk_ext [e]
theorem blk4 : iblk0 V c 4 t = V c main_v19 := by
  have e : ∀ t : Fin cfg0.N, win0_4.index t = ![0, 0] := (by decide +kernel : ∀ t : Fin grid0.N, _)
  funext x; blk_simp [iblk0]; refine congrArg (V c main_v19) ?_; blk_ext [e]
theorem blk5 : iblk0 V c 5 t = V c main_v4 := by
  have e : ∀ t : Fin cfg0.N, win0_5.index t = ![0, 0, 0] := (by decide +kernel : ∀ t : Fin grid0.N, _)
  funext x; blk_simp [iblk0]; refine congrArg (V c main_v4) ?_; blk_ext [e]
theorem blk6 : iblk0 V c 6 t = V c main_v20 := by
  have e : ∀ t : Fin cfg0.N, win0_6.index t = ![0, 0] := (by decide +kernel : ∀ t : Fin grid0.N, _)
  funext x; blk_simp [iblk0]; refine congrArg (V c main_v20) ?_; blk_ext [e]
theorem blk7 : iblk0 V c 7 t = V c main_v5 := by
  have e : ∀ t : Fin cfg0.N, win0_7.index t = ![0, 0, 0] := (by decide +kernel : ∀ t : Fin grid0.N, _)
  funext x; blk_simp [iblk0]; refine congrArg (V c main_v5) ?_; blk_ext [e]
theorem blk8 : iblk0 V c 8 t = V c main_v7 := by
  have e : ∀ t : Fin cfg0.N, win0_8.index t = ![0, 0] := (by decide +kernel : ∀ t : Fin grid0.N, _)
  funext x; blk_simp [iblk0]; refine congrArg (V c main_v7) ?_; blk_ext [e]
theorem blk9 : iblk0 V c 9 t = V c main_v6 := by
  have e : ∀ t : Fin cfg0.N, win0_9.index t = ![0, 0, 0] := (by decide +kernel : ∀ t : Fin grid0.N, _)
  funext x; blk_simp [iblk0]; refine congrArg (V c main_v6) ?_; blk_ext [e]
theorem blk10 : iblk0 V c 10 t = V c main_v8 := by
  have e : ∀ t : Fin cfg0.N, win0_10.index t = ![0, 0] := (by decide +kernel : ∀ t : Fin grid0.N, _)
  funext x; blk_simp [iblk0]; refine congrArg (V c main_v8) ?_; blk_ext [e]
theorem blk11 : iblk0 V c 11 t = V c main_v9 := by
  have e : ∀ t : Fin cfg0.N, win0_11.index t = ![0, 0] := (by decide +kernel : ∀ t : Fin grid0.N, _)
  funext x; blk_simp [iblk0]; refine congrArg (V c main_v9) ?_; blk_ext [e]
theorem blk12 : iblk0 V c 12 t = V c main_v21 := by
  have e : ∀ t : Fin cfg0.N, win0_12.index t = ![0, 0] := (by decide +kernel : ∀ t : Fin grid0.N, _)
  funext x; blk_simp [iblk0]; refine congrArg (V c main_v21) ?_; blk_ext [e]
theorem blk13 : iblk0 V c 13 t = V c main_arg13 := by
  have e : ∀ t : Fin cfg0.N, win0_13.index t = ![0, 0] := (by decide +kernel : ∀ t : Fin grid0.N, _)
  funext x; blk_simp [iblk0]; refine congrArg (V c main_arg13) ?_; blk_ext [e]
theorem blk14 : iblk0 V c 14 t = V c main_v10 := by
  have e : ∀ t : Fin cfg0.N, win0_14.index t = ![0, 0, 0] := (by decide +kernel : ∀ t : Fin grid0.N, _)
  funext x; blk_simp [iblk0]; refine congrArg (V c main_v10) ?_; blk_ext [e]
theorem blk15 : iblk0 V c 15 t = V c main_v22 := by
  have e : ∀ t : Fin cfg0.N, win0_15.index t = ![0, 0] := (by decide +kernel : ∀ t : Fin grid0.N, _)
  funext x; blk_simp [iblk0]; refine congrArg (V c main_v22) ?_; blk_ext [e]
theorem blk16 : iblk0 V c 16 t = V c main_v11 := by
  have e : ∀ t : Fin cfg0.N, win0_16.index t = ![0, 0, 0] := (by decide +kernel : ∀ t : Fin grid0.N, _)
  funext x; blk_simp [iblk0]; refine congrArg (V c main_v11) ?_; blk_ext [e]
theorem blk17 : iblk0 V c 17 t = V c main_v13 := by
  have e : ∀ t : Fin cfg0.N, win0_17.index t = ![0, 0] := (by decide +kernel : ∀ t : Fin grid0.N, _)
  funext x; blk_simp [iblk0]; refine congrArg (V c main_v13) ?_; blk_ext [e]
theorem blk18 : iblk0 V c 18 t = V c main_v12 := by
  have e : ∀ t : Fin cfg0.N, win0_18.index t = ![0, 0, 0] := (by decide +kernel : ∀ t : Fin grid0.N, _)
  funext x; blk_simp [iblk0]; refine congrArg (V c main_v12) ?_; blk_ext [e]
theorem blk19 : iblk0 V c 19 t = V c main_v14 := by
  have e : ∀ t : Fin cfg0.N, win0_19.index t = ![0, 0] := (by decide +kernel : ∀ t : Fin grid0.N, _)
  funext x; blk_simp [iblk0]; refine congrArg (V c main_v14) ?_; blk_ext [e]
theorem blk20 : iblk0 V c 20 t = V c main_v15 := by
  have e : ∀ t : Fin cfg0.N, win0_20.index t = ![0, 0, 0] := (by decide +kernel : ∀ t : Fin grid0.N, _)
  funext x; blk_simp [iblk0]; refine congrArg (V c main_v15) ?_; blk_ext [e]
theorem blk21 : iblk0 V c 21 t = V c main_v23 := by
  have e : ∀ t : Fin cfg0.N, win0_21.index t = ![0, 0] := (by decide +kernel : ∀ t : Fin grid0.N, _)
  funext x; blk_simp [iblk0]; refine congrArg (V c main_v23) ?_; blk_ext [e]
theorem blk22 : iblk0 V c 22 t = V c main_v17 := by
  have e : ∀ t : Fin cfg0.N, win0_22.index t = ![0, 0] := (by decide +kernel : ∀ t : Fin grid0.N, _)
  funext x; blk_simp [iblk0]; refine congrArg (V c main_v17) ?_; blk_ext [e]
theorem blk23 : iblk0 V c 23 t = V c main_v24 := by
  have e : ∀ t : Fin cfg0.N, win0_23.index t = ![0, 0] := (by decide +kernel : ∀ t : Fin grid0.N, _)
  funext x; blk_simp [iblk0]; refine congrArg (V c main_v24) ?_; blk_ext [e]

end Cert.Proof

end
-- ==== Proof.Args.lean ====
/- The network and the signals that the programs' arguments hold. -/
module

public import proofs.«01_k».proof.Proof.Net
public import Idealize.ShloMosaic.Lib.Tactic

@[expose] public section

noncomputable section

namespace Cert.Proof

open Idealize.ShloMosaic Cert.Spec

/-- Arrays of numbers of one, two and three axes. -/
abbrev A1 (a : Nat) := FVec Ideal (⟨1, ![a]⟩ : Shape) .f32
abbrev A2 (a b : Nat) := FVec Ideal (⟨2, ![a, b]⟩ : Shape) .f32
abbrev A3 (a b c : Nat) := FVec Ideal (⟨3, ![a, b, c]⟩ : Shape) .f32

/-- A weight as a function of its channels and its tap; a bias as a function of its channel. -/
abbrev wt3 {a b k : Nat} (W : A3 a b k) (o : Fin a) (c : Fin b) (t : Fin k) : EReal := W (ix3 o c t)
abbrev wt2 {a b : Nat} (W : A3 a b 1) (o : Fin a) (c : Fin b) : EReal := W (ix3 o c 0)
abbrev bs {a : Nat} (b : A1 a) (o : Fin a) : EReal := b (ix1 o)

/-- Sample b of the signals. -/
def sample (a0 : A3 32 1 4096) (b : Fin 32) (l : Fin 4096) : EReal := a0 (ix3 b 0 l)

variable (a1 : A3 128 1 4) (a2 : A1 128) (a3 : A3 256 128 4) (a4 : A1 256) (a5 : A3 256 256 3) (a6 : A1 256) (a7 : A3 64 256 3)
  (a8 : A3 256 64 1) (a9 : A3 64 256 3) (a10 : A3 256 64 1) (a11 : A3 64 256 1) (a12 : A1 64) (a13 : A2 1024 64) (a14 : A3 256 64 3)
  (a15 : A1 256) (a16 : A3 64 256 3) (a17 : A3 256 64 1) (a18 : A3 64 256 3) (a19 : A3 256 64 1) (a20 : A3 256 128 4) (a21 : A1 128)
  (a22 : A3 128 1 4) (a23 : A1 1)

/-- The network whose weights are the arguments. -/
def argNet : Net where
  c1w o t := a1 (ix3 o 0 t)
  c1b := bs a2
  c2w := wt3 a3
  c2b := bs a4
  c3w := wt3 a5
  c3b := bs a6
  ea1 := wt3 a7
  ea2 := wt2 a8
  eb1 := wt3 a9
  eb2 := wt2 a10
  pw := wt2 a11
  pb := bs a12
  emb k d := a13 (ix2 k d)
  d1w := wt3 a14
  d1b := bs a15
  da1 := wt3 a16
  da2 := wt2 a17
  db1 := wt3 a18
  db2 := wt2 a19
  t1w := wt3 a20
  t1b := bs a21
  t2w c t := a22 (ix3 c 0 t)
  t2b := a23 (ix1 0)

/-- One sample's squared quantisation error, and all the samples'. -/
def sqErr (N : Net) (x : Fin 4096 → EReal) : EReal := ∑ i : Fin 1024, ∑ d : Fin 64, (N.q x d i - N.z x d i) * (N.q x d i - N.z x d i)
def total (N : Net) (s : Fin 32 → Fin 4096 → EReal) : EReal := ∑ b, sqErr N (s b)

/-- The share of the positions at which a code is chosen, and the perplexity of the shares. -/
def share (N : Net) (s : Fin 32 → Fin 4096 → EReal) (k : Fin 1024) : EReal :=
  Ideal.div (∑ b, ∑ i : Fin 1024, hot (N.pick (s b) i) k) (Ideal.ofBits .f32 0x47000000#32)
def perp (N : Net) (s : Fin 32 → Fin 4096 → EReal) : EReal :=
  Ideal.exp (-(∑ k, share N s k * Ideal.log (share N s k + Ideal.ofBits .f32 0x2EDBE6FF#32)))

/-- The loss as one quotient. -/
def loss1 (N : Net) (s : Fin 32 → Fin 4096 → EReal) : EReal :=
  Ideal.div (Ideal.ofBits .f32 0x3FA00000#32 * total N s) (Ideal.ofBits .f32 0x4A000000#32)

/-- The samples are the blocks' samples. -/
def samp (t : Fin 8) (g : Fin 4) : Fin 32 := ⟨4 * t.val + g.val, by omega⟩
theorem sum_samp (f : Fin 32 → EReal) : ∑ t : Fin 8, ∑ g : Fin 4, f (samp t g) = ∑ b, f b := by
  rw [Fin.sum_univ_tiles 8 4 (by norm_num) f]
  refine Finset.sum_congr rfl fun t _ => Finset.sum_congr rfl fun g _ => ?_
  exact congrArg f (Fin.ext (by show 4 * t.val + g.val = t.val * 4 + g.val; omega))

end Cert.Proof

end
-- ==== Proof.KIn.lean ====
/- The host operations before the calls: the arguments, each re-arranged for the kernel. -/
module

public import proofs.«01_k».proof.Proof.KWin
public import proofs.«01_k».proof.Proof.Args

@[expose] public section

set_option maxRecDepth 16384
set_option maxHeartbeats 2000000

noncomputable section

namespace Cert.Proof

open Idealize.ShloMosaic Idealize.ShloMosaic.TcCoe Cert.Spec Cert.KernelIdeal Cert.KernelIdeal.Gen

variable (m : (ℓ : Loc nD τ KernelIdeal.sig) → Buf (Elt Ideal) ℓ) (ρ : Dev nD → PrngReg) (c : Dev nD)

theorem in_v1 (b : Fin 32) (r : Fin 4) (i : Fin 1024) : V1 m ρ c main_v1 (ix3 b r i) = m ((c : Thread nD τ).loc main_arg0) (ix3 b 0 (⟨4 * i.val + r.val, by omega⟩ : Fin 4096)) := by
  show StableHlo.after hostOps0 (W0 m ρ c) (Proc.devRef .tc main_v1) _ = _
  after_results; pointwise
  exact congrArg (m ((c : Thread nD τ).loc main_arg0)) (congrArg (ix3 b 0) (Fin.ext (by show i.val * 4 + r.val = 4 * i.val + r.val; omega)))
theorem in_v2 (o : Fin 128) (t : Fin 4) : V1 m ρ c main_v2 (ix2 o t) = m ((c : Thread nD τ).loc main_arg1) (ix3 o 0 t) := by
  show StableHlo.after hostOps0 (W0 m ρ c) (Proc.devRef .tc main_v2) _ = _
  after_results; pointwise
theorem in_v3 (t : Fin 4) (o : Fin 256) (d : Fin 128) : V1 m ρ c main_v3 (ix3 t o d) = m ((c : Thread nD τ).loc main_arg3) (ix3 o d t) := by
  show StableHlo.after hostOps0 (W0 m ρ c) (Proc.devRef .tc main_v3) _ = _
  after_results; pointwise
theorem in_v4 (t : Fin 3) (o : Fin 256) (d : Fin 256) : V1 m ρ c main_v4 (ix3 t o d) = m ((c : Thread nD τ).loc main_arg5) (ix3 o d t) := by
  show StableHlo.after hostOps0 (W0 m ρ c) (Proc.devRef .tc main_v4) _ = _
  after_results; pointwise
theorem in_v5 (t : Fin 3) (o : Fin 64) (d : Fin 256) : V1 m ρ c main_v5 (ix3 t o d) = m ((c : Thread nD τ).loc main_arg7) (ix3 o d t) := by
  show StableHlo.after hostOps0 (W0 m ρ c) (Proc.devRef .tc main_v5) _ = _
  after_results; pointwise
theorem in_v6 (t : Fin 3) (o : Fin 64) (d : Fin 256) : V1 m ρ c main_v6 (ix3 t o d) = m ((c : Thread nD τ).loc main_arg9) (ix3 o d t) := by
  show StableHlo.after hostOps0 (W0 m ρ c) (Proc.devRef .tc main_v6) _ = _
  after_results; pointwise
theorem in_v10 (t : Fin 3) (o : Fin 256) (d : Fin 64) : V1 m ρ c main_v10 (ix3 t o d) = m ((c : Thread nD τ).loc main_arg14) (ix3 o d t) := by
  show StableHlo.after hostOps0 (W0 m ρ c) (Proc.devRef .tc main_v10) _ = _
  after_results; pointwise
theorem in_v11 (t : Fin 3) (o : Fin 64) (d : Fin 256) : V1 m ρ c main_v11 (ix3 t o d) = m ((c : Thread nD τ).loc main_arg16) (ix3 o d t) := by
  show StableHlo.after hostOps0 (W0 m ρ c) (Proc.devRef .tc main_v11) _ = _
  after_results; pointwise
theorem in_v12 (t : Fin 3) (o : Fin 64) (d : Fin 256) : V1 m ρ c main_v12 (ix3 t o d) = m ((c : Thread nD τ).loc main_arg18) (ix3 o d t) := by
  show StableHlo.after hostOps0 (W0 m ρ c) (Proc.devRef .tc main_v12) _ = _
  after_results; pointwise
theorem in_v15 (t : Fin 4) (o : Fin 128) (d : Fin 256) : V1 m ρ c main_v15 (ix3 t o d) = m ((c : Thread nD τ).loc main_arg20) (ix3 d o t) := by
  show StableHlo.after hostOps0 (W0 m ρ c) (Proc.devRef .tc main_v15) _ = _
  after_results; pointwise
theorem in_v17 (t : Fin 4) (o : Fin 128) : V1 m ρ c main_v17 (ix2 t o) = m ((c : Thread nD τ).loc main_arg22) (ix3 o 0 t) := by
  show StableHlo.after hostOps0 (W0 m ρ c) (Proc.devRef .tc main_v17) _ = _
  after_results; pointwise
theorem in_v7 (o : Fin 256) (d : Fin 64) : V1 m ρ c main_v7 (ix2 o d) = m ((c : Thread nD τ).loc main_arg8) (ix3 o d 0) := by
  show StableHlo.after hostOps0 (W0 m ρ c) (Proc.devRef .tc main_v7) _ = _
  after_results; pointwise
theorem in_v8 (o : Fin 256) (d : Fin 64) : V1 m ρ c main_v8 (ix2 o d) = m ((c : Thread nD τ).loc main_arg10) (ix3 o d 0) := by
  show StableHlo.after hostOps0 (W0 m ρ c) (Proc.devRef .tc main_v8) _ = _
  after_results; pointwise
theorem in_v9 (o : Fin 64) (d : Fin 256) : V1 m ρ c main_v9 (ix2 o d) = m ((c : Thread nD τ).loc main_arg11) (ix3 o d 0) := by
  show StableHlo.after hostOps0 (W0 m ρ c) (Proc.devRef .tc main_v9) _ = _
  after_results; pointwise
theorem in_v13 (o : Fin 256) (d : Fin 64) : V1 m ρ c main_v13 (ix2 o d) = m ((c : Thread nD τ).loc main_arg17) (ix3 o d 0) := by
  show StableHlo.after hostOps0 (W0 m ρ c) (Proc.devRef .tc main_v13) _ = _
  after_results; pointwise
theorem in_v14 (o : Fin 256) (d : Fin 64) : V1 m ρ c main_v14 (ix2 o d) = m ((c : Thread nD τ).loc main_arg19) (ix3 o d 0) := by
  show StableHlo.after hostOps0 (W0 m ρ c) (Proc.devRef .tc main_v14) _ = _
  after_results; pointwise
theorem in_v18 (o : Fin 128) : V1 m ρ c main_v18 (ix2 o 0) = m ((c : Thread nD τ).loc main_arg2) (ix1 o) := by
  show StableHlo.after hostOps0 (W0 m ρ c) (Proc.devRef .tc main_v18) _ = _
  after_results; pointwise
theorem in_v19 (o : Fin 256) : V1 m ρ c main_v19 (ix2 o 0) = m ((c : Thread nD τ).loc main_arg4) (ix1 o) := by
  show StableHlo.after hostOps0 (W0 m ρ c) (Proc.devRef .tc main_v19) _ = _
  after_results; pointwise
theorem in_v20 (o : Fin 256) : V1 m ρ c main_v20 (ix2 o 0) = m ((c : Thread nD τ).loc main_arg6) (ix1 o) := by
  show StableHlo.after hostOps0 (W0 m ρ c) (Proc.devRef .tc main_v20) _ = _
  after_results; pointwise
theorem in_v21 (o : Fin 64) : V1 m ρ c main_v21 (ix2 o 0) = m ((c : Thread nD τ).loc main_arg12) (ix1 o) := by
  show StableHlo.after hostOps0 (W0 m ρ c) (Proc.devRef .tc main_v21) _ = _
  after_results; pointwise
theorem in_v22 (o : Fin 256) : V1 m ρ c main_v22 (ix2 o 0) = m ((c : Thread nD τ).loc main_arg15) (ix1 o) := by
  show StableHlo.after hostOps0 (W0 m ρ c) (Proc.devRef .tc main_v22) _ = _
  after_results; pointwise
theorem in_v23 (o : Fin 128) : V1 m ρ c main_v23 (ix2 o 0) = m ((c : Thread nD τ).loc main_arg21) (ix1 o) := by
  show StableHlo.after hostOps0 (W0 m ρ c) (Proc.devRef .tc main_v23) _ = _
  after_results; pointwise
theorem in_v24 : V1 m ρ c main_v24 (ix2 0 0) = m ((c : Thread nD τ).loc main_arg23) (ix1 0) := by
  show StableHlo.after hostOps0 (W0 m ρ c) (Proc.devRef .tc main_v24) _ = _
  after_results; pointwise

end Cert.Proof

end
-- ==== Proof.KOut.lean ====
/- What the first call leaves: block by block, the network's values of the samples. -/
module

public import proofs.«01_k».proof.Proof.KIn

@[expose] public section

set_option maxRecDepth 16384
set_option maxHeartbeats 2000000

noncomputable section

namespace Cert.Proof

open Idealize.ShloMosaic Idealize.ShloMosaic.TcCoe Cert.Spec Cert.KernelIdeal Cert.KernelIdeal.Gen

variable (m : (ℓ : Loc nD τ KernelIdeal.sig) → Buf (Elt Ideal) ℓ) (ρ : Dev nD → PrngReg) (c : Dev nD)

/-- The network and the signals the kernel's arguments hold. -/
def kNet : Net := argNet (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23))
def kSig (b : Fin 32) : Fin 4096 → EReal := sample (m ((c : Thread nD τ).loc main_arg0)) b

variable (t : Fin cfg0.N)

theorem blkNet : netOf (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) (iblk0 (V1 m ρ) c 10 t) (iblk0 (V1 m ρ) c 11 t) (iblk0 (V1 m ρ) c 12 t) (iblk0 (V1 m ρ) c 13 t) (iblk0 (V1 m ρ) c 14 t) (iblk0 (V1 m ρ) c 15 t) (iblk0 (V1 m ρ) c 16 t) (iblk0 (V1 m ρ) c 17 t) (iblk0 (V1 m ρ) c 18 t) (iblk0 (V1 m ρ) c 19 t) (iblk0 (V1 m ρ) c 20 t) (iblk0 (V1 m ρ) c 21 t) (iblk0 (V1 m ρ) c 22 t) (iblk0 (V1 m ρ) c 23 t) = kNet m c := by
  rw [blk1, blk2, blk3, blk4, blk5, blk6, blk7, blk8, blk9, blk10, blk11, blk12, blk13, blk14, blk15, blk16, blk17, blk18, blk19, blk20, blk21, blk22, blk23]
  exact (Net.mk.injEq ..).mpr ⟨(funext fun o => funext fun d => in_v2 m ρ c o d),
    (funext fun o => in_v18 m ρ c o),
    (funext fun o => funext fun d => funext fun t => in_v3 m ρ c t o d),
    (funext fun o => in_v19 m ρ c o),
    (funext fun o => funext fun d => funext fun t => in_v4 m ρ c t o d),
    (funext fun o => in_v20 m ρ c o),
    (funext fun o => funext fun d => funext fun t => in_v5 m ρ c t o d),
    (funext fun o => funext fun d => in_v7 m ρ c o d),
    (funext fun o => funext fun d => funext fun t => in_v6 m ρ c t o d),
    (funext fun o => funext fun d => in_v8 m ρ c o d),
    (funext fun o => funext fun d => in_v9 m ρ c o d),
    (funext fun o => in_v21 m ρ c o),
    (funext fun k => funext fun d => congrFun (W1_args m ρ c main_arg13 (by decide)) (ix2 k d)),
    (funext fun o => funext fun d => funext fun t => in_v10 m ρ c t o d),
    (funext fun o => in_v22 m ρ c o),
    (funext fun o => funext fun d => funext fun t => in_v11 m ρ c t o d),
    (funext fun o => funext fun d => in_v13 m ρ c o d),
    (funext fun o => funext fun d => funext fun t => in_v12 m ρ c t o d),
    (funext fun o => funext fun d => in_v14 m ρ c o d),
    (funext fun d => funext fun o => funext fun t => in_v15 m ρ c t o d),
    (funext fun o => in_v23 m ρ c o),
    (funext fun d => funext fun t => in_v17 m ρ c t d),
    (in_v24 m ρ c)⟩

theorem blkSig (g : Fin 4) : Proof.sig (iblk0 (V1 m ρ) c 0 t) g = kSig m c (samp t g) := by
  funext l
  show iblk0 (V1 m ρ) c 0 t (ix3 g _ _) = _
  rw [blk0, in_v1]
  exact congrArg (m ((c : Thread nD τ).loc main_arg0)) (congrArg (ix3 _ 0) (Fin.ext (by show 4 * (l.val / 4) + l.val % 4 = l.val; omega)))

/-- Indices with the same coordinates are the same. -/
theorem ix3_congr {a b c : Nat} {i i' : Fin a} {j j' : Fin b} {k k' : Fin c} (hi : i.val = i'.val) (hj : j.val = j'.val) (hk : k.val = k'.val) :
    ix3 i j k = ix3 i' j' k' := by
  rw [Fin.ext hi, Fin.ext hj, Fin.ext hk]

theorem idx0_24 : ∀ t : Fin cfg0.N, win0_24.index t = ![t.val, 0, 0] := (by decide +kernel : ∀ t : Fin grid0.N, _)
theorem idx0_25 : ∀ t : Fin cfg0.N, win0_25.index t = ![t.val, 0, 0] := (by decide +kernel : ∀ t : Fin grid0.N, _)
theorem idx0_26 : ∀ t : Fin cfg0.N, win0_26.index t = ![t.val, 0, 0] := (by decide +kernel : ∀ t : Fin grid0.N, _)
theorem idx0_27 : ∀ t : Fin cfg0.N, win0_27.index t = ![t.val, 0, 0] := (by decide +kernel : ∀ t : Fin grid0.N, _)

/-- The reconstruction, by phases. -/
theorem arr24 : (dat0 (V1 m ρ) c).arrAt 24 cfg0.N = fun j : S32x4x1024.Idx => (kNet m c).recon (kSig m c (j 0)) (j 1) (j 2) := by
  refine (dat0 (V1 m ρ) c).arrAt_eq_of_covers 24 _ (by decide +kernel) fun t hf y => ?_
  blk_simp
  rw [after0_24]
  obtain ⟨g, r, i, rfl⟩ : ∃ (g r : Fin 4) (i : Fin 1024), y = ix3 g r i := ⟨y 0, y 1, y 2, eq_ix3 y⟩
  have e : (win0_24.blk t).view.emb (ix3 g r i) = ix3 (samp t g) r i := by blk_ext [idx0_24, samp]
  rw [out24_at, blkNet, blkSig, e]
  rfl

/-- The chosen codes' numbers, at lane l of block t. -/
def codeAt (t : Fin 8) (l : Fin 4096) : BitVec 32 :=
  BitVec.ofNat 32 ((kNet m c).pick (kSig m c (samp t ⟨l.val / 1024, by omega⟩)) ⟨l.val % 1024, by omega⟩).val

theorem arr25 : (dat0 (V1 m ρ) c).arrAt 25 cfg0.N = fun j : S8x1x4096.Idx => codeAt m c (j 0) (j 2) := by
  refine (dat0 (V1 m ρ) c).arrAt_eq_of_covers 25 _ (by decide +kernel) fun t hf y => ?_
  blk_simp
  rw [after0_25]
  obtain ⟨l, rfl⟩ : ∃ l : Fin 4096, y = ix3 0 0 l := ⟨y 2, (eq_ix3 y).trans (ix3_congr (Nat.lt_one_iff.mp (y 0).isLt) (Nat.lt_one_iff.mp (y 1).isLt) rfl)⟩
  have e : (win0_25.blk t).view.emb (ix3 0 0 l) = (ix3 (⟨t.val, t.isLt⟩ : Fin 8) (0 : Fin 1) l : S8x1x4096.Idx) := by blk_ext [idx0_25]
  have el : l = lane ⟨l.val / 1024, by omega⟩ ⟨l.val % 1024, by omega⟩ := Fin.ext (by show l.val = 1024 * (l.val / 1024) + l.val % 1024; omega)
  conv_lhs => rw [el]
  rw [out25_at, blkNet, blkSig, e]
  rfl

/-- How often each code is chosen, block by block. -/
theorem arr26 : (dat0 (V1 m ρ) c).arrAt 26 cfg0.N = fun j : S8x1024x1.Idx =>
    ∑ g : Fin 4, ∑ i : Fin 1024, hot ((kNet m c).pick (kSig m c (samp (j 0) g)) i) (j 1) := by
  refine (dat0 (V1 m ρ) c).arrAt_eq_of_covers 26 _ (by decide +kernel) fun t hf y => ?_
  blk_simp
  rw [after0_26]
  obtain ⟨k, rfl⟩ : ∃ k : Fin 1024, y = ix3 0 k 0 := ⟨y 1, (eq_ix3 y).trans (ix3_congr (Nat.lt_one_iff.mp (y 0).isLt) rfl (Nat.lt_one_iff.mp (y 2).isLt))⟩
  have e : (win0_26.blk t).view.emb (ix3 0 k 0) = (ix3 (⟨t.val, t.isLt⟩ : Fin 8) k (0 : Fin 1) : S8x1024x1.Idx) := by blk_ext [idx0_26]
  rw [out26_at, blkNet, e]
  simp only [blkSig]
  rfl

/-- The squared quantisation error, block by block. -/
theorem arr27 : (dat0 (V1 m ρ) c).arrAt 27 cfg0.N = fun j : S8x1x128.Idx => ∑ g : Fin 4, sqErr (kNet m c) (kSig m c (samp (j 0) g)) := by
  refine (dat0 (V1 m ρ) c).arrAt_eq_of_covers 27 _ (by decide +kernel) fun t hf y => ?_
  blk_simp
  rw [after0_27]
  obtain ⟨l, rfl⟩ : ∃ l : Fin 128, y = ix3 0 0 l := ⟨y 2, (eq_ix3 y).trans (ix3_congr (Nat.lt_one_iff.mp (y 0).isLt) (Nat.lt_one_iff.mp (y 1).isLt) rfl)⟩
  have e : (win0_27.blk t).view.emb (ix3 0 0 l) = (ix3 (⟨t.val, t.isLt⟩ : Fin 8) (0 : Fin 1) l : S8x1x128.Idx) := by blk_ext [idx0_27]
  rw [out27_at, blkNet, e]
  simp only [blkSig]
  rfl

/-- The arrays after the first call. -/
theorem W2_v25_0 : W2 m ρ c (Proc.devRef .tc main_v25_0) = fun j : S32x4x1024.Idx => (kNet m c).recon (kSig m c (j 0)) (j 1) (j 2) :=
  (W2_arr m ρ c 24).trans (arr24 m ρ c)
theorem W2_v25_1 : W2 m ρ c (Proc.devRef .tc main_v25_1) = fun j : S8x1x4096.Idx => codeAt m c (j 0) (j 2) :=
  (W2_arr m ρ c 25).trans (arr25 m ρ c)
theorem W2_v25_2 : W2 m ρ c (Proc.devRef .tc main_v25_2) = fun j : S8x1024x1.Idx =>
    ∑ g : Fin 4, ∑ i : Fin 1024, hot ((kNet m c).pick (kSig m c (samp (j 0) g)) i) (j 1) :=
  (W2_arr m ρ c 26).trans (arr26 m ρ c)
theorem W2_v25_3 : W2 m ρ c (Proc.devRef .tc main_v25_3) = fun j : S8x1x128.Idx => ∑ g : Fin 4, sqErr (kNet m c) (kSig m c (samp (j 0) g)) :=
  (W2_arr m ρ c 27).trans (arr27 m ρ c)

end Cert.Proof

end
-- ==== Proof.KFin.lean ====
/- The second call and the host operations after it: the kernel's four results. -/
module

public import proofs.«01_k».proof.Proof.KOut

@[expose] public section

set_option maxRecDepth 16384
set_option maxHeartbeats 2000000

noncomputable section

namespace Cert.Proof

open Idealize.ShloMosaic Idealize.ShloMosaic.TcCoe Cert.Spec Cert.KernelIdeal Cert.KernelIdeal.Gen

/-- The second call's payloads: the loss of the blocks' errors, the perplexity of the blocks' counts. -/
theorem fin_loss (v : FVec Ideal S8x1x128 .f32) (y : S1x1.Idx) :
    k1_pay1 (F := Ideal) v y = Ideal.div (Ideal.ofBits .f32 0x3FA00000#32 * ∑ t : Fin 8, v (ix3 t 0 0)) (Ideal.ofBits .f32 0x4A000000#32) := by
  rw [eq_ix2 y]
  simp only [k1_pay1]
  pointwise
  simp only [Finset.univ_unique, Finset.sum_singleton]

theorem fin_perp (v : FVec Ideal S8x1024x1 .f32) (y : S1x1.Idx) :
    k1_pay2 (F := Ideal) v y = Ideal.exp (-(∑ k : Fin 1024, Ideal.div (∑ t : Fin 8, v (ix3 t k 0)) (Ideal.ofBits .f32 0x47000000#32)
      * Ideal.log (Ideal.div (∑ t : Fin 8, v (ix3 t k 0)) (Ideal.ofBits .f32 0x47000000#32) + Ideal.ofBits .f32 0x2EDBE6FF#32))) := by
  rw [eq_ix2 y]
  simp only [k1_pay2]
  pointwise
  simp only [Finset.univ_unique, Finset.sum_singleton, zero_sub]
  rfl

variable (m : (ℓ : Loc nD τ KernelIdeal.sig) → Buf (Elt Ideal) ℓ) (ρ : Dev nD → PrngReg) (c : Dev nD)

theorem idx1_0 : ∀ t : Fin cfg1.N, win1_0.index t = ![0, 0, 0] := (by decide +kernel : ∀ t : Fin grid1.N, _)
theorem idx1_1 : ∀ t : Fin cfg1.N, win1_1.index t = ![0, 0, 0] := (by decide +kernel : ∀ t : Fin grid1.N, _)

theorem blk1_0 (t : Fin cfg1.N) : iblk1 (V2 m ρ) c 0 t = V2 m ρ c main_v25_2 := by
  funext x; blk_simp [iblk1]; refine congrArg (V2 m ρ c main_v25_2) ?_; blk_ext [idx1_0]
theorem blk1_1 (t : Fin cfg1.N) : iblk1 (V2 m ρ) c 1 t = V2 m ρ c main_v25_3 := by
  funext x; blk_simp [iblk1]; refine congrArg (V2 m ρ c main_v25_3) ?_; blk_ext [idx1_1]

theorem arr1_2 : (dat1 (V2 m ρ) c).arrAt 2 cfg1.N = fun _ : S1x1.Idx => loss1 (kNet m c) (kSig m c) := by
  refine (dat1 (V2 m ρ) c).arrAt_eq_of_covers 2 _ (by decide +kernel) fun t hf y => ?_
  blk_simp
  rw [after1_2]
  unfold out1_2
  rw [View.canon_unit_zero off2, View.ld_unit_zero (S := S8x1x128) off3, blk1_1]
  refine (fin_loss _ y).trans ?_
  unfold loss1 total
  rw [← sum_samp]
  refine congrArg (fun s => Ideal.div (Ideal.ofBits .f32 0x3FA00000#32 * s) (Ideal.ofBits .f32 0x4A000000#32)) (Finset.sum_congr rfl fun t _ => ?_)
  exact congrFun (W2_v25_3 m ρ c) (ix3 t 0 0)

theorem arr1_3 : (dat1 (V2 m ρ) c).arrAt 3 cfg1.N = fun _ : S1x1.Idx => perp (kNet m c) (kSig m c) := by
  refine (dat1 (V2 m ρ) c).arrAt_eq_of_covers 3 _ (by decide +kernel) fun t hf y => ?_
  blk_simp
  rw [after1_3]
  unfold out1_3
  have h (k : Fin 1024) : ∑ t : Fin 8, ∑ g : Fin 4, ∑ i : Fin 1024, hot ((kNet m c).pick (kSig m c (samp t g)) i) k
      = ∑ b, ∑ i : Fin 1024, hot ((kNet m c).pick (kSig m c b) i) k := sum_samp fun b => ∑ i : Fin 1024, hot ((kNet m c).pick (kSig m c b) i) k
  rw [View.canon_unit_zero off2, View.ld_unit_zero (S := S8x1024x1) off3, blk1_0, show V2 m ρ c main_v25_2 = _ from W2_v25_2 m ρ c]
  refine (fin_perp _ y).trans ?_
  unfold perp share
  simp only [← h]
  rfl

theorem W3_v26_0 : W3 m ρ c (Proc.devRef .tc main_v26_0) = fun _ : S1x1.Idx => loss1 (kNet m c) (kSig m c) :=
  (W3_arr m ρ c 2).trans (arr1_2 m ρ c)
theorem W3_v26_1 : W3 m ρ c (Proc.devRef .tc main_v26_1) = fun _ : S1x1.Idx => perp (kNet m c) (kSig m c) :=
  (W3_arr m ρ c 3).trans (arr1_3 m ρ c)
theorem W3_v25_0 : W3 m ρ c (Proc.devRef .tc main_v25_0) = fun j : S32x4x1024.Idx => (kNet m c).recon (kSig m c (j 0)) (j 1) (j 2) :=
  (W3_of m ρ c main_v25_0 (by decide)).trans (W2_v25_0 m ρ c)
theorem W3_v25_1 : W3 m ρ c (Proc.devRef .tc main_v25_1) = fun j : S8x1x4096.Idx => codeAt m c (j 0) (j 2) :=
  (W3_of m ρ c main_v25_1 (by decide)).trans (W2_v25_1 m ρ c)

/-- The kernel's four results. -/
theorem k_recon (b : Fin 32) (l : Fin 4096) : W4 m ρ c (Proc.devRef .tc main_v28) (ix3 b 0 l) = join ((kNet m c).recon (kSig m c b)) l := by
  show StableHlo.after hostOps2 (W3 m ρ c) (Proc.devRef .tc main_v28) (ix3 b 0 l) = _
  after_results
  rw [W3_v25_0]
  pointwise
  rfl
theorem k_idx (b : Fin 32) (i : Fin 1024) : W4 m ρ c (Proc.devRef .tc main_v30) (ix2 b i) = BitVec.ofNat 32 ((kNet m c).pick (kSig m c b) i).val := by
  show StableHlo.after hostOps2 (W3 m ρ c) (Proc.devRef .tc main_v30) (ix2 b i) = _
  after_results
  rw [W3_v25_1]
  pointwise
  have e1 : samp ⟨b.val / 4, by omega⟩ ⟨(b.val % 4 * 1024 + i.val) / 1024, by omega⟩ = b :=
    Fin.ext (by show 4 * (b.val / 4) + (b.val % 4 * 1024 + i.val) / 1024 = b.val; omega)
  have e2 : (⟨(b.val % 4 * 1024 + i.val) % 1024, by omega⟩ : Fin 1024) = i := Fin.ext (by show (b.val % 4 * 1024 + i.val) % 1024 = i.val; omega)
  show BitVec.ofNat 32 ((kNet m c).pick (kSig m c (samp ⟨b.val / 4, _⟩ ⟨(b.val % 4 * 1024 + i.val) / 1024, _⟩)) ⟨(b.val % 4 * 1024 + i.val) % 1024, _⟩).val = _
  rw [e1, e2]
theorem k_loss : W4 m ρ c (Proc.devRef .tc main_v31) = fun _ => loss1 (kNet m c) (kSig m c) := by
  show StableHlo.after hostOps2 (W3 m ρ c) (Proc.devRef .tc main_v31) = _
  after_results
  rw [W3_v26_0]
  rfl
theorem k_perp : W4 m ρ c (Proc.devRef .tc main_v32) = fun _ => perp (kNet m c) (kSig m c) := by
  show StableHlo.after hostOps2 (W3 m ρ c) (Proc.devRef .tc main_v32) = _
  after_results
  rw [W3_v26_1]
  rfl

end Cert.Proof

end
-- ==== Proof.RefStat.lean ====
/- The reference's means, deviations and normalised signal, sample by sample. -/
module

public import proofs.«01_k».proof.Proof.RefFrame
public import proofs.«01_k».proof.Proof.Args

@[expose] public section

set_option maxRecDepth 16384
set_option maxHeartbeats 4000000

noncomputable section

namespace Cert.Proof.Ref

open Cert.ReferenceIdeal Cert.ReferenceIdeal.Gen Cert.Spec
open Idealize.ShloMosaic Idealize.ShloMosaic.TcCoe Idealize.ShloMosaic.StableHlo Idealize.SL.Sem

variable (V : Valuation τ sig (Elt Ideal))

theorem st_mean (b : Fin 32) : after ops0 V (Proc.devRef .tc main_v3) (ix3 b 0 0) = mean (sample (V (Proc.devRef .tc main_arg0)) b) := by
  after_results
  pointwise
  rfl
theorem st_dev (b : Fin 32) : after ops0 V (Proc.devRef .tc main_v13) (ix3 b 0 0) = dev (sample (V (Proc.devRef .tc main_arg0)) b) := by
  after_results
  pointwise
  rfl
theorem st_norm (b : Fin 32) (l : Fin 4096) : after ops0 V (Proc.devRef .tc main_v17) (ix3 b 0 l) = norm (sample (V (Proc.devRef .tc main_arg0)) b) l := by
  after_results
  pointwise
  rfl

end Cert.Proof.Ref

end
-- ==== Proof.RefOps.lean ====
/- The reference's paddings at a position: a signal with zeros about it, and a signal with zeros between its positions. -/
module

public import proofs.«01_k».proof.Proof.RefStat

@[expose] public section

set_option maxRecDepth 16384

noncomputable section

namespace Cert.Proof.Ref

open Cert.ReferenceIdeal Cert.ReferenceIdeal.Gen Cert.Spec
open Idealize.ShloMosaic

variable {L : Nat}

/-- A signal after one zero. -/
def pd (f : Fin L → EReal) (n : Nat) : EReal := if h : 1 ≤ n ∧ n - 1 < L then f ⟨n - 1, h.2⟩ else 0
/-- A signal after two zeros, with a zero between neighbours. -/
def td (f : Fin L → EReal) (n : Nat) : EReal := if h : 2 ≤ n ∧ (n - 2) % 2 = 0 ∧ (n - 2) / 2 < L then f ⟨(n - 2) / 2, h.2.2⟩ else 0

theorem const_zero (i : S_.Idx) : constant (F := Ideal) S_ .f32 0x00000000#32 i = (0 : EReal) := by
  show Ideal.ofBits .f32 0x00000000#32 = 0
  simp [Ideal.ofBits, Ideal.ieee]

theorem pad_pd {A B M : Nat} (x : A3 A B L) (h : (⟨3, ![A, B, L]⟩ : Shape).Pads ![0, 0, 1] ![0, 0, 1] ![0, 0, 0] ⟨3, ![A, B, M]⟩) (hu) :
    pad (⟨3, ![A, B, M]⟩ : Shape) ![0, 0, 1] ![0, 0, 1] ![0, 0, 0] x (constant (F := Ideal) S_ .f32 0x00000000#32) h hu
      = fun j => pd (fun l => x (ix3 (j 0) (j 1) l)) (j 2).val := by
  funext j
  obtain ⟨a, b, n, rfl⟩ : ∃ (a : Fin A) (b : Fin B) (n : Fin M), j = ix3 a b n := ⟨j 0, j 1, j 2, eq_ix3 j⟩
  unfold pad pd
  by_cases hn : 1 ≤ n.val ∧ n.val - 1 < L
  · rw [dif_pos (show 1 ≤ (ix3 a b n 2).val ∧ (ix3 a b n 2).val - 1 < L from hn)]
    refine (dif_pos fun k => ?_).trans (congrArg x ?_)
    · fin_cases k
      · exact ⟨Nat.zero_le _, Nat.mod_one _, (Nat.div_one _).trans_lt a.isLt⟩
      · exact ⟨Nat.zero_le _, Nat.mod_one _, (Nat.div_one _).trans_lt b.isLt⟩
      · exact ⟨hn.1, Nat.mod_one _, (Nat.div_one _).trans_lt hn.2⟩
    · funext k
      fin_cases k <;> exact Fin.ext (Nat.div_one _)
  · rw [dif_neg (show ¬ (1 ≤ (ix3 a b n 2).val ∧ (ix3 a b n 2).val - 1 < L) from hn)]
    refine (dif_neg fun hk => hn ?_).trans (const_zero _)
    exact ⟨(hk 2).1, (Nat.div_one _).symm.trans_lt (hk 2).2.2⟩

theorem pad_td {A B M : Nat} (x : A3 A B L) (h : (⟨3, ![A, B, L]⟩ : Shape).Pads ![0, 0, 2] ![0, 0, 2] ![0, 0, 1] ⟨3, ![A, B, M]⟩) (hu) :
    pad (⟨3, ![A, B, M]⟩ : Shape) ![0, 0, 2] ![0, 0, 2] ![0, 0, 1] x (constant (F := Ideal) S_ .f32 0x00000000#32) h hu
      = fun j => td (fun l => x (ix3 (j 0) (j 1) l)) (j 2).val := by
  funext j
  obtain ⟨a, b, n, rfl⟩ : ∃ (a : Fin A) (b : Fin B) (n : Fin M), j = ix3 a b n := ⟨j 0, j 1, j 2, eq_ix3 j⟩
  unfold pad td
  by_cases hn : 2 ≤ n.val ∧ (n.val - 2) % 2 = 0 ∧ (n.val - 2) / 2 < L
  · rw [dif_pos (show 2 ≤ (ix3 a b n 2).val ∧ ((ix3 a b n 2).val - 2) % 2 = 0 ∧ ((ix3 a b n 2).val - 2) / 2 < L from hn)]
    refine (dif_pos fun k => ?_).trans (congrArg x ?_)
    · fin_cases k
      · exact ⟨Nat.zero_le _, Nat.mod_one _, (Nat.div_one _).trans_lt a.isLt⟩
      · exact ⟨Nat.zero_le _, Nat.mod_one _, (Nat.div_one _).trans_lt b.isLt⟩
      · exact hn
    · funext k
      fin_cases k
      · exact Fin.ext (Nat.div_one _)
      · exact Fin.ext (Nat.div_one _)
      · rfl
  · rw [dif_neg (show ¬ (2 ≤ (ix3 a b n 2).val ∧ ((ix3 a b n 2).val - 2) % 2 = 0 ∧ ((ix3 a b n 2).val - 2) / 2 < L) from hn)]
    exact (dif_neg fun hk => hn (hk 2)).trans (const_zero _)

variable (f : Fin L → EReal) (w : EReal)

/-- The three taps of a convolution at stride one: the neighbour before, the position, the neighbour after. -/
theorem pd_0 (i : Fin L) : pd f i.val * w = w * prv f i := by
  rw [mul_comm]
  unfold pd prv
  by_cases h : 0 < i.val
  · rw [dif_pos h, dif_pos ⟨h, by omega⟩]
  · rw [dif_neg h, dif_neg fun h' => h h'.1]
theorem pd_1 (i : Fin L) : pd f (1 + i.val) * w = w * f i := by
  rw [mul_comm]
  unfold pd
  rw [dif_pos ⟨by omega, by omega⟩]
  exact congrArg (fun j => w * f j) (Fin.ext (by show 1 + i.val - 1 = i.val; omega))
theorem pd_2 (i : Fin L) : pd f (2 + i.val) * w = w * nxt f i := by
  rw [mul_comm]
  unfold pd nxt
  by_cases h : i.val + 1 < L
  · rw [dif_pos h, dif_pos ⟨by omega, by omega⟩]
    exact congrArg (fun j => w * f j) (Fin.ext (by show 2 + i.val - 1 = i.val + 1; omega))
  · rw [dif_neg h, dif_neg fun h' => h (by omega)]

/-- The four taps of a convolution at stride two, on the even and the odd positions. -/
theorem pd_s0 (i : Fin 1024) (f : Fin 2048 → EReal) : pd f (2 * i.val) * w = w * prv (od rfl f) i := by
  rw [mul_comm]
  unfold pd prv od
  by_cases h : 0 < i.val
  · rw [dif_pos h, dif_pos ⟨by omega, by omega⟩]
    exact congrArg (fun j => w * f j) (Fin.ext (by show 2 * i.val - 1 = 2 * (i.val - 1) + 1; omega))
  · rw [dif_neg h, dif_neg fun h' => h (by omega)]
theorem pd_s1 (i : Fin 1024) (f : Fin 2048 → EReal) : pd f (1 + 2 * i.val) * w = w * ev rfl f i := by
  rw [mul_comm]
  unfold pd ev
  rw [dif_pos ⟨by omega, by omega⟩]
  exact congrArg (fun j => w * f j) (Fin.ext (by show 1 + 2 * i.val - 1 = 2 * i.val; omega))
theorem pd_s2 (i : Fin 1024) (f : Fin 2048 → EReal) : pd f (2 + 2 * i.val) * w = w * od rfl f i := by
  rw [mul_comm]
  unfold pd od
  rw [dif_pos ⟨by omega, by omega⟩]
  exact congrArg (fun j => w * f j) (Fin.ext (by show 2 + 2 * i.val - 1 = 2 * i.val + 1; omega))
theorem pd_s3 (i : Fin 1024) (f : Fin 2048 → EReal) : pd f (3 + 2 * i.val) * w = w * nxt (ev rfl f) i := by
  rw [mul_comm]
  unfold pd nxt ev
  by_cases h : i.val + 1 < 1024
  · rw [dif_pos h, dif_pos ⟨by omega, by omega⟩]
    exact congrArg (fun j => w * f j) (Fin.ext (by show 3 + 2 * i.val - 1 = 2 * (i.val + 1); omega))
  · rw [dif_neg h, dif_neg fun h' => h (by omega)]

/-- A padded signal at a position inside, before and after. -/
theorem pd_in (n : Nat) (i : Fin L) (h : n = i.val + 1) : pd f n = f i := by
  subst h
  unfold pd
  rw [dif_pos ⟨by omega, by omega⟩]
  rfl
theorem pd_out (n : Nat) (h : n = 0 ∨ L < n) : pd f n = 0 := by
  unfold pd
  rw [dif_neg]
  omega
theorem td_in (n : Nat) (i : Fin L) (h : n = 2 * i.val + 2) : td f n = f i := by
  subst h
  unfold td
  rw [dif_pos ⟨by omega, by omega, by omega⟩]
  exact congrArg f (Fin.ext (by show (2 * i.val + 2 - 2) / 2 = i.val; omega))
theorem td_out (n : Nat) (h : n % 2 = 1 ∨ n < 2 ∨ 2 * L + 2 ≤ n) : td f n = 0 := by
  unfold td
  rw [dif_neg]
  omega

/-- The four taps at stride two, at an even and at an odd position, on the four phases. -/
theorem pd_e0 (i : Fin 1024) (f : Fin 4096 → EReal) : pd f (2 * (2 * i.val)) * w = w * prv (phase f 3) i := by
  rw [mul_comm]
  unfold prv
  by_cases h : 0 < i.val
  · rw [dif_pos h, pd_in f _ ⟨4 * (i.val - 1) + 3, by omega⟩ (by show 2 * (2 * i.val) = 4 * (i.val - 1) + 3 + 1; omega)]
    rfl
  · rw [dif_neg h, pd_out f _ (.inl (by omega))]
theorem pd_e1 (i : Fin 1024) (f : Fin 4096 → EReal) : pd f (1 + 2 * (2 * i.val)) * w = w * phase f 0 i := by
  rw [mul_comm, pd_in f _ ⟨4 * i.val + 0, by omega⟩ (by show 1 + 2 * (2 * i.val) = 4 * i.val + 0 + 1; omega)]
  rfl
theorem pd_e2 (i : Fin 1024) (f : Fin 4096 → EReal) : pd f (2 + 2 * (2 * i.val)) * w = w * phase f 1 i := by
  rw [mul_comm, pd_in f _ ⟨4 * i.val + 1, by omega⟩ (by show 2 + 2 * (2 * i.val) = 4 * i.val + 1 + 1; omega)]
  rfl
theorem pd_e3 (i : Fin 1024) (f : Fin 4096 → EReal) : pd f (3 + 2 * (2 * i.val)) * w = w * phase f 2 i := by
  rw [mul_comm, pd_in f _ ⟨4 * i.val + 2, by omega⟩ (by show 3 + 2 * (2 * i.val) = 4 * i.val + 2 + 1; omega)]
  rfl
theorem pd_o0 (i : Fin 1024) (f : Fin 4096 → EReal) : pd f (2 * (2 * i.val + 1)) * w = w * phase f 1 i := by
  rw [mul_comm, pd_in f _ ⟨4 * i.val + 1, by omega⟩ (by show 2 * (2 * i.val + 1) = 4 * i.val + 1 + 1; omega)]
  rfl
theorem pd_o1 (i : Fin 1024) (f : Fin 4096 → EReal) : pd f (1 + 2 * (2 * i.val + 1)) * w = w * phase f 2 i := by
  rw [mul_comm, pd_in f _ ⟨4 * i.val + 2, by omega⟩ (by show 1 + 2 * (2 * i.val + 1) = 4 * i.val + 2 + 1; omega)]
  rfl
theorem pd_o2 (i : Fin 1024) (f : Fin 4096 → EReal) : pd f (2 + 2 * (2 * i.val + 1)) * w = w * phase f 3 i := by
  rw [mul_comm, pd_in f _ ⟨4 * i.val + 3, by omega⟩ (by show 2 + 2 * (2 * i.val + 1) = 4 * i.val + 3 + 1; omega)]
  rfl
theorem pd_o3 (i : Fin 1024) (f : Fin 4096 → EReal) : pd f (3 + 2 * (2 * i.val + 1)) * w = w * nxt (phase f 0) i := by
  rw [mul_comm]
  unfold nxt
  by_cases h : i.val + 1 < 1024
  · rw [dif_pos h, pd_in f _ ⟨4 * (i.val + 1) + 0, by omega⟩ (by show 3 + 2 * (2 * i.val + 1) = 4 * (i.val + 1) + 0 + 1; omega)]
    rfl
  · rw [dif_neg h, pd_out f _ (.inr (by omega))]

/-- Weights before or after the values. -/
theorem add_dot {n : Nat} (a : EReal) (x w : Fin n → EReal) : a + ∑ c, x c * w c = a + ∑ c, w c * x c := by
  simp only [mul_comm]
theorem dot_add {n : Nat} (a : EReal) (x w : Fin n → EReal) : (∑ c, x c * w c) + a = (∑ c, w c * x c) + a := by
  simp only [mul_comm]

/-- The four taps of a transposed convolution at an even and at an odd position. -/
theorem td_e0 (i : Fin L) : td f (2 * i.val) * w = w * prv f i := by
  rw [mul_comm]
  unfold prv
  by_cases h : 0 < i.val
  · rw [dif_pos h, td_in f _ ⟨i.val - 1, by omega⟩ (by show 2 * i.val = 2 * (i.val - 1) + 2; omega)]
  · rw [dif_neg h, td_out f _ (.inr (.inl (by omega)))]
theorem td_e1 (i : Fin L) : td f (1 + 2 * i.val) * w = 0 := by rw [td_out f _ (.inl (by omega)), zero_mul]
theorem td_e2 (i : Fin L) : td f (2 + 2 * i.val) * w = w * f i := by rw [mul_comm, td_in f _ i (by omega)]
theorem td_e3 (i : Fin L) : td f (3 + 2 * i.val) * w = 0 := by rw [td_out f _ (.inl (by omega)), zero_mul]
theorem td_o0 (i : Fin L) : td f (2 * i.val + 1) * w = 0 := by rw [td_out f _ (.inl (by omega)), zero_mul]
theorem td_o1 (i : Fin L) : td f (1 + (2 * i.val + 1)) * w = w * f i := by rw [mul_comm, td_in f _ i (by omega)]
theorem td_o2 (i : Fin L) : td f (2 + (2 * i.val + 1)) * w = 0 := by rw [td_out f _ (.inl (by omega)), zero_mul]
theorem td_o3 (i : Fin L) : td f (3 + (2 * i.val + 1)) * w = w * nxt f i := by
  rw [mul_comm]
  unfold nxt
  by_cases h : i.val + 1 < L
  · rw [dif_pos h, td_in f _ ⟨i.val + 1, h⟩ (by show 3 + (2 * i.val + 1) = 2 * (i.val + 1) + 2; omega)]
  · rw [dif_neg h, td_out f _ (.inr (.inr (by omega)))]

/-- The taps in the reverse order. -/
theorem rev_taps {A B C : Nat} (x : A3 A B C) : Host.reverse (s := (⟨3, ![A, B, C]⟩ : Shape)) [2] x = fun j => x (ix3 (j 0) (j 1) (Fin.rev (j 2))) := by
  funext j
  refine congrArg x (funext fun k => ?_)
  fin_cases k <;> rfl

theorem tconvE_comm {n m : Nat} (w : Fin n → Fin m → Fin 4 → EReal) (x : Fin n → Fin L → EReal) (o : Fin m) (i : Fin L) :
    tconvE w x o i = (∑ c, w c o (Fin.rev 0) * prv (x c) i) + (∑ c, w c o (Fin.rev 2) * x c i) := add_comm _ _

/-- A transposed convolution of a transposed convolution's output, by phases. -/
theorem prv_even (u : Fin 2048 → EReal) (i : Fin 1024) : prv u ⟨2 * i.val, by omega⟩ = prv (od rfl u) i := by
  unfold prv od
  by_cases h : 0 < i.val
  · rw [dif_pos h, dif_pos (by show 0 < 2 * i.val; omega)]
    exact congrArg u (Fin.ext (by show 2 * i.val - 1 = 2 * (i.val - 1) + 1; omega))
  · rw [dif_neg h, dif_neg (by show ¬ 0 < 2 * i.val; omega)]
theorem nxt_odd (u : Fin 2048 → EReal) (i : Fin 1024) : nxt u ⟨2 * i.val + 1, by omega⟩ = nxt (ev rfl u) i := by
  unfold nxt ev
  by_cases h : i.val + 1 < 1024
  · rw [dif_pos h, dif_pos (by show 2 * i.val + 1 + 1 < 2048; omega)]
    rfl
  · rw [dif_neg h, dif_neg (by show ¬ 2 * i.val + 1 + 1 < 2048; omega)]
theorem nxt_even (u : Fin 2048 → EReal) (i : Fin 1024) : nxt u ⟨2 * i.val, by omega⟩ = od rfl u i := by
  unfold nxt od
  rw [dif_pos (by show 2 * i.val + 1 < 2048; omega)]
theorem prv_odd (u : Fin 2048 → EReal) (i : Fin 1024) : prv u ⟨2 * i.val + 1, by omega⟩ = ev rfl u i := by
  unfold prv ev
  rw [dif_pos (by show 0 < 2 * i.val + 1; omega)]
  rfl

section
variable (w' : Fin 128 → Fin 1 → Fin 4 → EReal) (u : Fin 128 → Fin 2048 → EReal) (i : Fin 1024)

/-- The products of the taps with the even and with the odd positions. -/
def tapE : Fin 4 → Fin 1024 → EReal := conv1 (fun t c => w' c 0 t) (fun c => ev rfl (u c))
def tapO : Fin 4 → Fin 1024 → EReal := conv1 (fun t c => w' c 0 t) (fun c => od rfl (u c))

theorem weave0 : tconvE w' u 0 ⟨2 * i.val, by omega⟩ = weave (tapE w' u) (tapO w' u) 0 i := by
  show _ + _ = _ + prv (fun i => ∑ c, w' c 0 3 * od rfl (u c) i) i
  simp only [prv_even, prv_sum]
  rfl
theorem weave1 : tconvO w' u 0 ⟨2 * i.val, by omega⟩ = weave (tapE w' u) (tapO w' u) 1 i := by
  show _ + (∑ c, w' c 0 0 * nxt (u c) ⟨2 * i.val, _⟩) = _ + _
  simp only [nxt_even]
  rfl
theorem weave2 : tconvE w' u 0 ⟨2 * i.val + 1, by omega⟩ = weave (tapE w' u) (tapO w' u) 2 i := by
  show _ + (∑ c, w' c 0 3 * prv (u c) ⟨2 * i.val + 1, _⟩) = _ + _
  simp only [prv_odd]
  rfl
theorem weave3 : tconvO w' u 0 ⟨2 * i.val + 1, by omega⟩ = weave (tapE w' u) (tapO w' u) 3 i := by
  show _ + _ = _ + nxt (fun i => ∑ c, w' c 0 0 * ev rfl (u c) i) i
  simp only [nxt_odd, nxt_sum]
  rfl
end

end Cert.Proof.Ref

end
-- ==== Proof.RefEnc.lean ====
/- The reference's encoder, layer by layer. -/
module

public import proofs.«01_k».proof.Proof.RefOps

@[expose] public section

set_option maxRecDepth 16384
set_option maxHeartbeats 4000000

noncomputable section

namespace Cert.Proof.Ref

open Cert.ReferenceIdeal Cert.ReferenceIdeal.Gen Cert.Spec
open Idealize.ShloMosaic Idealize.ShloMosaic.TcCoe Idealize.ShloMosaic.StableHlo Idealize.SL.Sem

variable (V : Valuation τ sig (Elt Ideal))

/-- One sample of an array, as channels of positions. -/
abbrev chan {A C L : Nat} (x : A3 A C L) (b : Fin A) (c : Fin C) (l : Fin L) : EReal := x (ix3 b c l)

/-- The first convolution at the even and the odd positions, from the phases of the normalised signal. -/
theorem c1e_at (N : Net) (h1 : N.c1w = fun o t => V (Proc.devRef .tc main_arg1) (ix3 o 0 t)) (h2 : N.c1b = bs (V (Proc.devRef .tc main_arg2))) (b : Fin 32) (o : Fin 128) :
    ev rfl (chan (after ops1 V (Proc.devRef .tc main_v46)) b o) = N.h1e (phase (chan (V (Proc.devRef .tc main_v17)) b 0)) o := by
  funext i
  unfold ev Net.h1e
  rw [h1, h2]
  after_results
  erw [pad_pd (A := 32) (B := 1) (L := 4096) (M := 4098)]
  pointwise
  simp only [Finset.univ_unique, Finset.sum_singleton, pd_e0, pd_e1, pd_e2, pd_e3]
theorem c1o_at (N : Net) (h1 : N.c1w = fun o t => V (Proc.devRef .tc main_arg1) (ix3 o 0 t)) (h2 : N.c1b = bs (V (Proc.devRef .tc main_arg2))) (b : Fin 32) (o : Fin 128) :
    od rfl (chan (after ops1 V (Proc.devRef .tc main_v46)) b o) = N.h1o (phase (chan (V (Proc.devRef .tc main_v17)) b 0)) o := by
  funext i
  unfold od Net.h1o
  rw [h1, h2]
  after_results
  erw [pad_pd (A := 32) (B := 1) (L := 4096) (M := 4098)]
  pointwise
  simp only [Finset.univ_unique, Finset.sum_singleton, pd_o0, pd_o1, pd_o2, pd_o3]

/-- The second convolution, from the even and the odd positions of the first. -/
theorem c2_at (b : Fin 32) : chan (after ops2 V (Proc.devRef .tc main_v75)) b
    = relu (bias (conv4 (wt3 (V (Proc.devRef .tc main_arg3))) (fun c => ev rfl (chan (V (Proc.devRef .tc main_v46)) b c)) (fun c => od rfl (chan (V (Proc.devRef .tc main_v46)) b c))) (bs (V (Proc.devRef .tc main_arg4)))) := by
  funext o i
  after_results
  erw [pad_pd (A := 32) (B := 128) (L := 2048) (M := 2050)]
  pointwise
  simp only [pd_s0, pd_s1, pd_s2, pd_s3]
  rfl
/-- The third convolution. -/
theorem c3_at (b : Fin 32) : chan (after ops3 V (Proc.devRef .tc main_v96)) b
    = bias (conv3 (wt3 (V (Proc.devRef .tc main_arg5))) (chan (V (Proc.devRef .tc main_v75)) b)) (bs (V (Proc.devRef .tc main_arg6))) := by
  funext o i
  after_results
  erw [pad_pd (A := 32) (B := 256) (L := 1024) (M := 1026)]
  pointwise
  simp only [pd_0, pd_1, pd_2]
  rfl
/-- The residual blocks. -/
theorem res0_at (b : Fin 32) : chan (after ops4 V (Proc.devRef .tc main_v123)) b
    = resblock (wt3 (V (Proc.devRef .tc main_arg7))) (wt2 (V (Proc.devRef .tc main_arg8))) (chan (V (Proc.devRef .tc main_v96)) b) := by
  funext o i
  after_results
  erw [pad_pd (A := 32) (B := 256) (L := 1024) (M := 1026)]
  pointwise
  simp only [pd_0, pd_1, pd_2]
  exact add_dot _ _ _
theorem res1_at (b : Fin 32) : chan (after ops5 V (Proc.devRef .tc main_v150)) b
    = resblock (wt3 (V (Proc.devRef .tc main_arg9))) (wt2 (V (Proc.devRef .tc main_arg10))) (chan (V (Proc.devRef .tc main_v123)) b) := by
  funext o i
  after_results
  erw [pad_pd (A := 32) (B := 256) (L := 1024) (M := 1026)]
  pointwise
  simp only [pd_0, pd_1, pd_2]
  exact add_dot _ _ _
/-- The encoder's output. -/
theorem pre_at (b : Fin 32) : chan (after ops6 V (Proc.devRef .tc main_v159)) b
    = bias (conv1 (wt2 (V (Proc.devRef .tc main_arg11))) (relu (chan (V (Proc.devRef .tc main_v150)) b))) (bs (V (Proc.devRef .tc main_arg12))) := by
  funext o i
  after_results
  pointwise
  exact dot_add _ _ _

end Cert.Proof.Ref

end
-- ==== Proof.RefVq.lean ====
/- The reference's codes, losses and perplexity. -/
module

public import proofs.«01_k».proof.Proof.RefEnc

@[expose] public section

set_option maxRecDepth 16384
set_option maxHeartbeats 4000000

noncomputable section

namespace Cert.Proof.Ref

open Cert.ReferenceIdeal Cert.ReferenceIdeal.Gen Cert.Spec
open Idealize.ShloMosaic Idealize.ShloMosaic.TcCoe Idealize.ShloMosaic.StableHlo Idealize.SL.Sem

variable (V : Valuation τ sig (Elt Ideal))

/-- The row of a position of a sample. -/
def row (b : Fin 32) (i : Fin 1024) : Fin 32768 := ⟨b.val * 1024 + i.val, by omega⟩

theorem vq_inp (b : Fin 32) (d : Fin 64) (i : Fin 1024) : after ops7 V (Proc.devRef .tc main_v160) (ix3 b i d) = V (Proc.devRef .tc main_v159) (ix3 b d i) := by
  after_results
  pointwise

/-- The distances of a position to the codes. -/
theorem vq_d2 (b : Fin 32) (i k : Fin 1024) : after ops7 V (Proc.devRef .tc main_v175) (ix2 (row b i) k)
    = dist (fun k d => V (Proc.devRef .tc main_arg13) (ix2 k d)) (fun d => chan (V (Proc.devRef .tc main_v159)) b d i) k := by
  have e1 : (⟨(b.val * 1024 + i.val) / 1024, by omega⟩ : Fin 32) = b := Fin.ext (by show (b.val * 1024 + i.val) / 1024 = b.val; omega)
  have e2 : (⟨(b.val * 1024 + i.val) % 1024, by omega⟩ : Fin 1024) = i := Fin.ext (by show (b.val * 1024 + i.val) % 1024 = i.val; omega)
  after_results
  unfold row
  pointwise
  simp only [e1, e2]
  rfl

/-- The row's smallest distance, by its first column. -/
theorem argmin_at (x : A2 32768 1024) (n : Fin 32768) :
    (Host.argReduce (φ := .f32) (reducer_argmin_f32_i32 (F := Ideal)) x (iotaInDim S32768x1024 32 1) (constant S_ .f32 0x7F800000#32) (constantI S_ 32 0#32)
      reducesTo_S32768x1024_S32768_d1 h_S_ (ix1 n)).2 = BitVec.ofNat 32 (near fun k => x (ix2 n k)).val := by
  rw [Idealize.ShloMosaic.Ideal.argReduce_eq_reduce2, Host.reduce2_eq_foldl_fiber]
  have h0 : (constant (F := Ideal) S_ .f32 0x7F800000#32 (Shape.Idx.first h_S_), constantI S_ 32 0#32 (Shape.Idx.first h_S_)) = ((⊤ : EReal), 0#32) := by
    refine Prod.ext ?_ rfl
    show Ideal.ofBits .f32 0x7F800000#32 = ⊤
    simp [Ideal.ofBits, Ideal.ieee]
  rw [h0]
  refine foldl_near (fun k => x (ix2 n k)) _ fun q => ?_
  unfold Host.argReduceFiber
  simp only [List.mem_map, List.mem_filter, List.mem_finRange, true_and, decide_eq_true_eq]
  constructor
  · rintro ⟨a, ha, rfl⟩
    obtain ⟨k, hk⟩ := (Shape.ReducesTo.fiber_r2_a1 _ _ _).mp ha
    refine ⟨k, ?_⟩
    rw [← hk]
    rfl
  · rintro ⟨k, rfl⟩
    refine ⟨Shape.rowMajor _ (ix2 n k), ?_, ?_⟩
    · rw [Equiv.symm_apply_apply]
      exact (Shape.ReducesTo.fiber_r2_a1 _ _ _).mpr ⟨k, rfl⟩
    · rw [Equiv.symm_apply_apply]
      rfl

/-- The search, apart from the distances. -/
abbrev ops7b {F : FTy → Type} [FloatOps F] : List (HloOp τ sig (Elt F)) :=
  [ TRef.nullary main_call0.v0 (iotaInDim S32768x1024 32 1),
    TRef.nullary main_call0.cst (constant S_ .f32 0x7F800000#32),
    TRef.nullary main_call0.c (constantI S_ 32 0#32),
    TRef.quaternary (.of main_v175) main_call0.v0 main_call0.cst main_call0.c main_call0.v1_0 (fun x y u v j => (Host.argReduce reducer_argmin_f32_i32 x y u v reducesTo_S32768x1024_S32768_d1 h_S_ j).1),
    TRef.quaternary (.of main_v175) main_call0.v0 main_call0.cst main_call0.c main_call0.v1_1 (fun x y u v j => (Host.argReduce reducer_argmin_f32_i32 x y u v reducesTo_S32768x1024_S32768_d1 h_S_ j).2) ]

theorem after_ops7 : after ops7 V = after ops7b (after (ops7.take 19) V) := by
  rw [← after_append]
  rfl

/-- The search writes what its last operation computes, whatever that is. -/
theorem search_at (f : FVec Ideal S32768x1024 .f32 → IVec S32768x1024 32 → FVec Ideal S_ .f32 → IVec S_ 32 → S32768.Idx → Ideal FTy.f32) (g : FVec Ideal S32768x1024 .f32 → IVec S32768x1024 32 → FVec Ideal S_ .f32 → IVec S_ 32 → S32768.Idx → BitVec 32) :
    after (
  [ TRef.nullary main_call0.v0 (iotaInDim S32768x1024 32 1),
    TRef.nullary main_call0.cst (constant (F := Ideal) S_ .f32 0x7F800000#32),
    TRef.nullary main_call0.c (constantI S_ 32 0#32),
    TRef.quaternary (.of main_v175) main_call0.v0 main_call0.cst main_call0.c main_call0.v1_0 (fun x y u v j => f x y u v j),
    TRef.quaternary (.of main_v175) main_call0.v0 main_call0.cst main_call0.c main_call0.v1_1 (fun x y u v j => g x y u v j) ] : List (HloOp τ sig (Elt Ideal))) V (Proc.devRef .tc main_v176)
    = fun j => (g (V (Proc.devRef .tc main_v175)) (iotaInDim S32768x1024 32 1) (constant (F := Ideal) S_ .f32 0x7F800000#32) (constantI S_ 32 0#32) j) := by
  after_results
  rfl

theorem search_idx : after ops7b V (Proc.devRef .tc main_v176) = fun j => (Host.argReduce (φ := .f32) (reducer_argmin_f32_i32 (F := Ideal)) (V (Proc.devRef .tc main_v175)) (iotaInDim S32768x1024 32 1) (constant (F := Ideal) S_ .f32 0x7F800000#32) (constantI S_ 32 0#32) reducesTo_S32768x1024_S32768_d1 h_S_ j).2 :=
  search_at V (fun x y u v j => (Host.argReduce (φ := .f32) (reducer_argmin_f32_i32 (F := Ideal)) x y u v reducesTo_S32768x1024_S32768_d1 h_S_ j).1) (fun x y u v j => (Host.argReduce (φ := .f32) (reducer_argmin_f32_i32 (F := Ideal)) x y u v reducesTo_S32768x1024_S32768_d1 h_S_ j).2)

theorem keep175 : after ops7b V (Proc.devRef .tc main_v175) = V (Proc.devRef .tc main_v175) := by
  after_results

theorem vq_idx0 (n : Fin 32768) : after ops7b V (Proc.devRef .tc main_v176) (ix1 n)
    = BitVec.ofNat 32 (near fun k => V (Proc.devRef .tc main_v175) (ix2 n k)).val := by
  rw [search_idx]
  exact argmin_at (V (Proc.devRef .tc main_v175)) n

theorem vq_idx (n : Fin 32768) : after ops7 V (Proc.devRef .tc main_v176) (ix1 n)
    = BitVec.ofNat 32 (near fun k => after ops7 V (Proc.devRef .tc main_v175) (ix2 n k)).val := by
  rw [after_ops7, keep175]
  exact vq_idx0 _ n

/-- A comparison with the chosen number, as a number, is the one-hot row. -/
theorem hot_at (k j : Fin 1024) : FloatOps.uitofp (F := Ideal) FTy.f32 (IntOp.cmpi CmpIPredicate.eq (BitVec.ofNat 32 k.val) (BitVec.ofNat 32 j.val)) = hot k j := by
  unfold hot
  by_cases h : j = k
  · subst h
    simp only [IntOp.cmpi, beq_self_eq_true, if_true]
    show ((BitVec.toNat (BitVec.ofBool true) : ℝ) : EReal) = 1
    simp
  · have h' : BitVec.ofNat 32 k.val ≠ BitVec.ofNat 32 j.val := fun e => h (by
      have := congrArg BitVec.toInt e
      rw [toInt_ofNat_fin, toInt_ofNat_fin] at this
      exact Fin.ext (by exact_mod_cast this.symm))
    simp only [IntOp.cmpi, beq_eq_false_iff_ne.2 h', if_neg h]
    show ((BitVec.toNat (BitVec.ofBool false) : ℝ) : EReal) = 0
    simp

theorem vq_hot (n : Fin 32768) (k j : Fin 1024) (h : V (Proc.devRef .tc main_v176) (ix1 n) = BitVec.ofNat 32 k.val) :
    after ops8 V (Proc.devRef .tc main_v183) (ix2 n j) = hot k j := by
  after_results
  pointwise
  rw [h]
  exact hot_at k j

/-- The chosen code. -/
theorem vq_q (b : Fin 32) (i k : Fin 1024) (d : Fin 64) (h : V (Proc.devRef .tc main_v176) (ix1 (row b i)) = BitVec.ofNat 32 k.val) :
    after ops8 V (Proc.devRef .tc main_v185) (ix3 b i d) = V (Proc.devRef .tc main_arg13) (ix2 k d) := by
  after_results
  pointwise
  change ∑ x : Fin 1024, FloatOps.uitofp (F := Ideal) FTy.f32 (IntOp.cmpi CmpIPredicate.eq (V (Proc.devRef .tc main_v176) (ix1 (row b i))) (BitVec.ofNat 32 x.val)) * _ = _
  rw [h]
  simp only [hot_at]
  exact sum_hot' k fun k => V (Proc.devRef .tc main_arg13) (ix2 k d)

/-- Add the difference back. -/
def through (z q : EReal) : EReal := z + (q - z)

/-- The chosen codes on the way to the decoder. -/
theorem vq_st (b : Fin 32) (d : Fin 64) (i : Fin 1024) :
    after ops9 V (Proc.devRef .tc main_v198) (ix3 b d i)
      = through (chan (V (Proc.devRef .tc main_v160)) b i d) (chan (V (Proc.devRef .tc main_v185)) b i d) := by
  after_results
  pointwise
  rfl

/-- The loss. -/
def loss2 (t : EReal) : EReal := Ideal.div t (Ideal.ofBits .f32 0x4A000000#32) + Ideal.ofBits .f32 0x3E800000#32 * Ideal.div t (Ideal.ofBits .f32 0x4A000000#32)
theorem vq_loss (j) (z q : Fin 32 → Fin 64 → Fin 1024 → EReal) (hz : ∀ b i d, V (Proc.devRef .tc main_v160) (ix3 b i d) = z b d i)
    (hq : ∀ b i d, V (Proc.devRef .tc main_v185) (ix3 b i d) = q b d i) :
    after ops9 V (Proc.devRef .tc main_v195) j = loss2 (∑ b, ∑ i, ∑ d, (q b d i - z b d i) * (q b d i - z b d i)) := by
  after_results
  pointwise
  simp only [hz, hq]
  rfl

/-- The perplexity. -/
theorem vq_perp (j) (h : Fin 32768 → Fin 1024 → EReal) (hh : ∀ n k, V (Proc.devRef .tc main_v183) (ix2 n k) = h n k) :
    after ops10 V (Proc.devRef .tc main_v208) j = Ideal.exp (-(∑ k, Ideal.div (∑ n, h n k) (Ideal.ofBits .f32 0x47000000#32)
      * Ideal.log (Ideal.div (∑ n, h n k) (Ideal.ofBits .f32 0x47000000#32) + Ideal.ofBits .f32 0x2EDBE6FF#32))) := by
  after_results
  pointwise
  simp only [hh]

/-- The rows are the samples' positions. -/
theorem sum_row (f : Fin 32768 → EReal) : ∑ n, f n = ∑ b, ∑ i, f (row b i) := Fin.sum_univ_tiles 32 1024 (by norm_num) f

/-- The numbers of the chosen codes, sample by sample. -/
theorem vq_out (b : Fin 32) (i : Fin 1024) : after ops15 V (Proc.devRef .tc main_v350) (ix2 b i) = V (Proc.devRef .tc main_v176) (ix1 (row b i)) := by
  after_results
  pointwise
  rfl

end Cert.Proof.Ref

end
-- ==== Proof.RefDec.lean ====
/- The reference's decoder, layer by layer. -/
module

public import proofs.«01_k».proof.Proof.RefEnc

@[expose] public section

set_option maxRecDepth 16384
set_option maxHeartbeats 4000000

noncomputable section

namespace Cert.Proof.Ref

open Cert.ReferenceIdeal Cert.ReferenceIdeal.Gen Cert.Spec
open Idealize.ShloMosaic Idealize.ShloMosaic.TcCoe Idealize.ShloMosaic.StableHlo Idealize.SL.Sem

variable (V : Valuation τ sig (Elt Ideal))

/-- The first convolution. -/
theorem d1_at (b : Fin 32) : chan (after ops11 V (Proc.devRef .tc main_v229)) b
    = bias (conv3 (wt3 (V (Proc.devRef .tc main_arg14))) (chan (V (Proc.devRef .tc main_v198)) b)) (bs (V (Proc.devRef .tc main_arg15))) := by
  funext o i
  after_results
  erw [pad_pd (A := 32) (B := 64) (L := 1024) (M := 1026)]
  pointwise
  simp only [pd_0, pd_1, pd_2]
  rfl
/-- The residual blocks. -/
theorem dres0_at (b : Fin 32) : chan (after ops12 V (Proc.devRef .tc main_v256)) b
    = resblock (wt3 (V (Proc.devRef .tc main_arg16))) (wt2 (V (Proc.devRef .tc main_arg17))) (chan (V (Proc.devRef .tc main_v229)) b) := by
  funext o i
  after_results
  erw [pad_pd (A := 32) (B := 256) (L := 1024) (M := 1026)]
  pointwise
  simp only [pd_0, pd_1, pd_2]
  exact add_dot _ _ _
theorem dres1_at (b : Fin 32) : chan (after ops13 V (Proc.devRef .tc main_v283)) b
    = resblock (wt3 (V (Proc.devRef .tc main_arg18))) (wt2 (V (Proc.devRef .tc main_arg19))) (chan (V (Proc.devRef .tc main_v256)) b) := by
  funext o i
  after_results
  erw [pad_pd (A := 32) (B := 256) (L := 1024) (M := 1026)]
  pointwise
  simp only [pd_0, pd_1, pd_2]
  exact add_dot _ _ _
/-- The first transposed convolution at the even and the odd positions. -/
theorem t1e_at (b : Fin 32) : (fun o => ev rfl (chan (after ops14 V (Proc.devRef .tc main_v316)) b o))
    = relu (bias (tconvE (wt3 (V (Proc.devRef .tc main_arg20))) (relu (chan (V (Proc.devRef .tc main_v283)) b))) (bs (V (Proc.devRef .tc main_arg21)))) := by
  funext o i
  unfold ev relu bias
  rw [tconvE_comm]
  after_results
  erw [pad_td (A := 32) (B := 256) (L := 1024) (M := 2051), rev_taps (A := 256) (B := 128) (C := 4)]
  pointwise
  simp only [td_e0, td_e1, td_e2, td_e3, Finset.sum_const_zero, add_zero, zero_add]
theorem t1o_at (b : Fin 32) : (fun o => od rfl (chan (after ops14 V (Proc.devRef .tc main_v316)) b o))
    = relu (bias (tconvO (wt3 (V (Proc.devRef .tc main_arg20))) (relu (chan (V (Proc.devRef .tc main_v283)) b))) (bs (V (Proc.devRef .tc main_arg21)))) := by
  funext o i
  unfold od relu bias
  rw [tconvO]
  after_results
  erw [pad_td (A := 32) (B := 256) (L := 1024) (M := 2051), rev_taps (A := 256) (B := 128) (C := 4)]
  pointwise
  simp only [td_o0, td_o1, td_o2, td_o3, Finset.sum_const_zero, add_zero, zero_add]
  rfl

/-- The second, with the mean and the deviation put back. -/
theorem t2e_at (b : Fin 32) (i : Fin 2048) : after ops15 V (Proc.devRef .tc main_v349) (ix3 b 0 ⟨2 * i.val, by omega⟩)
    = (tconvE (wt3 (V (Proc.devRef .tc main_arg22))) (chan (V (Proc.devRef .tc main_v316)) b) 0 i + bs (V (Proc.devRef .tc main_arg23)) 0)
      * chan (V (Proc.devRef .tc main_v13)) b 0 0 + chan (V (Proc.devRef .tc main_v3)) b 0 0 := by
  rw [tconvE_comm]
  after_results
  erw [pad_td (A := 32) (B := 128) (L := 2048) (M := 4099), rev_taps (A := 128) (B := 1) (C := 4)]
  pointwise
  simp only [td_e0, td_e1, td_e2, td_e3, Finset.sum_const_zero, add_zero, zero_add]
theorem t2o_at (b : Fin 32) (i : Fin 2048) : after ops15 V (Proc.devRef .tc main_v349) (ix3 b 0 ⟨2 * i.val + 1, by omega⟩)
    = (tconvO (wt3 (V (Proc.devRef .tc main_arg22))) (chan (V (Proc.devRef .tc main_v316)) b) 0 i + bs (V (Proc.devRef .tc main_arg23)) 0)
      * chan (V (Proc.devRef .tc main_v13)) b 0 0 + chan (V (Proc.devRef .tc main_v3)) b 0 0 := by
  rw [tconvO]
  after_results
  erw [pad_td (A := 32) (B := 128) (L := 2048) (M := 4099), rev_taps (A := 128) (B := 1) (C := 4)]
  pointwise
  simp only [td_o0, td_o1, td_o2, td_o3, Finset.sum_const_zero, add_zero, zero_add]
  rfl

end Cert.Proof.Ref

end
-- ==== Proof.Finite.lean ====
/- Real numbers among the extended ones: the encoder of a real signal by real weights is real. -/
module

public import proofs.«01_k».proof.Proof.Net

@[expose] public section

noncomputable section

namespace Cert.Spec

open Idealize.ShloMosaic

/-- A number that is neither infinity. -/
def fin (x : EReal) : Prop := ∃ r : ℝ, x = (r : EReal)

namespace fin

variable {x y : EReal}

theorem zero : fin 0 := ⟨0, rfl⟩
theorem add (hx : fin x) (hy : fin y) : fin (x + y) := by
  obtain ⟨a, rfl⟩ := hx
  obtain ⟨b, rfl⟩ := hy
  exact ⟨a + b, (EReal.coe_add a b).symm⟩
theorem sub (hx : fin x) (hy : fin y) : fin (x - y) := by
  obtain ⟨a, rfl⟩ := hx
  obtain ⟨b, rfl⟩ := hy
  exact ⟨a - b, (EReal.coe_sub a b).symm⟩
theorem mul (hx : fin x) (hy : fin y) : fin (x * y) := by
  obtain ⟨a, rfl⟩ := hx
  obtain ⟨b, rfl⟩ := hy
  exact ⟨a * b, (EReal.coe_mul a b).symm⟩
theorem max0 (hx : fin x) : fin (max x 0) := by
  rcases max_choice x 0 with h | h <;> rw [h]
  exacts [hx, zero]
theorem sum {ι : Type} [Fintype ι] {f : ι → EReal} (h : ∀ i, fin (f i)) : fin (∑ i, f i) :=
  Finset.sum_induction f fin (fun _ _ => add) zero fun i _ => h i
theorem div (hx : fin x) (hy : fin y) (h : y ≠ 0) : fin (Ideal.div x y) := by
  obtain ⟨b, rfl⟩ := hy
  rw [Ideal.div_coe (by exact_mod_cast h)]
  exact mul hx ⟨_, rfl⟩

/-- A real number comes back after it was taken away. -/
theorem add_sub (hx : fin x) (q : EReal) : x + (q - x) = q := by
  obtain ⟨a, rfl⟩ := hx
  induction q with
  | bot => rfl
  | top => rfl
  | coe q => rw [← EReal.coe_sub, ← EReal.coe_add, add_sub_cancel]

/-- Below infinity in size. -/
theorem of_abs (h : max x (-x) < ⊤) : fin x := by
  induction x with
  | bot => simp at h
  | top => simp at h
  | coe r => exact ⟨r, rfl⟩

theorem cLen : fin cLen ∧ 0 < Spec.cLen := by
  have h : Spec.cLen = ((4096 : ℝ) : EReal) := by
    simp [Spec.cLen, Ideal.ofBits, Ideal.ieee, -EReal.coe_mul]
    norm_num
  rw [h]
  exact ⟨⟨_, rfl⟩, by exact_mod_cast (by norm_num : (0 : ℝ) < 4096)⟩

theorem cEps : fin cEps ∧ 0 < Spec.cEps := by
  have h : ∃ r : ℝ, 0 < r ∧ Spec.cEps = (r : EReal) := by
    refine ⟨_, ?_, by simp only [Spec.cEps, Ideal.ofBits, Ideal.ieee]; rfl⟩
    norm_num
    rw [if_neg (by decide)]
    positivity
  obtain ⟨r, h0, h⟩ := h
  rw [h]
  exact ⟨⟨_, rfl⟩, by exact_mod_cast h0⟩

variable {s : Fin 4096 → EReal}

theorem mean (h : ∀ l, fin (s l)) : fin (mean s) := div (sum h) cLen.1 cLen.2.ne'

/-- The deviation is a positive real. -/
theorem dev (h : ∀ l, fin (s l)) : fin (dev s) ∧ 0 < Spec.dev s := by
  have hv : fin (Ideal.div (∑ l, (s l - Spec.mean s) * (s l - Spec.mean s)) Spec.cLen) := div (sum fun l => mul (sub (h l) (mean h)) (sub (h l) (mean h))) cLen.1 cLen.2.ne'
  have h0 : 0 ≤ Ideal.div (∑ l, (s l - Spec.mean s) * (s l - Spec.mean s)) Spec.cLen := by
    rw [Ideal.div, if_neg cLen.2.ne']
    refine mul_nonneg (Finset.sum_nonneg fun l _ => ?_) (EReal.inv_nonneg_of_nonneg cLen.2.le)
    obtain ⟨a, e⟩ := sub (h l) (mean h)
    rw [e, ← EReal.coe_mul]
    exact_mod_cast mul_self_nonneg a
  obtain ⟨v, hv⟩ := hv
  obtain ⟨⟨e, he⟩, e0⟩ := cEps
  unfold Spec.dev
  rw [hv] at h0 ⊢
  rw [he] at e0 ⊢
  have v0 : 0 ≤ v := by exact_mod_cast h0
  have p : 0 < v + e := add_pos_of_nonneg_of_pos v0 (by exact_mod_cast e0)
  rw [← EReal.coe_add, Ideal.sqrt_coe, if_neg p.le.not_gt]
  exact ⟨⟨_, rfl⟩, by exact_mod_cast Real.sqrt_pos.2 p⟩

theorem norm (h : ∀ l, fin (s l)) (l : Fin 4096) : fin (norm s l) := div (sub (h l) (mean h)) (dev h).1 (dev h).2.ne'

variable {L n m : Nat}

theorem prv {a : Fin L → EReal} (h : ∀ i, fin (a i)) (i : Fin L) : fin (prv a i) := by
  unfold Spec.prv
  split
  exacts [h _, zero]
theorem nxt {a : Fin L → EReal} (h : ∀ i, fin (a i)) (i : Fin L) : fin (nxt a i) := by
  unfold Spec.nxt
  split
  exacts [h _, zero]
theorem relu {x : Fin n → Fin L → EReal} (h : ∀ c i, fin (x c i)) (c : Fin n) (i : Fin L) : fin (relu x c i) := max0 (h c i)
theorem bias {x : Fin m → Fin L → EReal} {b : Fin m → EReal} (h : ∀ c i, fin (x c i)) (hb : ∀ o, fin (b o)) (o : Fin m) (i : Fin L) :
    fin (bias x b o i) := add (h o i) (hb o)
theorem conv1 {w : Fin m → Fin n → EReal} {x : Fin n → Fin L → EReal} (hw : ∀ o c, fin (w o c)) (h : ∀ c i, fin (x c i)) (o : Fin m)
    (i : Fin L) : fin (conv1 w x o i) := sum fun c => mul (hw o c) (h c i)
theorem conv3 {w : Fin m → Fin n → Fin 3 → EReal} {x : Fin n → Fin L → EReal} (hw : ∀ o c t, fin (w o c t)) (h : ∀ c i, fin (x c i))
    (o : Fin m) (i : Fin L) : fin (conv3 w x o i) :=
  add (add (sum fun c => mul (hw o c 0) (prv (h c) i)) (sum fun c => mul (hw o c 1) (h c i))) (sum fun c => mul (hw o c 2) (nxt (h c) i))
theorem conv4 {w : Fin m → Fin n → Fin 4 → EReal} {e o : Fin n → Fin L → EReal} (hw : ∀ o c t, fin (w o c t)) (he : ∀ c i, fin (e c i))
    (ho : ∀ c i, fin (o c i)) (u : Fin m) (i : Fin L) : fin (conv4 w e o u i) :=
  add (add (add (sum fun c => mul (hw u c 0) (prv (ho c) i)) (sum fun c => mul (hw u c 1) (he c i))) (sum fun c => mul (hw u c 2) (ho c i)))
    (sum fun c => mul (hw u c 3) (nxt (he c) i))
theorem resblock {w1 : Fin m → Fin n → Fin 3 → EReal} {w2 : Fin n → Fin m → EReal} {x : Fin n → Fin L → EReal} (h1 : ∀ o c t, fin (w1 o c t))
    (h2 : ∀ o c, fin (w2 o c)) (h : ∀ c i, fin (x c i)) (c : Fin n) (i : Fin L) : fin (resblock w1 w2 x c i) :=
  add (h c i) (conv1 h2 (relu (conv3 h1 (relu h))) c i)

end fin

/-- The encoder's weights are real. -/
structure Net.EncFin (N : Net) : Prop where
  c1w : ∀ o t, fin (N.c1w o t)
  c1b : ∀ o, fin (N.c1b o)
  c2w : ∀ o c t, fin (N.c2w o c t)
  c2b : ∀ o, fin (N.c2b o)
  c3w : ∀ o c t, fin (N.c3w o c t)
  c3b : ∀ o, fin (N.c3b o)
  ea1 : ∀ o c t, fin (N.ea1 o c t)
  ea2 : ∀ o c, fin (N.ea2 o c)
  eb1 : ∀ o c t, fin (N.eb1 o c t)
  eb2 : ∀ o c, fin (N.eb2 o c)
  pw : ∀ o c, fin (N.pw o c)
  pb : ∀ o, fin (N.pb o)

namespace fin

variable {N : Net} {s : Fin 4096 → EReal}

theorem h1e (hN : N.EncFin) {p : Fin 4 → Fin 1024 → EReal} (h : ∀ r i, fin (p r i)) (o : Fin 128) (i : Fin 1024) : fin (N.h1e p o i) :=
  max0 (add (add (add (add (mul (hN.c1w o 0) (prv (h 3) i)) (mul (hN.c1w o 1) (h 0 i))) (mul (hN.c1w o 2) (h 1 i))) (mul (hN.c1w o 3) (h 2 i))) (hN.c1b o))
theorem h1o (hN : N.EncFin) {p : Fin 4 → Fin 1024 → EReal} (h : ∀ r i, fin (p r i)) (o : Fin 128) (i : Fin 1024) : fin (N.h1o p o i) :=
  max0 (add (add (add (add (mul (hN.c1w o 0) (h 1 i)) (mul (hN.c1w o 1) (h 2 i))) (mul (hN.c1w o 2) (h 3 i))) (mul (hN.c1w o 3) (nxt (h 0) i))) (hN.c1b o))

/-- The encoder's output is real. -/
theorem z (hN : N.EncFin) (h : ∀ l, fin (s l)) (d : Fin 64) (i : Fin 1024) : fin (N.z s d i) := by
  have hp : ∀ r i, fin (phase (Spec.norm s) r i) := fun r i => norm h _
  have h2 : ∀ c i, fin (N.h2 s c i) := relu (bias (conv4 hN.c2w (h1e hN hp) (h1o hN hp)) hN.c2b)
  have h3 : ∀ c i, fin (N.h3 s c i) := bias (conv3 hN.c3w h2) hN.c3b
  exact bias (conv1 hN.pw (relu (resblock hN.eb1 hN.eb2 (resblock hN.ea1 hN.ea2 h3)))) hN.pb d i

end fin

end Cert.Spec

end
-- ==== Proof.RefValue.lean ====
/- What the reference's four results are: the network of the arguments, of each sample. -/
module

public import proofs.«01_k».proof.Proof.RefVq
public import proofs.«01_k».proof.Proof.RefStat
public import proofs.«01_k».proof.Proof.RefDec
public import proofs.«01_k».proof.Proof.RefFrame
public import proofs.«01_k».proof.Proof.Finite

@[expose] public section

set_option maxRecDepth 16384
set_option maxHeartbeats 4000000

noncomputable section

namespace Cert.Proof.Ref

open Cert.ReferenceIdeal Cert.ReferenceIdeal.Gen Cert.Spec
open Idealize.ShloMosaic Idealize.ShloMosaic.TcCoe Idealize.ShloMosaic.StableHlo Idealize.SL.Sem

variable (V : Valuation τ sig (Elt Ideal))

/-- The buffers after each of the lists. -/
def S0 : Valuation τ sig (Elt Ideal) := after ops0 V
def S1 : Valuation τ sig (Elt Ideal) := after ops1 (S0 V)
def S2 : Valuation τ sig (Elt Ideal) := after ops2 (S1 V)
def S3 : Valuation τ sig (Elt Ideal) := after ops3 (S2 V)
def S4 : Valuation τ sig (Elt Ideal) := after ops4 (S3 V)
def S5 : Valuation τ sig (Elt Ideal) := after ops5 (S4 V)
def S6 : Valuation τ sig (Elt Ideal) := after ops6 (S5 V)
def S7 : Valuation τ sig (Elt Ideal) := after ops7 (S6 V)
def S8 : Valuation τ sig (Elt Ideal) := after ops8 (S7 V)
def S9 : Valuation τ sig (Elt Ideal) := after ops9 (S8 V)
def S10 : Valuation τ sig (Elt Ideal) := after ops10 (S9 V)
def S11 : Valuation τ sig (Elt Ideal) := after ops11 (S10 V)
def S12 : Valuation τ sig (Elt Ideal) := after ops12 (S11 V)
def S13 : Valuation τ sig (Elt Ideal) := after ops13 (S12 V)
def S14 : Valuation τ sig (Elt Ideal) := after ops14 (S13 V)
def S15 : Valuation τ sig (Elt Ideal) := after ops15 (S14 V)

theorem after_all : after ops V = S15 V := after_ops V

section keep
variable {r : Ref sig .tc}

/-- A buffer that a run of the lists does not write. -/
theorem s0 (h : r ∉ W0) : S0 V (Proc.devRef .tc r) = V (Proc.devRef .tc r) := keep0 V h
theorem s3 (h : r ∉ W0 ++ W1 ++ W2 ++ W3) : S1 V (Proc.devRef .tc r) = V (Proc.devRef .tc r) ∧ S2 V (Proc.devRef .tc r) = V (Proc.devRef .tc r)
    ∧ S3 V (Proc.devRef .tc r) = V (Proc.devRef .tc r) := by
  simp only [List.mem_append, not_or] at h
  obtain ⟨⟨⟨h0, h1⟩, h2⟩, h3⟩ := h
  have e0 := keep0 V h0
  have e1 := (keep1 (S0 V) h1).trans e0
  have e2 := (keep2 (S1 V) h2).trans e1
  exact ⟨e1, e2, (keep3 (S2 V) h3).trans e2⟩
theorem s6 (h : r ∉ (W0 ++ W1 ++ W2 ++ W3) ++ (W4 ++ W5 ++ W6)) : S4 V (Proc.devRef .tc r) = V (Proc.devRef .tc r)
    ∧ S5 V (Proc.devRef .tc r) = V (Proc.devRef .tc r) ∧ S6 V (Proc.devRef .tc r) = V (Proc.devRef .tc r) := by
  rw [List.mem_append, not_or] at h
  obtain ⟨h, h'⟩ := h
  simp only [List.mem_append, not_or] at h'
  obtain ⟨⟨h4, h5⟩, h6⟩ := h'
  have e4 := (keep4 (S3 V) h4).trans (s3 V h).2.2
  have e5 := (keep5 (S4 V) h5).trans e4
  exact ⟨e4, e5, (keep6 (S5 V) h6).trans e5⟩
theorem s10_of (h : r ∉ W8 ++ W9 ++ W10) : S8 V (Proc.devRef .tc r) = S7 V (Proc.devRef .tc r) ∧ S10 V (Proc.devRef .tc r) = S7 V (Proc.devRef .tc r) := by
  simp only [List.mem_append, not_or] at h
  obtain ⟨⟨h8, h9⟩, h10⟩ := h
  have e8 := keep8 (S7 V) h8
  exact ⟨e8, (keep10 (S9 V) h10).trans ((keep9 (S8 V) h9).trans e8)⟩
theorem s14_of (h : r ∉ W11 ++ W12 ++ W13 ++ W14) : S11 V (Proc.devRef .tc r) = S10 V (Proc.devRef .tc r)
    ∧ S12 V (Proc.devRef .tc r) = S10 V (Proc.devRef .tc r) ∧ S13 V (Proc.devRef .tc r) = S10 V (Proc.devRef .tc r)
    ∧ S14 V (Proc.devRef .tc r) = S10 V (Proc.devRef .tc r) := by
  simp only [List.mem_append, not_or] at h
  obtain ⟨⟨⟨h11, h12⟩, h13⟩, h14⟩ := h
  have e11 := keep11 (S10 V) h11
  have e12 := (keep12 (S11 V) h12).trans e11
  have e13 := (keep13 (S12 V) h13).trans e12
  exact ⟨e11, e12, e13, (keep14 (S13 V) h14).trans e13⟩

/-- A buffer that no list up to the decoder's writes. -/
theorem s10 (h : r ∉ (W0 ++ W1 ++ W2 ++ W3) ++ (W4 ++ W5 ++ W6)) (h7 : r ∉ W7) (h10 : r ∉ W8 ++ W9 ++ W10) :
    S10 V (Proc.devRef .tc r) = V (Proc.devRef .tc r) :=
  (s10_of V h10).2.trans ((keep7 (S6 V) h7).trans (s6 V h).2.2)
end keep

/-- The arguments' network and sample. -/
def net : Net := argNet (V (Proc.devRef .tc main_arg1)) (V (Proc.devRef .tc main_arg2)) (V (Proc.devRef .tc main_arg3)) (V (Proc.devRef .tc main_arg4))
  (V (Proc.devRef .tc main_arg5)) (V (Proc.devRef .tc main_arg6)) (V (Proc.devRef .tc main_arg7)) (V (Proc.devRef .tc main_arg8))
  (V (Proc.devRef .tc main_arg9)) (V (Proc.devRef .tc main_arg10)) (V (Proc.devRef .tc main_arg11)) (V (Proc.devRef .tc main_arg12))
  (V (Proc.devRef .tc main_arg13)) (V (Proc.devRef .tc main_arg14)) (V (Proc.devRef .tc main_arg15)) (V (Proc.devRef .tc main_arg16))
  (V (Proc.devRef .tc main_arg17)) (V (Proc.devRef .tc main_arg18)) (V (Proc.devRef .tc main_arg19)) (V (Proc.devRef .tc main_arg20))
  (V (Proc.devRef .tc main_arg21)) (V (Proc.devRef .tc main_arg22)) (V (Proc.devRef .tc main_arg23))
def sgn (b : Fin 32) : Fin 4096 → EReal := sample (V (Proc.devRef .tc main_arg0)) b

/-! The encoder. -/

theorem r_norm (b : Fin 32) : chan (S0 V (Proc.devRef .tc main_v17)) b 0 = norm (sgn V b) := funext (st_norm V b)
theorem r_c1w : (net V).c1w = fun o t => S0 V (Proc.devRef .tc main_arg1) (ix3 o 0 t) := by
  rw [s0 V (r := main_arg1) (by decide)]
  rfl
theorem r_c1b : (net V).c1b = bs (S0 V (Proc.devRef .tc main_arg2)) := by
  rw [s0 V (r := main_arg2) (by decide)]
  rfl
theorem r_h1e (b : Fin 32) : (fun o => ev rfl (chan (S1 V (Proc.devRef .tc main_v46)) b o)) = (net V).h1e (phase (norm (sgn V b))) := by
  funext o
  exact (c1e_at (S0 V) (net V) (r_c1w V) (r_c1b V) b o).trans (by rw [r_norm])
theorem r_h1o (b : Fin 32) : (fun o => od rfl (chan (S1 V (Proc.devRef .tc main_v46)) b o)) = (net V).h1o (phase (norm (sgn V b))) := by
  funext o
  exact (c1o_at (S0 V) (net V) (r_c1w V) (r_c1b V) b o).trans (by rw [r_norm])
theorem r_h2 (b : Fin 32) : chan (S2 V (Proc.devRef .tc main_v75)) b = (net V).h2 (sgn V b) := by
  refine (c2_at (S1 V) b).trans ?_
  rw [r_h1e, r_h1o, (s3 V (r := main_arg3) (by decide)).1, (s3 V (r := main_arg4) (by decide)).1]
  rfl
theorem r_h3 (b : Fin 32) : chan (S3 V (Proc.devRef .tc main_v96)) b = (net V).h3 (sgn V b) := by
  refine (c3_at (S2 V) b).trans ?_
  rw [r_h2, (s3 V (r := main_arg5) (by decide)).2.1, (s3 V (r := main_arg6) (by decide)).2.1]
  rfl
theorem r_res0 (b : Fin 32) : chan (S4 V (Proc.devRef .tc main_v123)) b = resblock (net V).ea1 (net V).ea2 ((net V).h3 (sgn V b)) := by
  refine (res0_at (S3 V) b).trans ?_
  rw [r_h3, (s3 V (r := main_arg7) (by decide)).2.2, (s3 V (r := main_arg8) (by decide)).2.2]
  rfl
theorem r_res1 (b : Fin 32) : chan (S5 V (Proc.devRef .tc main_v150)) b
    = resblock (net V).eb1 (net V).eb2 (resblock (net V).ea1 (net V).ea2 ((net V).h3 (sgn V b))) := by
  refine (res1_at (S4 V) b).trans ?_
  rw [r_res0, (s6 V (r := main_arg9) (by decide)).1, (s6 V (r := main_arg10) (by decide)).1]
  rfl
theorem r_z (b : Fin 32) : chan (S6 V (Proc.devRef .tc main_v159)) b = (net V).z (sgn V b) := by
  refine (pre_at (S5 V) b).trans ?_
  rw [r_res1, (s6 V (r := main_arg11) (by decide)).2.1, (s6 V (r := main_arg12) (by decide)).2.1]
  rfl

/-! The codes. -/

theorem r_emb : S6 V (Proc.devRef .tc main_arg13) = V (Proc.devRef .tc main_arg13) := (s6 V (r := main_arg13) (by decide)).2.2
theorem r_inp (b : Fin 32) (d : Fin 64) (i : Fin 1024) : S8 V (Proc.devRef .tc main_v160) (ix3 b i d) = (net V).z (sgn V b) d i := by
  rw [show S8 V (Proc.devRef .tc main_v160) = S7 V (Proc.devRef .tc main_v160) from keep8 (S7 V) (by decide)]
  exact (vq_inp (S6 V) b d i).trans (congrFun (congrFun (r_z V b) d) i)
theorem r_pick (b : Fin 32) (i : Fin 1024) : S7 V (Proc.devRef .tc main_v176) (ix1 (row b i)) = BitVec.ofNat 32 ((net V).pick (sgn V b) i).val := by
  refine (vq_idx (S6 V) (row b i)).trans ?_
  have e : (fun k => after ops7 (S6 V) (Proc.devRef .tc main_v175) (ix2 (row b i) k)) = Spec.dist (net V).emb fun d => (net V).z (sgn V b) d i := by
    funext k
    refine (vq_d2 (S6 V) b i k).trans ?_
    rw [r_z, r_emb]
    rfl
  exact congrArg (fun f : Fin 1024 → EReal => BitVec.ofNat 32 (near f).val) e
theorem r_q (b : Fin 32) (d : Fin 64) (i : Fin 1024) : S8 V (Proc.devRef .tc main_v185) (ix3 b i d) = (net V).q (sgn V b) d i := by
  refine (vq_q (S7 V) b i _ d (r_pick V b i)).trans ?_
  rw [show S7 V (Proc.devRef .tc main_arg13) = V (Proc.devRef .tc main_arg13) from (keep7 (S6 V) (by decide)).trans (r_emb V)]
  rfl

/-! The decoder. -/

theorem r_keep {r : Ref sig .tc} (h : r ∉ (W0 ++ W1 ++ W2 ++ W3) ++ (W4 ++ W5 ++ W6)) (h7 : r ∉ W7) (h10 : r ∉ W8 ++ W9 ++ W10)
    (h14 : r ∉ W11 ++ W12 ++ W13 ++ W14) : S10 V (Proc.devRef .tc r) = V (Proc.devRef .tc r) ∧ S11 V (Proc.devRef .tc r) = V (Proc.devRef .tc r)
      ∧ S12 V (Proc.devRef .tc r) = V (Proc.devRef .tc r) ∧ S13 V (Proc.devRef .tc r) = V (Proc.devRef .tc r)
      ∧ S14 V (Proc.devRef .tc r) = V (Proc.devRef .tc r) := by
  obtain ⟨a, b, c, d⟩ := s14_of V h14
  have e := s10 V h h7 h10
  exact ⟨e, a.trans e, b.trans e, c.trans e, d.trans e⟩

section decoder
variable (hz : ∀ b d i, fin ((net V).z (sgn V b) d i))
include hz

theorem r_st (b : Fin 32) : chan (S10 V (Proc.devRef .tc main_v198)) b = (net V).q (sgn V b) := by
  funext d i
  rw [show S10 V (Proc.devRef .tc main_v198) = S9 V (Proc.devRef .tc main_v198) from keep10 (S9 V) (by decide)]
  refine (vq_st (S8 V) b d i).trans ?_
  refine (congrArg₂ through (r_inp V b d i) (r_q V b d i)).trans ?_
  exact (hz b d i).add_sub _
theorem r_g1 (b : Fin 32) : chan (S11 V (Proc.devRef .tc main_v229)) b = (net V).g1 (sgn V b) := by
  refine (d1_at (S10 V) b).trans ?_
  rw [r_st V hz, (r_keep V (r := main_arg14) (by decide) (by decide) (by decide) (by decide)).1,
    (r_keep V (r := main_arg15) (by decide) (by decide) (by decide) (by decide)).1]
  rfl
theorem r_d0 (b : Fin 32) : chan (S12 V (Proc.devRef .tc main_v256)) b = resblock (net V).da1 (net V).da2 ((net V).g1 (sgn V b)) := by
  refine (dres0_at (S11 V) b).trans ?_
  rw [r_g1 V hz, (r_keep V (r := main_arg16) (by decide) (by decide) (by decide) (by decide)).2.1,
    (r_keep V (r := main_arg17) (by decide) (by decide) (by decide) (by decide)).2.1]
  rfl
theorem r_d1 (b : Fin 32) : relu (chan (S13 V (Proc.devRef .tc main_v283)) b) = (net V).g2 (sgn V b) := by
  refine (congrArg relu (dres1_at (S12 V) b)).trans ?_
  rw [r_d0 V hz, (r_keep V (r := main_arg18) (by decide) (by decide) (by decide) (by decide)).2.2.1,
    (r_keep V (r := main_arg19) (by decide) (by decide) (by decide) (by decide)).2.2.1]
  rfl
theorem r_ue (b : Fin 32) : (fun o => ev rfl (chan (S14 V (Proc.devRef .tc main_v316)) b o)) = (net V).ue (sgn V b) := by
  refine (t1e_at (S13 V) b).trans ?_
  rw [r_d1 V hz, (r_keep V (r := main_arg20) (by decide) (by decide) (by decide) (by decide)).2.2.2.1,
    (r_keep V (r := main_arg21) (by decide) (by decide) (by decide) (by decide)).2.2.2.1]
  rfl
theorem r_uo (b : Fin 32) : (fun o => od rfl (chan (S14 V (Proc.devRef .tc main_v316)) b o)) = (net V).uo (sgn V b) := by
  refine (t1o_at (S13 V) b).trans ?_
  rw [r_d1 V hz, (r_keep V (r := main_arg20) (by decide) (by decide) (by decide) (by decide)).2.2.2.1,
    (r_keep V (r := main_arg21) (by decide) (by decide) (by decide) (by decide)).2.2.2.1]
  rfl

/-- The taps' products with the two halves. -/
theorem r_y (b : Fin 32) : weave (tapE (wt3 (S14 V (Proc.devRef .tc main_arg22))) (chan (S14 V (Proc.devRef .tc main_v316)) b))
    (tapO (wt3 (S14 V (Proc.devRef .tc main_arg22))) (chan (S14 V (Proc.devRef .tc main_v316)) b)) = (net V).y (sgn V b) := by
  unfold tapE tapO
  rw [r_ue V hz, r_uo V hz, (r_keep V (r := main_arg22) (by decide) (by decide) (by decide) (by decide)).2.2.2.2]
  rfl

omit hz in
/-- The last bias, and the signal's scale and place. -/
theorem r_scale (b : Fin 32) (y : EReal) : (y + bs (S14 V (Proc.devRef .tc main_arg23)) 0) * chan (S14 V (Proc.devRef .tc main_v13)) b 0 0
    + chan (S14 V (Proc.devRef .tc main_v3)) b 0 0 = (y + (net V).t2b) * dev (sgn V b) + mean (sgn V b) := by
  have k {r : Ref sig .tc} (h1 : r ∉ W1 ++ W2 ++ W3) (h4 : r ∉ W4 ++ W5 ++ W6) (h7 : r ∉ W7) (h10 : r ∉ W8 ++ W9 ++ W10)
      (h14 : r ∉ W11 ++ W12 ++ W13 ++ W14) : S14 V (Proc.devRef .tc r) = S0 V (Proc.devRef .tc r) := by
    refine (s14_of V h14).2.2.2.trans ((s10_of V h10).2.trans ((keep7 (S6 V) h7).trans ?_))
    simp only [List.mem_append, not_or] at h1 h4
    exact (keep6 (S5 V) h4.2).trans ((keep5 (S4 V) h4.1.2).trans ((keep4 (S3 V) h4.1.1).trans ((keep3 (S2 V) h1.2).trans
      ((keep2 (S1 V) h1.1.2).trans (keep1 (S0 V) h1.1.1)))))
  have e1 : chan (S14 V (Proc.devRef .tc main_v13)) b 0 0 = dev (sgn V b) := by
    rw [k (r := main_v13) (by decide) (by decide) (by decide) (by decide) (by decide)]
    exact st_dev V b
  have e2 : chan (S14 V (Proc.devRef .tc main_v3)) b 0 0 = mean (sgn V b) := by
    rw [k (r := main_v3) (by decide) (by decide) (by decide) (by decide) (by decide)]
    exact st_mean V b
  rw [e1, e2, (r_keep V (r := main_arg23) (by decide) (by decide) (by decide) (by decide)).2.2.2.2]
  rfl

/-- The output at each phase. -/
theorem r_out (b : Fin 32) (r : Fin 4) (i : Fin 1024) :
    S15 V (Proc.devRef .tc main_v349) (ix3 b 0 ⟨4 * i.val + r.val, by omega⟩) = (net V).recon (sgn V b) r i := by
  have fe (l : Fin 4096) (j : Fin 2048) (h : l.val = 2 * j.val) (y : EReal)
      (hy : tconvE (wt3 (S14 V (Proc.devRef .tc main_arg22))) (chan (S14 V (Proc.devRef .tc main_v316)) b) 0 j = y) :
      S15 V (Proc.devRef .tc main_v349) (ix3 b 0 l) = (y + (net V).t2b) * dev (sgn V b) + mean (sgn V b) := by
    have hj : 2 * j.val < 4096 := by clear h; omega
    obtain rfl : l = ⟨2 * j.val, hj⟩ := Fin.ext h
    refine (t2e_at (S14 V) b j).trans ?_
    rw [hy]
    exact r_scale V b y
  have fo (l : Fin 4096) (j : Fin 2048) (h : l.val = 2 * j.val + 1) (y : EReal)
      (hy : tconvO (wt3 (S14 V (Proc.devRef .tc main_arg22))) (chan (S14 V (Proc.devRef .tc main_v316)) b) 0 j = y) :
      S15 V (Proc.devRef .tc main_v349) (ix3 b 0 l) = (y + (net V).t2b) * dev (sgn V b) + mean (sgn V b) := by
    have hj : 2 * j.val + 1 < 4096 := by clear h; omega
    obtain rfl : l = ⟨2 * j.val + 1, hj⟩ := Fin.ext h
    refine (t2o_at (S14 V) b j).trans ?_
    rw [hy]
    exact r_scale V b y
  unfold Net.recon
  rw [← r_y V hz b]
  match r with
  | 0 => exact fe _ ⟨2 * i.val, by omega⟩ (by show 4 * i.val + 0 = 2 * (2 * i.val); omega) _ (weave0 _ _ i)
  | 1 => exact fo _ ⟨2 * i.val, by omega⟩ (by show 4 * i.val + 1 = 2 * (2 * i.val) + 1; omega) _ (weave1 _ _ i)
  | 2 => exact fe _ ⟨2 * i.val + 1, by omega⟩ (by show 4 * i.val + 2 = 2 * (2 * i.val + 1); omega) _ (weave2 _ _ i)
  | 3 => exact fo _ ⟨2 * i.val + 1, by omega⟩ (by show 4 * i.val + 3 = 2 * (2 * i.val + 1) + 1; omega) _ (weave3 _ _ i)

/-- The reconstruction. -/
theorem r_recon (b : Fin 32) (l : Fin 4096) : S15 V (Proc.devRef .tc main_v349) (ix3 b 0 l) = join ((net V).recon (sgn V b)) l := by
  refine Eq.trans ?_ (r_out V hz b ⟨l.val % 4, by omega⟩ ⟨l.val / 4, by omega⟩)
  congr 2
  exact Fin.ext (by show l.val = 4 * (l.val / 4) + l.val % 4; omega)
end decoder

/-! The other results. -/

/-- The numbers of the codes. -/
theorem r_idx (b : Fin 32) (i : Fin 1024) : S15 V (Proc.devRef .tc main_v350) (ix2 b i) = BitVec.ofNat 32 ((net V).pick (sgn V b) i).val := by
  refine (vq_out (S14 V) b i).trans ?_
  rw [(s14_of V (r := main_v176) (by decide)).2.2.2, (s10_of V (r := main_v176) (by decide)).2]
  exact r_pick V b i

/-- The loss. -/
theorem r_loss (j) : S15 V (Proc.devRef .tc main_v195) j = loss2 (total (net V) (sgn V)) := by
  rw [show S15 V (Proc.devRef .tc main_v195) = S9 V (Proc.devRef .tc main_v195) from
    (keep15 (S14 V) (by decide)).trans ((s14_of V (r := main_v195) (by decide)).2.2.2.trans (keep10 (S9 V) (by decide)))]
  exact vq_loss (S8 V) j (fun b d i => (net V).z (sgn V b) d i) (fun b d i => (net V).q (sgn V b) d i) (fun b i d => r_inp V b d i) (fun b i d => r_q V b d i)

/-- The perplexity. -/
theorem r_perp (j) : S15 V (Proc.devRef .tc main_v208) j = perp (net V) (sgn V) := by
  rw [show S15 V (Proc.devRef .tc main_v208) = S10 V (Proc.devRef .tc main_v208) from
    (keep15 (S14 V) (by decide)).trans (s14_of V (r := main_v208) (by decide)).2.2.2]
  obtain ⟨h, hh⟩ : ∃ h : Fin 32768 → Fin 1024 → EReal, ∀ n k, S9 V (Proc.devRef .tc main_v183) (ix2 n k) = h n k :=
    ⟨fun n k => S9 V (Proc.devRef .tc main_v183) (ix2 n k), fun _ _ => rfl⟩
  refine (vq_perp (S9 V) j h hh).trans ?_
  have e (k : Fin 1024) : ∑ n, h n k = ∑ b, ∑ i : Fin 1024, hot ((net V).pick (sgn V b) i) k := by
    rw [sum_row]
    refine Finset.sum_congr rfl fun b _ => Finset.sum_congr rfl fun i _ => (hh _ _).symm.trans ?_
    rw [show S9 V (Proc.devRef .tc main_v183) = S8 V (Proc.devRef .tc main_v183) from keep9 (S8 V) (by decide)]
    exact vq_hot (S7 V) (row b i) _ k (r_pick V b i)
  simp only [e]
  rfl

end Cert.Proof.Ref

end
-- ==== Proof.Loss.lean ====
/- The two spellings of the loss: one and a quarter of the total over the count, or the quotient and a quarter of it. -/
module

public import proofs.«01_k».proof.Proof.RefVq
public import proofs.«01_k».proof.Proof.Args

@[expose] public section

noncomputable section

namespace Cert.Proof

open Cert.Spec Idealize.ShloMosaic

theorem c_five : Ideal.ofBits .f32 0x3FA00000#32 = ((1.25 : ℝ) : EReal) := by
  simp [Ideal.ofBits, Ideal.ieee, -EReal.coe_mul]
  norm_num
theorem c_one : Ideal.ofBits .f32 0x3E800000#32 = ((0.25 : ℝ) : EReal) := by
  simp [Ideal.ofBits, Ideal.ieee, -EReal.coe_mul]
  norm_num
theorem c_count : Ideal.ofBits .f32 0x4A000000#32 = ((2097152 : ℝ) : EReal) := by
  simp [Ideal.ofBits, Ideal.ieee, -EReal.coe_mul]
  norm_num

/-- A square is not negative. -/
theorem sq_nonneg' (a : EReal) : 0 ≤ a * a := by
  induction a with
  | bot => simp
  | top => simp
  | coe r =>
    rw [← EReal.coe_mul]
    exact_mod_cast mul_self_nonneg r

theorem total_nonneg (N : Net) (s : Fin 32 → Fin 4096 → EReal) : 0 ≤ total N s :=
  Finset.sum_nonneg fun _ _ => Finset.sum_nonneg fun _ _ => Finset.sum_nonneg fun _ _ => sq_nonneg' _

theorem loss_eq {t : EReal} (h : 0 ≤ t) : Ideal.div (Ideal.ofBits .f32 0x3FA00000#32 * t) (Ideal.ofBits .f32 0x4A000000#32) = Ref.loss2 t := by
  unfold Ref.loss2
  rw [c_five, c_one, c_count]
  simp only [Ideal.div_coe (show (2097152 : ℝ) ≠ 0 by norm_num)]
  induction t with
  | bot => simp at h
  | top =>
    rw [EReal.coe_mul_top_of_pos (by norm_num), EReal.top_mul_coe_of_pos (by norm_num), EReal.coe_mul_top_of_pos (by norm_num)]
    rfl
  | coe r =>
    simp only [← EReal.coe_mul, ← EReal.coe_add]
    congr 1
    ring

theorem loss1_eq (N : Net) (s : Fin 32 → Fin 4096 → EReal) : loss1 N s = Ref.loss2 (total N s) := loss_eq (total_nonneg N s)

end Cert.Proof

end
-- ==== Proof.PreRead.lean ====
/- What the precondition says: the signals and the encoder's weights are real numbers. -/
module

public import proofs.«01_k».proof.Proof.PreFacts
public import proofs.«01_k».proof.Proof.Finite
public import Idealize.ShloMosaic.Lib.ReduceAll

@[expose] public section

set_option maxRecDepth 16384

noncomputable section

namespace Cert.Proof

open Cert.Spec Idealize.ShloMosaic Cert.Pre_encoder_finite

instance : Subsingleton S_.Idx := ⟨fun _ _ => funext fun k => k.elim0⟩

/-- An array all of whose sizes are below infinity is real. -/
theorem all_fin {s : Shape} {axes : List (Fin s.rank)} (a : FVec Ideal s .f32) (hb : S_.BroadcastsInDim s (![] : Fin 0 → Fin s.rank))
    (hr : s.ReducesTo axes S_) (hu : 0 < S_.numel) (j : S_.Idx)
    (e : Host.reduce IntOp.andi (cmpf .olt (Host.absf a) (broadcastInDim s ![] hb (constant S_ .f32 0x7F800000#32))) (constantI S_ 1 1#1) hr hu j = 1#1)
    (i : s.Idx) : fin (a i) := by
  have h : Ideal.cmp .olt (max (a i) (-a i)) (Ideal.ofBits .f32 0x7F800000#32) = 1#1 := Host.reduce_andi_all _ _ hr hu j e i
  have ht : Ideal.ofBits .f32 0x7F800000#32 = ⊤ := by simp [Ideal.ofBits, Ideal.ieee]
  rw [ht] at h
  refine fin.of_abs ?_
  by_contra hn
  simp [Ideal.cmp, hn] at h

theorem pre_fin {a0 : FVec Ideal S32x1x4096 .f32} {a1 : FVec Ideal S128x1x4 .f32} {a2 : FVec Ideal S128 .f32} {a3 : FVec Ideal S256x128x4 .f32}
    {a4 : FVec Ideal S256 .f32} {a5 : FVec Ideal S256x256x3 .f32} {a6 : FVec Ideal S256 .f32} {a7 : FVec Ideal S64x256x3 .f32}
    {a8 : FVec Ideal S256x64x1 .f32} {a9 : FVec Ideal S64x256x3 .f32} {a10 : FVec Ideal S256x64x1 .f32} {a11 : FVec Ideal S64x256x1 .f32}
    {a12 : FVec Ideal S64 .f32} {a13 a14 a15 a16 a17 a18 a19 a20 a21 a22 a23}
    (h : fn (F := Ideal) a0 a1 a2 a3 a4 a5 a6 a7 a8 a9 a10 a11 a12 a13 a14 a15 a16 a17 a18 a19 a20 a21 a22 a23 = fun _ => 1#1) :
    (∀ i, fin (a0 i)) ∧ (∀ i, fin (a1 i)) ∧ (∀ i, fin (a2 i)) ∧ (∀ i, fin (a3 i)) ∧ (∀ i, fin (a4 i)) ∧ (∀ i, fin (a5 i)) ∧ (∀ i, fin (a6 i))
      ∧ (∀ i, fin (a7 i)) ∧ (∀ i, fin (a8 i)) ∧ (∀ i, fin (a9 i)) ∧ (∀ i, fin (a10 i)) ∧ (∀ i, fin (a11 i)) ∧ (∀ i, fin (a12 i)) := by
  have e := congrFun h (fun k => k.elim0)
  obtain ⟨e, e12⟩ := IntOp.andi_eq_one.1 e
  obtain ⟨e, e11⟩ := IntOp.andi_eq_one.1 e
  obtain ⟨e, e10⟩ := IntOp.andi_eq_one.1 e
  obtain ⟨e, e9⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨all_fin a0 _ _ _ _ e0, all_fin a1 _ _ _ _ e1, all_fin a2 _ _ _ _ e2, all_fin a3 _ _ _ _ e3, all_fin a4 _ _ _ _ e4,
    all_fin a5 _ _ _ _ e5, all_fin a6 _ _ _ _ e6, all_fin a7 _ _ _ _ e7, all_fin a8 _ _ _ _ e8, all_fin a9 _ _ _ _ e9,
    all_fin a10 _ _ _ _ e10, all_fin a11 _ _ _ _ e11, all_fin a12 _ _ _ _ e12⟩

end Cert.Proof

end
-- ==== Proof.Value.lean ====
/- The kernel's four results are the reference's. -/
module

public import proofs.«01_k».proof.Defs
public import proofs.«01_k».proof.Proof.KFin
public import proofs.«01_k».proof.Proof.RefValue
public import proofs.«01_k».proof.Proof.Loss
public import proofs.«01_k».proof.Proof.PreRead

@[expose] public section

set_option maxRecDepth 16384
set_option maxHeartbeats 2000000

noncomputable section

namespace Cert.Proof

open Idealize.ShloMosaic Idealize.ShloMosaic.TcCoe Idealize.SL.Sem Cert.Spec

namespace Ref

open Cert.ReferenceIdeal Cert.ReferenceIdeal.Gen Idealize.ShloMosaic.StableHlo

/-- The reference's network, from what its argument buffers hold. -/
theorem net_of {V : Valuation τ ReferenceIdeal.sig (Elt Ideal)} {a1 : A3 128 1 4} {a2 : A1 128} {a3 : A3 256 128 4} {a4 : A1 256} {a5 : A3 256 256 3} {a6 : A1 256} {a7 : A3 64 256 3} {a8 : A3 256 64 1}
  {a9 : A3 64 256 3} {a10 : A3 256 64 1} {a11 : A3 64 256 1} {a12 : A1 64} {a13 : A2 1024 64} {a14 : A3 256 64 3} {a15 : A1 256}
  {a16 : A3 64 256 3} {a17 : A3 256 64 1} {a18 : A3 64 256 3} {a19 : A3 256 64 1} {a20 : A3 256 128 4} {a21 : A1 128} {a22 : A3 128 1 4}
  {a23 : A1 1}
    (h1 : V (Proc.devRef .tc main_arg1) = a1) (h2 : V (Proc.devRef .tc main_arg2) = a2) (h3 : V (Proc.devRef .tc main_arg3) = a3)
    (h4 : V (Proc.devRef .tc main_arg4) = a4) (h5 : V (Proc.devRef .tc main_arg5) = a5) (h6 : V (Proc.devRef .tc main_arg6) = a6)
    (h7 : V (Proc.devRef .tc main_arg7) = a7) (h8 : V (Proc.devRef .tc main_arg8) = a8) (h9 : V (Proc.devRef .tc main_arg9) = a9)
    (h10 : V (Proc.devRef .tc main_arg10) = a10) (h11 : V (Proc.devRef .tc main_arg11) = a11) (h12 : V (Proc.devRef .tc main_arg12) = a12)
    (h13 : V (Proc.devRef .tc main_arg13) = a13) (h14 : V (Proc.devRef .tc main_arg14) = a14) (h15 : V (Proc.devRef .tc main_arg15) = a15)
    (h16 : V (Proc.devRef .tc main_arg16) = a16) (h17 : V (Proc.devRef .tc main_arg17) = a17) (h18 : V (Proc.devRef .tc main_arg18) = a18)
    (h19 : V (Proc.devRef .tc main_arg19) = a19) (h20 : V (Proc.devRef .tc main_arg20) = a20) (h21 : V (Proc.devRef .tc main_arg21) = a21)
    (h22 : V (Proc.devRef .tc main_arg22) = a22) (h23 : V (Proc.devRef .tc main_arg23) = a23) : net V = argNet a1 a2 a3 a4 a5 a6 a7 a8 a9 a10 a11 a12 a13 a14 a15 a16 a17 a18 a19 a20 a21 a22 a23 := by
  subst h1 h2 h3 h4 h5 h6 h7 h8 h9 h10 h11 h12 h13 h14 h15 h16 h17 h18 h19 h20 h21 h22 h23
  rfl

end Ref

/-- An array with one row per sample is known from its rows; an array of codes from its entries. -/
theorem ext_row {α : Type} {x y : (⟨3, ![32, 1, 4096]⟩ : Shape).Idx → α} (h : ∀ (b : Fin 32) (l : Fin 4096), x (ix3 b 0 l) = y (ix3 b 0 l)) : x = y := by
  funext j
  have e : j = ix3 (j 0) 0 (j 2) := (eq_ix3 j).trans (congrArg (fun t : Fin 1 => ix3 (j 0) t (j 2)) (Subsingleton.elim (α := Fin 1) (j 1) 0))
  rw [e]
  exact h _ _
theorem ext_code {α : Type} {x y : (⟨2, ![32, 1024]⟩ : Shape).Idx → α} (h : ∀ (b : Fin 32) (i : Fin 1024), x (ix2 b i) = y (ix2 b i)) : x = y := by
  funext j
  rw [eq_ix2 j]
  exact h _ _

/-- The four results, from the network and the samples. -/
def out0 (N : Net) (s : Fin 32 → Fin 4096 → EReal) : A3 32 1 4096 := fun j => join (N.recon (s (j 0))) (j 2)
def out1 (N : Net) (s : Fin 32 → Fin 4096 → EReal) : FVec Ideal ⟨0, ![]⟩ .f32 := fun _ => loss1 N s
def out2 (N : Net) (s : Fin 32 → Fin 4096 → EReal) : IVec ⟨2, ![32, 1024]⟩ 32 := fun j => BitVec.ofNat 32 (N.pick (s (j 0)) (j 1)).val
def out3 (N : Net) (s : Fin 32 → Fin 4096 → EReal) : FVec Ideal ⟨0, ![]⟩ .f32 := fun _ => perp N s

section kernel
open Cert.KernelIdeal Cert.KernelIdeal.Gen

variable (m : (ℓ : Loc nD τ KernelIdeal.sig) → Buf (Elt Ideal) ℓ) (ρ : Dev nD → PrngReg) (c : Dev nD)

/-- The kernel's network and samples are real where the precondition holds, as far as the encoder reads them. -/
theorem k_fin (h : Cert.Pre_KernelIdeal_encoder_finite m) : (kNet m c).EncFin ∧ ∀ b l, fin (kSig m c b l) := by
  obtain ⟨f0, f1, f2, f3, f4, f5, f6, f7, f8, f9, f10, f11, f12⟩ := pre_fin (h c)
  exact ⟨⟨fun _ _ => f1 _, fun _ => f2 _, fun _ _ _ => f3 _, fun _ => f4 _, fun _ _ _ => f5 _, fun _ => f6 _, fun _ _ _ => f7 _,
    fun _ _ => f8 _, fun _ _ _ => f9 _, fun _ _ => f10 _, fun _ _ => f11 _, fun _ => f12 _⟩, fun _ _ => f0 _⟩

theorem k_out0 : W4 m ρ c (Proc.devRef .tc main_v28) = out0 (kNet m c) (kSig m c) := ext_row fun b l => k_recon m ρ c b l
theorem k_out2 : W4 m ρ c (Proc.devRef .tc main_v30) = out2 (kNet m c) (kSig m c) := ext_code fun b i => k_idx m ρ c b i

/-- The kernel's run: the four results, the arguments as launched. -/
theorem k_run : θ_run (defs (F := Ideal)) (onTc (τ := τ) (main (F := Ideal))) ⟨m, fun _ => 0, ρ⟩ fun r => ∀ c : Dev nD,
    r.2.mem ((c.tc : Thread nD τ).loc main_v28) = out0 (kNet m c) (kSig m c)
    ∧ r.2.mem ((c.tc : Thread nD τ).loc main_v31) = out1 (kNet m c) (kSig m c)
    ∧ r.2.mem ((c.tc : Thread nD τ).loc main_v30) = out2 (kNet m c) (kSig m c)
    ∧ r.2.mem ((c.tc : Thread nD τ).loc main_v32) = out3 (kNet m c) (kSig m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17)
    ∧ r.2.mem ((c.tc : Thread nD τ).loc main_arg18) = m ((c.tc : Thread nD τ).loc main_arg18)
    ∧ r.2.mem ((c.tc : Thread nD τ).loc main_arg19) = m ((c.tc : Thread nD τ).loc main_arg19)
    ∧ r.2.mem ((c.tc : Thread nD τ).loc main_arg20) = m ((c.tc : Thread nD τ).loc main_arg20)
    ∧ r.2.mem ((c.tc : Thread nD τ).loc main_arg21) = m ((c.tc : Thread nD τ).loc main_arg21)
    ∧ r.2.mem ((c.tc : Thread nD τ).loc main_arg22) = m ((c.tc : Thread nD τ).loc main_arg22)
    ∧ r.2.mem ((c.tc : Thread nD τ).loc main_arg23) = m ((c.tc : Thread nD τ).loc main_arg23) := by
  refine (θ_run defs _ _).mono (fun r hr c => ?_) (Gen.run m ρ)
  have k {b : Ref KernelIdeal.sig .tc} {x} (hb : Proc.devRef .tc b ∈ Pipeline.ucRefs τ KernelIdeal.sig) (e : W4 m ρ c (Proc.devRef .tc b) = x) :
      r.2.mem ((c.tc : Thread nD τ).loc b) = x := (hr.1 c _ hb).trans e
  exact ⟨k (mem_uc main_v28 (by decide)) (k_out0 m ρ c), k (mem_uc main_v31 (by decide)) (k_loss m ρ c),
    k (mem_uc main_v30 (by decide)) (k_out2 m ρ c), k (mem_uc main_v32 (by decide)) (k_perp m ρ c),
    k (mem_uc main_arg0 (by decide)) (W4_main_arg0 m ρ c), k (mem_uc main_arg1 (by decide)) (W4_main_arg1 m ρ c),
    k (mem_uc main_arg2 (by decide)) (W4_main_arg2 m ρ c), k (mem_uc main_arg3 (by decide)) (W4_main_arg3 m ρ c),
    k (mem_uc main_arg4 (by decide)) (W4_main_arg4 m ρ c), k (mem_uc main_arg5 (by decide)) (W4_main_arg5 m ρ c),
    k (mem_uc main_arg6 (by decide)) (W4_main_arg6 m ρ c), k (mem_uc main_arg7 (by decide)) (W4_main_arg7 m ρ c),
    k (mem_uc main_arg8 (by decide)) (W4_main_arg8 m ρ c), k (mem_uc main_arg9 (by decide)) (W4_main_arg9 m ρ c),
    k (mem_uc main_arg10 (by decide)) (W4_main_arg10 m ρ c), k (mem_uc main_arg11 (by decide)) (W4_main_arg11 m ρ c),
    k (mem_uc main_arg12 (by decide)) (W4_main_arg12 m ρ c), k (mem_uc main_arg13 (by decide)) (W4_main_arg13 m ρ c),
    k (mem_uc main_arg14 (by decide)) (W4_main_arg14 m ρ c), k (mem_uc main_arg15 (by decide)) (W4_main_arg15 m ρ c),
    k (mem_uc main_arg16 (by decide)) (W4_main_arg16 m ρ c), k (mem_uc main_arg17 (by decide)) (W4_main_arg17 m ρ c),
    k (mem_uc main_arg18 (by decide)) (W4_main_arg18 m ρ c), k (mem_uc main_arg19 (by decide)) (W4_main_arg19 m ρ c),
    k (mem_uc main_arg20 (by decide)) (W4_main_arg20 m ρ c), k (mem_uc main_arg21 (by decide)) (W4_main_arg21 m ρ c),
    k (mem_uc main_arg22 (by decide)) (W4_main_arg22 m ρ c), k (mem_uc main_arg23 (by decide)) (W4_main_arg23 m ρ c)⟩
end kernel

section reference
open Cert.ReferenceIdeal Cert.ReferenceIdeal.Gen Idealize.ShloMosaic.StableHlo

variable {N : Net} {s : Fin 32 → Fin 4096 → EReal} {V : Valuation τ ReferenceIdeal.sig (Elt Ideal)} (hN : Ref.net V = N) (hs : Ref.sgn V = s)
include hN hs

/-- The reference's results, where its network and samples are these. -/
theorem r_out0 (hf : N.EncFin) (hf' : ∀ b l, fin (s b l)) : after Ref.ops V (Proc.devRef .tc main_v349) = out0 N s := by
  subst hN hs
  rw [Ref.after_all]
  exact ext_row fun b l => Ref.r_recon V (fun b d i => fin.z hf (hf' b) d i) b l
theorem r_out1 : after Ref.ops V (Proc.devRef .tc main_v195) = out1 N s := by
  subst hN hs
  rw [Ref.after_all]
  exact funext fun j => (Ref.r_loss V j).trans (loss1_eq _ _).symm
theorem r_out2 : after Ref.ops V (Proc.devRef .tc main_v350) = out2 N s := by
  subst hN hs
  rw [Ref.after_all]
  exact ext_code fun b i => Ref.r_idx V b i
theorem r_out3 : after Ref.ops V (Proc.devRef .tc main_v208) = out3 N s := by
  subst hN hs
  rw [Ref.after_all]
  exact funext fun j => Ref.r_perp V j
end reference

/-- The kernel computes the reference. -/
theorem algebraic : Cert.algebraic_KernelIdeal_ReferenceIdeal_pre_encoder_finite := by
  intro m g m' g' hp ha
  refine ⟨fun c => out0 (kNet m c) (kSig m c), fun c => out1 (kNet m c) (kSig m c), fun c => out2 (kNet m c) (kSig m c),
    fun c => out3 (kNet m c) (kSig m c), k_run m g, ?_⟩
  refine (θ_run (ReferenceIdeal.defs (F := Ideal)) _ _).mono (fun r h c => ?_) (Ref.run (F := Ideal) m' g')
  obtain ⟨h0, h1, h2, h3, h4, h5, h6, h7, h8, h9, h10, h11, h12, h13, h14, h15, h16, h17, h18, h19, h20, h21, h22, h23⟩ := ha c
  obtain ⟨hf, hf'⟩ := k_fin m c hp
  have hN : Ref.net (StableHlo.launchContents m' c) = kNet m c := Ref.net_of h1 h2 h3 h4 h5 h6 h7 h8 h9 h10 h11 h12 h13 h14 h15 h16 h17 h18 h19 h20 h21 h22 h23
  have hs : Ref.sgn (StableHlo.launchContents m' c) = kSig m c := by
    funext b l
    exact congrFun h0 (ix3 b 0 l)
  refine ⟨(h c _).trans (r_out0 hN hs hf hf'), (h c _).trans (r_out1 hN hs), (h c _).trans (r_out2 hN hs), (h c _).trans (r_out3 hN hs), ?_, ?_, ?_, ?_, ?_, ?_, ?_, ?_, ?_, ?_, ?_, ?_, ?_, ?_, ?_, ?_, ?_, ?_, ?_, ?_, ?_, ?_, ?_, ?_⟩
  all_goals exact Ref.run_keep (h c _) (by decide)

end Cert.Proof

end
-- ==== Proof.lean ====
module

public import proofs.«01_k».proof.Defs
public import proofs.«01_k».proof.Proof.KernelRun
public import proofs.«01_k».proof.Proof.KernelIdealRun
public import proofs.«01_k».proof.Proof.RefFrame
public import proofs.«01_k».proof.Proof.PreFacts
public import proofs.«01_k».proof.Proof.Value

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_encoder_finite.facts,
  fun m ρ _ => Cert.Kernel.Gen.frame m ρ, fun m ρ _ => Cert.KernelIdeal.Gen.frame m ρ, fun m ρ _ => Cert.KernelIdeal.Gen.frame m ρ,
  Ref.frame, fun m ρ _ => Ref.frame m ρ trivial, trivial, algebraic⟩

end Cert.Proof

end
